-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 256, 768]⟩ ⟨3, ![2, 4096, 768]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 256, 768]⟩ ⟨3, ![2, 4096, 768]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v80) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x256x768 : Shape := ⟨3, ![2, 256, 768]⟩
abbrev S768x256 : Shape := ⟨2, ![768, 256]⟩
abbrev S256x768 : Shape := ⟨2, ![256, 768]⟩
abbrev S_ : Shape := ⟨0, ![]⟩

class Facts : Prop where
  bcast_S_S2x256x768 : S_.BroadcastsInDim S2x256x768 (![] : Fin 0 → Fin S2x256x768.rank)
  bcast_S_S768x256 : S_.BroadcastsInDim S768x256 (![] : Fin 0 → Fin S768x256.rank)

variable [Facts]

def fn {F : FTy → Type} [FloatOps F] (main_arg0 : FVec F S2x256x768 .f32) (main_arg1 : FVec F S768x256 .f32) (main_arg2 : FVec F S768x256 .f32) (main_arg3 : FVec F S768x256 .f32) (main_arg4 : FVec F S256x768 .f32) : IVec S2x256x768 1 × IVec S768x256 1 × IVec S768x256 1 :=
  let main_v0 : FVec F S2x256x768 .f32 := Host.absf main_arg0
  let main_cst : FVec F S_ .f32 := constant S_ .f32 0x7F800000#32
  let main_v1 : FVec F S2x256x768 .f32 := broadcastInDim S2x256x768 ![] bcast_S_S2x256x768 main_cst
  let main_v2 : IVec S2x256x768 1 := cmpf .olt main_v0 main_v1
  let main_v3 : FVec F S768x256 .f32 := Host.absf main_arg1
  let main_cst_0 : FVec F S_ .f32 := constant S_ .f32 0x7F800000#32
  let main_v4 : FVec F S768x256 .f32 := broadcastInDim S768x256 ![] bcast_S_S768x256 main_cst_0
  let main_v5 : IVec S768x256 1 := cmpf .olt main_v3 main_v4
  let main_v6 : FVec F S768x256 .f32 := Host.absf main_arg2
  let main_cst_1 : FVec F S_ .f32 := constant S_ .f32 0x7F800000#32
  let main_v7 : FVec F S768x256 .f32 := broadcastInDim S768x256 ![] bcast_S_S768x256 main_cst_1
  let main_v8 : IVec S768x256 1 := cmpf .olt main_v6 main_v7
  (main_v2, main_v5, main_v8)
-- ==== Pre_finite_scores_ReferenceIdeal.lean ====
abbrev S2x4096x768 : Shape := ⟨3, ![2, 4096, 768]⟩
abbrev S768x256 : Shape := ⟨2, ![768, 256]⟩
abbrev S256x768 : Shape := ⟨2, ![256, 768]⟩
abbrev S_ : Shape := ⟨0, ![]⟩

class Facts : Prop where
  bcast_S_S2x4096x768 : S_.BroadcastsInDim S2x4096x768 (![] : Fin 0 → Fin S2x4096x768.rank)
  bcast_S_S768x256 : S_.BroadcastsInDim S768x256 (![] : Fin 0 → Fin S768x256.rank)

variable [Facts]

def fn {F : FTy → Type} [FloatOps F] (main_arg0 : FVec F S2x4096x768 .f32) (main_arg1 : FVec F S768x256 .f32) (main_arg2 : FVec F S768x256 .f32) (main_arg3 : FVec F S768x256 .f32) (main_arg4 : FVec F S256x768 .f32) : IVec S2x4096x768 1 × IVec S768x256 1 × IVec S768x256 1 :=
  let main_v0 : FVec F S2x4096x768 .f32 := Host.absf main_arg0
  let main_cst : FVec F S_ .f32 := constant S_ .f32 0x7F800000#32
  let main_v1 : FVec F S2x4096x768 .f32 := broadcastInDim S2x4096x768 ![] bcast_S_S2x4096x768 main_cst
  let main_v2 : IVec S2x4096x768 1 := cmpf .olt main_v0 main_v1
  let main_v3 : FVec F S768x256 .f32 := Host.absf main_arg1
  let main_cst_0 : FVec F S_ .f32 := constant S_ .f32 0x7F800000#32
  let main_v4 : FVec F S768x256 .f32 := broadcastInDim S768x256 ![] bcast_S_S768x256 main_cst_0
  let main_v5 : IVec S768x256 1 := cmpf .olt main_v3 main_v4
  let main_v6 : FVec F S768x256 .f32 := Host.absf main_arg2
  let main_cst_1 : FVec F S_ .f32 := constant S_ .f32 0x7F800000#32
  let main_v7 : FVec F S768x256 .f32 := broadcastInDim S768x256 ![] bcast_S_S768x256 main_cst_1
  let main_v8 : IVec S768x256 1 := cmpf .olt main_v6 main_v7
  (main_v2, main_v5, main_v8)
-- ==== Kernel.lean ====
abbrev S2x256x768 : Shape := ⟨3, ![2, 256, 768]⟩
abbrev S768x256 : Shape := ⟨2, ![768, 256]⟩
abbrev S256x768 : Shape := ⟨2, ![256, 768]⟩
abbrev S16x2x256x512 : Shape := ⟨4, ![16, 2, 256, 512]⟩
abbrev S2 : Shape := ⟨1, ![2]⟩
abbrev S9 : Shape := ⟨1, ![9]⟩
abbrev S8 : Shape := ⟨1, ![8]⟩
abbrev S_ : Shape := ⟨0, ![]⟩
abbrev S256x256 : Shape := ⟨2, ![256, 256]⟩
abbrev S1x256x768 : Shape := ⟨3, ![1, 256, 768]⟩
abbrev S1x1x256x256 : Shape := ⟨4, ![1, 1, 256, 256]⟩
abbrev S1 : Shape := ⟨1, ![1]⟩
abbrev S1x1x256x512 : Shape := ⟨4, ![1, 1, 256, 512]⟩
abbrev S256x512 : Shape := ⟨2, ![256, 512]⟩
abbrev S256x64 : Shape := ⟨2, ![256, 64]⟩
abbrev S1x1x256x64 : Shape := ⟨4, ![1, 1, 256, 64]⟩
abbrev S256 : Shape := ⟨1, ![256]⟩
abbrev S256x1 : Shape := ⟨2, ![256, 1]⟩
abbrev S1x2x256x512 : Shape := ⟨4, ![1, 2, 256, 512]⟩
abbrev S2x256x512 : Shape := ⟨3, ![2, 256, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x256x768, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S2x256x768, .f32⟩
  | .local _ .vmem, ⟨0, _⟩ => ⟨S2x256x768, .f32⟩
  | .local _ .vmem, ⟨1, _⟩ => ⟨S768x256, .f32⟩
  | .local _ .vmem, ⟨2, _⟩ => ⟨S768x256, .f32⟩
  | .local _ .vmem, ⟨3, _⟩ => ⟨S768x256, .f32⟩
  | .local _ .vmem, ⟨4, _⟩ => ⟨S256x768, .f32⟩
  | .local _ .vmem, ⟨5, _⟩ => ⟨S2x256x768, .f32⟩
  | .local _ .vmem, ⟨6, _⟩ => ⟨S16x2x256x512, .bf16⟩
  | _, _ => ⟨S2x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v67 : BitVec 1 := Scalar.cmpi .eq v2 c15_i32_49
  let c14_i32_50 : BitVec 32 := 14#32
  let c14_i32_45 : BitVec 32 := 14#32
  let v63 : BitVec 1 := Scalar.cmpi .eq v2 c14_i32_45
  let c10_i32_46 : BitVec 32 := 10#32
  let c13_i32_41 : BitVec 32 := 13#32
  let v59 : BitVec 1 := Scalar.cmpi .eq v2 c13_i32_41
  let c12_i32_42 : BitVec 32 := 12#32
  let c12_i32_37 : BitVec 32 := 12#32
  let v55 : BitVec 1 := Scalar.cmpi .eq v2 c12_i32_37
  let c8_i32_38 : BitVec 32 := 8#32
  let c11_i32_34 : BitVec 32 := 11#32
  let v51 : BitVec 1 := Scalar.cmpi .eq v2 c11_i32_34
  let c15_i32 : BitVec 32 := 15#32
  let c10_i32_30 : BitVec 32 := 10#32
  let v47 : BitVec 1 := Scalar.cmpi .eq v2 c10_i32_30
  let c6_i32_31 : BitVec 32 := 6#32
  let c9_i32_28 : BitVec 32 := 9#32
  let v43 : BitVec 1 := Scalar.cmpi .eq v2 c9_i32_28
  let c13_i32 : BitVec 32 := 13#32
  let c8_i32_24 : BitVec 32 := 8#32
  let v39 : BitVec 1 := Scalar.cmpi .eq v2 c8_i32_24
  let c4_i32_25 : BitVec 32 := 4#32
  let c7_i32_22 : BitVec 32 := 7#32
  let v35 : BitVec 1 := Scalar.cmpi .eq v2 c7_i32_22
  let c11_i32 : BitVec 32 := 11#32
  let c6_i32_18 : BitVec 32 := 6#32
  let v31 : BitVec 1 := Scalar.cmpi .eq v2 c6_i32_18
  let c2_i32_19 : BitVec 32 := 2#32
  let c5_i32_16 : BitVec 32 := 5#32
  let v27 : BitVec 1 := Scalar.cmpi .eq v2 c5_i32_16
  let c9_i32 : BitVec 32 := 9#32
  let c4_i32_12 : BitVec 32 := 4#32
  let v23 : BitVec 1 := Scalar.cmpi .eq v2 c4_i32_12
  let c0_i32_13 : BitVec 32 := 0#32
  let c3_i32_10 : BitVec 32 := 3#32
  let v19 : BitVec 1 := Scalar.cmpi .eq v2 c3_i32_10
  let c7_i32 : BitVec 32 := 7#32
  let c2_i32_6 : BitVec 32 := 2#32
  let v15 : BitVec 1 := Scalar.cmpi .eq v2 c2_i32_6
  let c1_i32_7 : BitVec 32 := 1#32
  let c1_i32_4 : BitVec 32 := 1#32
  let v11 : BitVec 1 := Scalar.cmpi .eq v2 c1_i32_4
  let c5_i32 : BitVec 32 := 5#32
  let c0_i32_2 : BitVec 32 := 0#32
  let v7 : BitVec 1 := Scalar.cmpi .eq v2 c0_i32_2
  let c3_i32 : BitVec 32 := 3#32
  let c0_i32_0 : BitVec 32 := 0#32
  let v4 : BitVec 32 := Scalar.muli v2 c0_i32_0
  let v8 : BitVec 32 := Scalar.select v7 c3_i32 v4
  let v12 : BitVec 32 := Scalar.select v11 c5_i32 v8
  let v16 : BitVec 32 := Scalar.select v15 c1_i32_7 v12
  let v20 : BitVec 32 := Scalar.select v19 c7_i32 v16
  let v24 : BitVec 32 := Scalar.select v23 c0_i32_13 v20
  let v28 : BitVec 32 := Scalar.select v27 c9_i32 v24
  let v32 : BitVec 32 := Scalar.select v31 c2_i32_19 v28
  let v36 : BitVec 32 := Scalar.select v35 c11_i32 v32
  let v40 : BitVec 32 := Scalar.select v39 c4_i32_25 v36
  let v44 : BitVec 32 := Scalar.select v43 c13_i32 v40
  let v48 : BitVec 32 := Scalar.select v47 c6_i32_31 v44
  let v52 : BitVec 32 := Scalar.select v51 c15_i32 v48
  let v56 : BitVec 32 := Scalar.select v55 c8_i32_38 v52
  let v60 : BitVec 32 := Scalar.select v59 c12_i32_42 v56
  let v64 : BitVec 32 := Scalar.select v63 c10_i32_46 v60
  let v68 : BitVec 32 := Scalar.select v67 c14_i32_50 v64
  let c1_i32_52 : BitVec 32 := 1#32
  let v70 : BitVec 32 := Scalar.muli v68 c1_i32_52
  let v71 : BitVec 32 := Scalar.addi c0_i32_53 v70
  v71.toNat
def k0_dev2 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v65 : BitVec 1 := Scalar.cmpi .eq v2 c15_i32_47
  let c11_i32_48 : BitVec 32 := 11#32
  let c14_i32_43 : BitVec 32 := 14#32
  let v61 : BitVec 1 := Scalar.cmpi .eq v2 c14_i32_43
  let c15_i32_44 : BitVec 32 := 15#32
  let c13_i32_39 : BitVec 32 := 13#32
  let v57 : BitVec 1 := Scalar.cmpi .eq v2 c13_i32_39
  let c9_i32_40 : BitVec 32 := 9#32
  let c12_i32_35 : BitVec 32 := 12#32
  let v53 : BitVec 1 := Scalar.cmpi .eq v2 c12_i32_35
  let c13_i32_36 : BitVec 32 := 13#32
  let c11_i32_32 : BitVec 32 := 11#32
  let v49 : BitVec 1 := Scalar.cmpi .eq v2 c11_i32_32
  let c7_i32_33 : BitVec 32 := 7#32
  let c10_i32_29 : BitVec 32 := 10#32
  let v45 : BitVec 1 := Scalar.cmpi .eq v2 c10_i32_29
  let c14_i32 : BitVec 32 := 14#32
  let c9_i32_26 : BitVec 32 := 9#32
  let v41 : BitVec 1 := Scalar.cmpi .eq v2 c9_i32_26
  let c5_i32_27 : BitVec 32 := 5#32
  let c8_i32_23 : BitVec 32 := 8#32
  let v37 : BitVec 1 := Scalar.cmpi .eq v2 c8_i32_23
  let c12_i32 : BitVec 32 := 12#32
  let c7_i32_20 : BitVec 32 := 7#32
  let v33 : BitVec 1 := Scalar.cmpi .eq v2 c7_i32_20
  let c3_i32_21 : BitVec 32 := 3#32
  let c6_i32_17 : BitVec 32 := 6#32
  let v29 : BitVec 1 := Scalar.cmpi .eq v2 c6_i32_17
  let c10_i32 : BitVec 32 := 10#32
  let c5_i32_14 : BitVec 32 := 5#32
  let v25 : BitVec 1 := Scalar.cmpi .eq v2 c5_i32_14
  let c1_i32_15 : BitVec 32 := 1#32
  let c4_i32_11 : BitVec 32 := 4#32
  let v21 : BitVec 1 := Scalar.cmpi .eq v2 c4_i32_11
  let c8_i32 : BitVec 32 := 8#32
  let c3_i32_8 : BitVec 32 := 3#32
  let v17 : BitVec 1 := Scalar.cmpi .eq v2 c3_i32_8
  let c0_i32_9 : BitVec 32 := 0#32
  let c2_i32_5 : BitVec 32 := 2#32
  let v13 : BitVec 1 := Scalar.cmpi .eq v2 c2_i32_5
  let c6_i32 : BitVec 32 := 6#32
  let c1_i32_3 : BitVec 32 := 1#32
  let v9 : BitVec 1 := Scalar.cmpi .eq v2 c1_i32_3
  let c2_i32 : BitVec 32 := 2#32
  let c0_i32_1 : BitVec 32 := 0#32
  let v5 : BitVec 1 := Scalar.cmpi .eq v2 c0_i32_1
  let c4_i32 : BitVec 32 := 4#32
  let c0_i32 : BitVec 32 := 0#32
  let v3 : BitVec 32 := Scalar.muli v2 c0_i32
  let v6 : BitVec 32 := Scalar.select v5 c4_i32 v3
  let v10 : BitVec 32 := Scalar.select v9 c2_i32 v6
  let v14 : BitVec 32 := Scalar.select v13 c6_i32 v10
  let v18 : BitVec 32 := Scalar.select v17 c0_i32_9 v14
  let v22 : BitVec 32 := Scalar.select v21 c8_i32 v18
  let v26 : BitVec 32 := Scalar.select v25 c1_i32_15 v22
  let v30 : BitVec 32 := Scalar.select v29 c10_i32 v26
  let v34 : BitVec 32 := Scalar.select v33 c3_i32_21 v30
  let v38 : BitVec 32 := Scalar.select v37 c12_i32 v34
  let v42 : BitVec 32 := Scalar.select v41 c5_i32_27 v38
  let v46 : BitVec 32 := Scalar.select v45 c14_i32 v42
  let v50 : BitVec 32 := Scalar.select v49 c7_i32_33 v46
  let v54 : BitVec 32 := Scalar.select v53 c13_i32_36 v50
  let v58 : BitVec 32 := Scalar.select v57 c9_i32_40 v54
  let v62 : BitVec 32 := Scalar.select v61 c15_i32_44 v58
  let v66 : BitVec 32 := Scalar.select v65 c11_i32_48 v62
  let c1_i32_55 : BitVec 32 := 1#32
  let v72 : BitVec 32 := Scalar.muli v66 c1_i32_55
  let v73 : BitVec 32 := Scalar.addi c0_i32_56 v72
  v73.toNat
def k0_dev3 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v65 : BitVec 1 := Scalar.cmpi .eq v2 c15_i32_47
  let c11_i32_48 : BitVec 32 := 11#32
  let c14_i32_43 : BitVec 32 := 14#32
  let v61 : BitVec 1 := Scalar.cmpi .eq v2 c14_i32_43
  let c15_i32_44 : BitVec 32 := 15#32
  let c13_i32_39 : BitVec 32 := 13#32
  let v57 : BitVec 1 := Scalar.cmpi .eq v2 c13_i32_39
  let c9_i32_40 : BitVec 32 := 9#32
  let c12_i32_35 : BitVec 32 := 12#32
  let v53 : BitVec 1 := Scalar.cmpi .eq v2 c12_i32_35
  let c13_i32_36 : BitVec 32 := 13#32
  let c11_i32_32 : BitVec 32 := 11#32
  let v49 : BitVec 1 := Scalar.cmpi .eq v2 c11_i32_32
  let c7_i32_33 : BitVec 32 := 7#32
  let c10_i32_29 : BitVec 32 := 10#32
  let v45 : BitVec 1 := Scalar.cmpi .eq v2 c10_i32_29
  let c14_i32 : BitVec 32 := 14#32
  let c9_i32_26 : BitVec 32 := 9#32
  let v41 : BitVec 1 := Scalar.cmpi .eq v2 c9_i32_26
  let c5_i32_27 : BitVec 32 := 5#32
  let c8_i32_23 : BitVec 32 := 8#32
  let v37 : BitVec 1 := Scalar.cmpi .eq v2 c8_i32_23
  let c12_i32 : BitVec 32 := 12#32
  let c7_i32_20 : BitVec 32 := 7#32
  let v33 : BitVec 1 := Scalar.cmpi .eq v2 c7_i32_20
  let c3_i32_21 : BitVec 32 := 3#32
  let c6_i32_17 : BitVec 32 := 6#32
  let v29 : BitVec 1 := Scalar.cmpi .eq v2 c6_i32_17
  let c10_i32 : BitVec 32 := 10#32
  let c5_i32_14 : BitVec 32 := 5#32
  let v25 : BitVec 1 := Scalar.cmpi .eq v2 c5_i32_14
  let c1_i32_15 : BitVec 32 := 1#32
  let c4_i32_11 : BitVec 32 := 4#32
  let v21 : BitVec 1 := Scalar.cmpi .eq v2 c4_i32_11
  let c8_i32 : BitVec 32 := 8#32
  let c3_i32_8 : BitVec 32 := 3#32
  let v17 : BitVec 1 := Scalar.cmpi .eq v2 c3_i32_8
  let c0_i32_9 : BitVec 32 := 0#32
  let c2_i32_5 : BitVec 32 := 2#32
  let v13 : BitVec 1 := Scalar.cmpi .eq v2 c2_i32_5
  let c6_i32 : BitVec 32 := 6#32
  let c1_i32_3 : BitVec 32 := 1#32
  let v9 : BitVec 1 := Scalar.cmpi .eq v2 c1_i32_3
  let c2_i32 : BitVec 32 := 2#32
  let c0_i32_1 : BitVec 32 := 0#32
  let v5 : BitVec 1 := Scalar.cmpi .eq v2 c0_i32_1
  let c4_i32 : BitVec 32 := 4#32
  let c0_i32 : BitVec 32 := 0#32
  let v3 : BitVec 32 := Scalar.muli v2 c0_i32
  let v6 : BitVec 32 := Scalar.select v5 c4_i32 v3
  let v10 : BitVec 32 := Scalar.select v9 c2_i32 v6
  let v14 : BitVec 32 := Scalar.select v13 c6_i32 v10
  let v18 : BitVec 32 := Scalar.select v17 c0_i32_9 v14
  let v22 : BitVec 32 := Scalar.select v21 c8_i32 v18
  let v26 : BitVec 32 := Scalar.select v25 c1_i32_15 v22
  let v30 : BitVec 32 := Scalar.select v29 c10_i32 v26
  let v34 : BitVec 32 := Scalar.select v33 c3_i32_21 v30
  let v38 : BitVec 32 := Scalar.select v37 c12_i32 v34
  let v42 : BitVec 32 := Scalar.select v41 c5_i32_27 v38
  let v46 : BitVec 32 := Scalar.select v45 c14_i32 v42
  let v50 : BitVec 32 := Scalar.select v49 c7_i32_33 v46
  let v54 : BitVec 32 := Scalar.select v53 c13_i32_36 v50
  let v58 : BitVec 32 := Scalar.select v57 c9_i32_40 v54
  let v62 : BitVec 32 := Scalar.select v61 c15_i32_44 v58
  let v66 : BitVec 32 := Scalar.select v65 c11_i32_48 v62
  let c1_i32_98 : BitVec 32 := 1#32
  let v157 : BitVec 32 := Scalar.muli v66 c1_i32_98
  let v158 : BitVec 32 := Scalar.addi c0_i32_99 v157
  v158.toNat
def k0_dev4 (d0 : Dev nD) : Nat :=
  let c0_i32_111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v67 : BitVec 1 := Scalar.cmpi .eq v2 c15_i32_49
  let c14_i32_50 : BitVec 32 := 14#32
  let c14_i32_45 : BitVec 32 := 14#32
  let v63 : BitVec 1 := Scalar.cmpi .eq v2 c14_i32_45
  let c10_i32_46 : BitVec 32 := 10#32
  let c13_i32_41 : BitVec 32 := 13#32
  let v59 : BitVec 1 := Scalar.cmpi .eq v2 c13_i32_41
  let c12_i32_42 : BitVec 32 := 12#32
  let c12_i32_37 : BitVec 32 := 12#32
  let v55 : BitVec 1 := Scalar.cmpi .eq v2 c12_i32_37
  let c8_i32_38 : BitVec 32 := 8#32
  let c11_i32_34 : BitVec 32 := 11#32
  let v51 : BitVec 1 := Scalar.cmpi .eq v2 c11_i32_34
  let c15_i32 : BitVec 32 := 15#32
  let c10_i32_30 : BitVec 32 := 10#32
  let v47 : BitVec 1 := Scalar.cmpi .eq v2 c10_i32_30
  let c6_i32_31 : BitVec 32 := 6#32
  let c9_i32_28 : BitVec 32 := 9#32
  let v43 : BitVec 1 := Scalar.cmpi .eq v2 c9_i32_28
  let c13_i32 : BitVec 32 := 13#32
  let c8_i32_24 : BitVec 32 := 8#32
  let v39 : BitVec 1 := Scalar.cmpi .eq v2 c8_i32_24
  let c4_i32_25 : BitVec 32 := 4#32
  let c7_i32_22 : BitVec 32 := 7#32
  let v35 : BitVec 1 := Scalar.cmpi .eq v2 c7_i32_22
  let c11_i32 : BitVec 32 := 11#32
  let c6_i32_18 : BitVec 32 := 6#32
  let v31 : BitVec 1 := Scalar.cmpi .eq v2 c6_i32_18
  let c2_i32_19 : BitVec 32 := 2#32
  let c5_i32_16 : BitVec 32 := 5#32
  let v27 : BitVec 1 := Scalar.cmpi .eq v2 c5_i32_16
  let c9_i32 : BitVec 32 := 9#32
  let c4_i32_12 : BitVec 32 := 4#32
  let v23 : BitVec 1 := Scalar.cmpi .eq v2 c4_i32_12
  let c0_i32_13 : BitVec 32 := 0#32
  let c3_i32_10 : BitVec 32 := 3#32
  let v19 : BitVec 1 := Scalar.cmpi .eq v2 c3_i32_10
  let c7_i32 : BitVec 32 := 7#32
  let c2_i32_6 : BitVec 32 := 2#32
  let v15 : BitVec 1 := Scalar.cmpi .eq v2 c2_i32_6
  let c1_i32_7 : BitVec 32 := 1#32
  let c1_i32_4 : BitVec 32 := 1#32
  let v11 : BitVec 1 := Scalar.cmpi .eq v2 c1_i32_4
  let c5_i32 : BitVec 32 := 5#32
  let c0_i32_2 : BitVec 32 := 0#32
  let v7 : BitVec 1 := Scalar.cmpi .eq v2 c0_i32_2
  let c3_i32 : BitVec 32 := 3#32
  let c0_i32_0 : BitVec 32 := 0#32
  let v4 : BitVec 32 := Scalar.muli v2 c0_i32_0
  let v8 : BitVec 32 := Scalar.select v7 c3_i32 v4
  let v12 : BitVec 32 := Scalar.select v11 c5_i32 v8
  let v16 : BitVec 32 := Scalar.select v15 c1_i32_7 v12
  let v20 : BitVec 32 := Scalar.select v19 c7_i32 v16
  let v24 : BitVec 32 := Scalar.select v23 c0_i32_13 v20
  let v28 : BitVec 32 := Scalar.select v27 c9_i32 v24
  let v32 : BitVec 32 := Scalar.select v31 c2_i32_19 v28
  let v36 : BitVec 32 := Scalar.select v35 c11_i32 v32
  let v40 : BitVec 32 := Scalar.select v39 c4_i32_25 v36
  let v44 : BitVec 32 := Scalar.select v43 c13_i32 v40
  let v48 : BitVec 32 := Scalar.select v47 c6_i32_31 v44
  let v52 : BitVec 32 := Scalar.select v51 c15_i32 v48
  let v56 : BitVec 32 := Scalar.select v55 c8_i32_38 v52
  let v60 : BitVec 32 := Scalar.select v59 c12_i32_42 v56
  let v64 : BitVec 32 := Scalar.select v63 c10_i32_46 v60
  let v68 : BitVec 32 := Scalar.select v67 c14_i32_50 v64
  let c1_i32_110 : BitVec 32 := 1#32
  let v167 : BitVec 32 := Scalar.muli v68 c1_i32_110
  let v168 : BitVec 32 := Scalar.addi c0_i32_111 v167
  v168.toNat
def k0_dev5 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v65 : BitVec 1 := Scalar.cmpi .eq v2 c15_i32_47
  let c11_i32_48 : BitVec 32 := 11#32
  let c14_i32_43 : BitVec 32 := 14#32
  let v61 : BitVec 1 := Scalar.cmpi .eq v2 c14_i32_43
  let c15_i32_44 : BitVec 32 := 15#32
  let c13_i32_39 : BitVec 32 := 13#32
  let v57 : BitVec 1 := Scalar.cmpi .eq v2 c13_i32_39
  let c9_i32_40 : BitVec 32 := 9#32
  let c12_i32_35 : BitVec 32 := 12#32
  let v53 : BitVec 1 := Scalar.cmpi .eq v2 c12_i32_35
  let c13_i32_36 : BitVec 32 := 13#32
  let c11_i32_32 : BitVec 32 := 11#32
  let v49 : BitVec 1 := Scalar.cmpi .eq v2 c11_i32_32
  let c7_i32_33 : BitVec 32 := 7#32
  let c10_i32_29 : BitVec 32 := 10#32
  let v45 : BitVec 1 := Scalar.cmpi .eq v2 c10_i32_29
  let c14_i32 : BitVec 32 := 14#32
  let c9_i32_26 : BitVec 32 := 9#32
  let v41 : BitVec 1 := Scalar.cmpi .eq v2 c9_i32_26
  let c5_i32_27 : BitVec 32 := 5#32
  let c8_i32_23 : BitVec 32 := 8#32
  let v37 : BitVec 1 := Scalar.cmpi .eq v2 c8_i32_23
  let c12_i32 : BitVec 32 := 12#32
  let c7_i32_20 : BitVec 32 := 7#32
  let v33 : BitVec 1 := Scalar.cmpi .eq v2 c7_i32_20
  let c3_i32_21 : BitVec 32 := 3#32
  let c6_i32_17 : BitVec 32 := 6#32
  let v29 : BitVec 1 := Scalar.cmpi .eq v2 c6_i32_17
  let c10_i32 : BitVec 32 := 10#32
  let c5_i32_14 : BitVec 32 := 5#32
  let v25 : BitVec 1 := Scalar.cmpi .eq v2 c5_i32_14
  let c1_i32_15 : BitVec 32 := 1#32
  let c4_i32_11 : BitVec 32 := 4#32
  let v21 : BitVec 1 := Scalar.cmpi .eq v2 c4_i32_11
  let c8_i32 : BitVec 32 := 8#32
  let c3_i32_8 : BitVec 32 := 3#32
  let v17 : BitVec 1 := Scalar.cmpi .eq v2 c3_i32_8
  let c0_i32_9 : BitVec 32 := 0#32
  let c2_i32_5 : BitVec 32 := 2#32
  let v13 : BitVec 1 := Scalar.cmpi .eq v2 c2_i32_5
  let c6_i32 : BitVec 32 := 6#32
  let c1_i32_3 : BitVec 32 := 1#32
  let v9 : BitVec 1 := Scalar.cmpi .eq v2 c1_i32_3
  let c2_i32 : BitVec 32 := 2#32
  let c0_i32_1 : BitVec 32 := 0#32
  let v5 : BitVec 1 := Scalar.cmpi .eq v2 c0_i32_1
  let c4_i32 : BitVec 32 := 4#32
  let c0_i32 : BitVec 32 := 0#32
  let v3 : BitVec 32 := Scalar.muli v2 c0_i32
  let v6 : BitVec 32 := Scalar.select v5 c4_i32 v3
  let v10 : BitVec 32 := Scalar.select v9 c2_i32 v6
  let v14 : BitVec 32 := Scalar.select v13 c6_i32 v10
  let v18 : BitVec 32 := Scalar.select v17 c0_i32_9 v14
  let v22 : BitVec 32 := Scalar.select v21 c8_i32 v18
  let v26 : BitVec 32 := Scalar.select v25 c1_i32_15 v22
  let v30 : BitVec 32 := Scalar.select v29 c10_i32 v26
  let v34 : BitVec 32 := Scalar.select v33 c3_i32_21 v30
  let v38 : BitVec 32 := Scalar.select v37 c12_i32 v34
  let v42 : BitVec 32 := Scalar.select v41 c5_i32_27 v38
  let v46 : BitVec 32 := Scalar.select v45 c14_i32 v42
  let v50 : BitVec 32 := Scalar.select v49 c7_i32_33 v46
  let v54 : BitVec 32 := Scalar.select v53 c13_i32_36 v50
  let v58 : BitVec 32 := Scalar.select v57 c9_i32_40 v54
  let v62 : BitVec 32 := Scalar.select v61 c15_i32_44 v58
  let v66 : BitVec 32 := Scalar.select v65 c11_i32_48 v62
  let c1_i32_139 : BitVec 32 := 1#32
  let v197 : BitVec 32 := Scalar.muli v66 c1_i32_139
  let v198 : BitVec 32 := Scalar.addi c0_i32_140 v197
  v198.toNat
def k0_dev6 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v67 : BitVec 1 := Scalar.cmpi .eq v2 c15_i32_49
  let c14_i32_50 : BitVec 32 := 14#32
  let c14_i32_45 : BitVec 32 := 14#32
  let v63 : BitVec 1 := Scalar.cmpi .eq v2 c14_i32_45
  let c10_i32_46 : BitVec 32 := 10#32
  let c13_i32_41 : BitVec 32 := 13#32
  let v59 : BitVec 1 := Scalar.cmpi .eq v2 c13_i32_41
  let c12_i32_42 : BitVec 32 := 12#32
  let c12_i32_37 : BitVec 32 := 12#32
  let v55 : BitVec 1 := Scalar.cmpi .eq v2 c12_i32_37
  let c8_i32_38 : BitVec 32 := 8#32
  let c11_i32_34 : BitVec 32 := 11#32
  let v51 : BitVec 1 := Scalar.cmpi .eq v2 c11_i32_34
  let c15_i32 : BitVec 32 := 15#32
  let c10_i32_30 : BitVec 32 := 10#32
  let v47 : BitVec 1 := Scalar.cmpi .eq v2 c10_i32_30
  let c6_i32_31 : BitVec 32 := 6#32
  let c9_i32_28 : BitVec 32 := 9#32
  let v43 : BitVec 1 := Scalar.cmpi .eq v2 c9_i32_28
  let c13_i32 : BitVec 32 := 13#32
  let c8_i32_24 : BitVec 32 := 8#32
  let v39 : BitVec 1 := Scalar.cmpi .eq v2 c8_i32_24
  let c4_i32_25 : BitVec 32 := 4#32
  let c7_i32_22 : BitVec 32 := 7#32
  let v35 : BitVec 1 := Scalar.cmpi .eq v2 c7_i32_22
  let c11_i32 : BitVec 32 := 11#32
  let c6_i32_18 : BitVec 32 := 6#32
  let v31 : BitVec 1 := Scalar.cmpi .eq v2 c6_i32_18
  let c2_i32_19 : BitVec 32 := 2#32
  let c5_i32_16 : BitVec 32 := 5#32
  let v27 : BitVec 1 := Scalar.cmpi .eq v2 c5_i32_16
  let c9_i32 : BitVec 32 := 9#32
  let c4_i32_12 : BitVec 32 := 4#32
  let v23 : BitVec 1 := Scalar.cmpi .eq v2 c4_i32_12
  let c0_i32_13 : BitVec 32 := 0#32
  let c3_i32_10 : BitVec 32 := 3#32
  let v19 : BitVec 1 := Scalar.cmpi .eq v2 c3_i32_10
  let c7_i32 : BitVec 32 := 7#32
  let c2_i32_6 : BitVec 32 := 2#32
  let v15 : BitVec 1 := Scalar.cmpi .eq v2 c2_i32_6
  let c1_i32_7 : BitVec 32 := 1#32
  let c1_i32_4 : BitVec 32 := 1#32
  let v11 : BitVec 1 := Scalar.cmpi .eq v2 c1_i32_4
  let c5_i32 : BitVec 32 := 5#32
  let c0_i32_2 : BitVec 32 := 0#32
  let v7 : BitVec 1 := Scalar.cmpi .eq v2 c0_i32_2
  let c3_i32 : BitVec 32 := 3#32
  let c0_i32_0 : BitVec 32 := 0#32
  let v4 : BitVec 32 := Scalar.muli v2 c0_i32_0
  let v8 : BitVec 32 := Scalar.select v7 c3_i32 v4
  let v12 : BitVec 32 := Scalar.select v11 c5_i32 v8
  let v16 : BitVec 32 := Scalar.select v15 c1_i32_7 v12
  let v20 : BitVec 32 := Scalar.select v19 c7_i32 v16
  let v24 : BitVec 32 := Scalar.select v23 c0_i32_13 v20
  let v28 : BitVec 32 := Scalar.select v27 c9_i32 v24
  let v32 : BitVec 32 := Scalar.select v31 c2_i32_19 v28
  let v36 : BitVec 32 := Scalar.select v35 c11_i32 v32
  let v40 : BitVec 32 := Scalar.select v39 c4_i32_25 v36
  let v44 : BitVec 32 := Scalar.select v43 c13_i32 v40
  let v48 : BitVec 32 := Scalar.select v47 c6_i32_31 v44
  let v52 : BitVec 32 := Scalar.select v51 c15_i32 v48
  let v56 : BitVec 32 := Scalar.select v55 c8_i32_38 v52
  let v60 : BitVec 32 := Scalar.select v59 c12_i32_42 v56
  let v64 : BitVec 32 := Scalar.select v63 c10_i32_46 v60
  let v68 : BitVec 32 := Scalar.select v67 c14_i32_50 v64
  let c1_i32_151 : BitVec 32 := 1#32
  let v207 : BitVec 32 := Scalar.muli v68 c1_i32_151
  let v208 : BitVec 32 := Scalar.addi c0_i32_152 v207
  v208.toNat
def k0_dev7 (d0 : Dev nD) : Nat :=
  let c0_i32_366 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v65 : BitVec 1 := Scalar.cmpi .eq v2 c15_i32_47
  let c11_i32_48 : BitVec 32 := 11#32
  let c14_i32_43 : BitVec 32 := 14#32
  let v61 : BitVec 1 := Scalar.cmpi .eq v2 c14_i32_43
  let c15_i32_44 : BitVec 32 := 15#32
  let c13_i32_39 : BitVec 32 := 13#32
  let v57 : BitVec 1 := Scalar.cmpi .eq v2 c13_i32_39
  let c9_i32_40 : BitVec 32 := 9#32
  let c12_i32_35 : BitVec 32 := 12#32
  let v53 : BitVec 1 := Scalar.cmpi .eq v2 c12_i32_35
  let c13_i32_36 : BitVec 32 := 13#32
  let c11_i32_32 : BitVec 32 := 11#32
  let v49 : BitVec 1 := Scalar.cmpi .eq v2 c11_i32_32
  let c7_i32_33 : BitVec 32 := 7#32
  let c10_i32_29 : BitVec 32 := 10#32
  let v45 : BitVec 1 := Scalar.cmpi .eq v2 c10_i32_29
  let c14_i32 : BitVec 32 := 14#32
  let c9_i32_26 : BitVec 32 := 9#32
  let v41 : BitVec 1 := Scalar.cmpi .eq v2 c9_i32_26
  let c5_i32_27 : BitVec 32 := 5#32
  let c8_i32_23 : BitVec 32 := 8#32
  let v37 : BitVec 1 := Scalar.cmpi .eq v2 c8_i32_23
  let c12_i32 : BitVec 32 := 12#32
  let c7_i32_20 : BitVec 32 := 7#32
  let v33 : BitVec 1 := Scalar.cmpi .eq v2 c7_i32_20
  let c3_i32_21 : BitVec 32 := 3#32
  let c6_i32_17 : BitVec 32 := 6#32
  let v29 : BitVec 1 := Scalar.cmpi .eq v2 c6_i32_17
  let c10_i32 : BitVec 32 := 10#32
  let c5_i32_14 : BitVec 32 := 5#32
  let v25 : BitVec 1 := Scalar.cmpi .eq v2 c5_i32_14
  let c1_i32_15 : BitVec 32 := 1#32
  let c4_i32_11 : BitVec 32 := 4#32
  let v21 : BitVec 1 := Scalar.cmpi .eq v2 c4_i32_11
  let c8_i32 : BitVec 32 := 8#32
  let c3_i32_8 : BitVec 32 := 3#32
  let v17 : BitVec 1 := Scalar.cmpi .eq v2 c3_i32_8
  let c0_i32_9 : BitVec 32 := 0#32
  let c2_i32_5 : BitVec 32 := 2#32
  let v13 : BitVec 1 := Scalar.cmpi .eq v2 c2_i32_5
  let c6_i32 : BitVec 32 := 6#32
  let c1_i32_3 : BitVec 32 := 1#32
  let v9 : BitVec 1 := Scalar.cmpi .eq v2 c1_i32_3
  let c2_i32 : BitVec 32 := 2#32
  let c0_i32_1 : BitVec 32 := 0#32
  let v5 : BitVec 1 := Scalar.cmpi .eq v2 c0_i32_1
  let c4_i32 : BitVec 32 := 4#32
  let c0_i32 : BitVec 32 := 0#32
  let v3 : BitVec 32 := Scalar.muli v2 c0_i32
  let v6 : BitVec 32 := Scalar.select v5 c4_i32 v3
  let v10 : BitVec 32 := Scalar.select v9 c2_i32 v6
  let v14 : BitVec 32 := Scalar.select v13 c6_i32 v10
  let v18 : BitVec 32 := Scalar.select v17 c0_i32_9 v14
  let v22 : BitVec 32 := Scalar.select v21 c8_i32 v18
  let v26 : BitVec 32 := Scalar.select v25 c1_i32_15 v22
  let v30 : BitVec 32 := Scalar.select v29 c10_i32 v26
  let v34 : BitVec 32 := Scalar.select v33 c3_i32_21 v30
  let v38 : BitVec 32 := Scalar.select v37 c12_i32 v34
  let v42 : BitVec 32 := Scalar.select v41 c5_i32_27 v38
  let v46 : BitVec 32 := Scalar.select v45 c14_i32 v42
  let v50 : BitVec 32 := Scalar.select v49 c7_i32_33 v46
  let v54 : BitVec 32 := Scalar.select v53 c13_i32_36 v50
  let v58 : BitVec 32 := Scalar.select v57 c9_i32_40 v54
  let v62 : BitVec 32 := Scalar.select v61 c15_i32_44 v58
  let v66 : BitVec 32 := Scalar.select v65 c11_i32_48 v62
  let c1_i32_365 : BitVec 32 := 1#32
  let v435 : BitVec 32 := Scalar.muli v66 c1_i32_365
  let v436 : BitVec 32 := Scalar.addi c0_i32_366 v435
  v436.toNat
def k0_dev8 (d0 : Dev nD) : Nat :=
  let c0_i32_378 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v67 : BitVec 1 := Scalar.cmpi .eq v2 c15_i32_49
  let c14_i32_50 : BitVec 32 := 14#32
  let c14_i32_45 : BitVec 32 := 14#32
  let v63 : BitVec 1 := Scalar.cmpi .eq v2 c14_i32_45
  let c10_i32_46 : BitVec 32 := 10#32
  let c13_i32_41 : BitVec 32 := 13#32
  let v59 : BitVec 1 := Scalar.cmpi .eq v2 c13_i32_41
  let c12_i32_42 : BitVec 32 := 12#32
  let c12_i32_37 : BitVec 32 := 12#32
  let v55 : BitVec 1 := Scalar.cmpi .eq v2 c12_i32_37
  let c8_i32_38 : BitVec 32 := 8#32
  let c11_i32_34 : BitVec 32 := 11#32
  let v51 : BitVec 1 := Scalar.cmpi .eq v2 c11_i32_34
  let c15_i32 : BitVec 32 := 15#32
  let c10_i32_30 : BitVec 32 := 10#32
  let v47 : BitVec 1 := Scalar.cmpi .eq v2 c10_i32_30
  let c6_i32_31 : BitVec 32 := 6#32
  let c9_i32_28 : BitVec 32 := 9#32
  let v43 : BitVec 1 := Scalar.cmpi .eq v2 c9_i32_28
  let c13_i32 : BitVec 32 := 13#32
  let c8_i32_24 : BitVec 32 := 8#32
  let v39 : BitVec 1 := Scalar.cmpi .eq v2 c8_i32_24
  let c4_i32_25 : BitVec 32 := 4#32
  let c7_i32_22 : BitVec 32 := 7#32
  let v35 : BitVec 1 := Scalar.cmpi .eq v2 c7_i32_22
  let c11_i32 : BitVec 32 := 11#32
  let c6_i32_18 : BitVec 32 := 6#32
  let v31 : BitVec 1 := Scalar.cmpi .eq v2 c6_i32_18
  let c2_i32_19 : BitVec 32 := 2#32
  let c5_i32_16 : BitVec 32 := 5#32
  let v27 : BitVec 1 := Scalar.cmpi .eq v2 c5_i32_16
  let c9_i32 : BitVec 32 := 9#32
  let c4_i32_12 : BitVec 32 := 4#32
  let v23 : BitVec 1 := Scalar.cmpi .eq v2 c4_i32_12
  let c0_i32_13 : BitVec 32 := 0#32
  let c3_i32_10 : BitVec 32 := 3#32
  let v19 : BitVec 1 := Scalar.cmpi .eq v2 c3_i32_10
  let c7_i32 : BitVec 32 := 7#32
  let c2_i32_6 : BitVec 32 := 2#32
  let v15 : BitVec 1 := Scalar.cmpi .eq v2 c2_i32_6
  let c1_i32_7 : BitVec 32 := 1#32
  let c1_i32_4 : BitVec 32 := 1#32
  let v11 : BitVec 1 := Scalar.cmpi .eq v2 c1_i32_4
  let c5_i32 : BitVec 32 := 5#32
  let c0_i32_2 : BitVec 32 := 0#32
  let v7 : BitVec 1 := Scalar.cmpi .eq v2 c0_i32_2
  let c3_i32 : BitVec 32 := 3#32
  let c0_i32_0 : BitVec 32 := 0#32
  let v4 : BitVec 32 := Scalar.muli v2 c0_i32_0
  let v8 : BitVec 32 := Scalar.select v7 c3_i32 v4
  let v12 : BitVec 32 := Scalar.select v11 c5_i32 v8
  let v16 : BitVec 32 := Scalar.select v15 c1_i32_7 v12
  let v20 : BitVec 32 := Scalar.select v19 c7_i32 v16
  let v24 : BitVec 32 := Scalar.select v23 c0_i32_13 v20
  let v28 : BitVec 32 := Scalar.select v27 c9_i32 v24
  let v32 : BitVec 32 := Scalar.select v31 c2_i32_19 v28
  let v36 : BitVec 32 := Scalar.select v35 c11_i32 v32
  let v40 : BitVec 32 := Scalar.select v39 c4_i32_25 v36
  let v44 : BitVec 32 := Scalar.select v43 c13_i32 v40
  let v48 : BitVec 32 := Scalar.select v47 c6_i32_31 v44
  let v52 : BitVec 32 := Scalar.select v51 c15_i32 v48
  let v56 : BitVec 32 := Scalar.select v55 c8_i32_38 v52
  let v60 : BitVec 32 := Scalar.select v59 c12_i32_42 v56
  let v64 : BitVec 32 := Scalar.select v63 c10_i32_46 v60
  let v68 : BitVec 32 := Scalar.select v67 c14_i32_50 v64
  let c1_i32_377 : BitVec 32 := 1#32
  let v445 : BitVec 32 := Scalar.muli v68 c1_i32_377
  let v446 : BitVec 32 := Scalar.addi c0_i32_378 v445
  v446.toNat
def k0_dev9 (d0 : Dev nD) : Nat :=
  let c0_i32_643 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v65 : BitVec 1 := Scalar.cmpi .eq v2 c15_i32_47
  let c11_i32_48 : BitVec 32 := 11#32
  let c14_i32_43 : BitVec 32 := 14#32
  let v61 : BitVec 1 := Scalar.cmpi .eq v2 c14_i32_43
  let c15_i32_44 : BitVec 32 := 15#32
  let c13_i32_39 : BitVec 32 := 13#32
  let v57 : BitVec 1 := Scalar.cmpi .eq v2 c13_i32_39
  let c9_i32_40 : BitVec 32 := 9#32
  let c12_i32_35 : BitVec 32 := 12#32
  let v53 : BitVec 1 := Scalar.cmpi .eq v2 c12_i32_35
  let c13_i32_36 : BitVec 32 := 13#32
  let c11_i32_32 : BitVec 32 := 11#32
  let v49 : BitVec 1 := Scalar.cmpi .eq v2 c11_i32_32
  let c7_i32_33 : BitVec 32 := 7#32
  let c10_i32_29 : BitVec 32 := 10#32
  let v45 : BitVec 1 := Scalar.cmpi .eq v2 c10_i32_29
  let c14_i32 : BitVec 32 := 14#32
  let c9_i32_26 : BitVec 32 := 9#32
  let v41 : BitVec 1 := Scalar.cmpi .eq v2 c9_i32_26
  let c5_i32_27 : BitVec 32 := 5#32
  let c8_i32_23 : BitVec 32 := 8#32
  let v37 : BitVec 1 := Scalar.cmpi .eq v2 c8_i32_23
  let c12_i32 : BitVec 32 := 12#32
  let c7_i32_20 : BitVec 32 := 7#32
  let v33 : BitVec 1 := Scalar.cmpi .eq v2 c7_i32_20
  let c3_i32_21 : BitVec 32 := 3#32
  let c6_i32_17 : BitVec 32 := 6#32
  let v29 : BitVec 1 := Scalar.cmpi .eq v2 c6_i32_17
  let c10_i32 : BitVec 32 := 10#32
  let c5_i32_14 : BitVec 32 := 5#32
  let v25 : BitVec 1 := Scalar.cmpi .eq v2 c5_i32_14
  let c1_i32_15 : BitVec 32 := 1#32
  let c4_i32_11 : BitVec 32 := 4#32
  let v21 : BitVec 1 := Scalar.cmpi .eq v2 c4_i32_11
  let c8_i32 : BitVec 32 := 8#32
  let c3_i32_8 : BitVec 32 := 3#32
  let v17 : BitVec 1 := Scalar.cmpi .eq v2 c3_i32_8
  let c0_i32_9 : BitVec 32 := 0#32
  let c2_i32_5 : BitVec 32 := 2#32
  let v13 : BitVec 1 := Scalar.cmpi .eq v2 c2_i32_5
  let c6_i32 : BitVec 32 := 6#32
  let c1_i32_3 : BitVec 32 := 1#32
  let v9 : BitVec 1 := Scalar.cmpi .eq v2 c1_i32_3
  let c2_i32 : BitVec 32 := 2#32
  let c0_i32_1 : BitVec 32 := 0#32
  let v5 : BitVec 1 := Scalar.cmpi .eq v2 c0_i32_1
  let c4_i32 : BitVec 32 := 4#32
  let c0_i32 : BitVec 32 := 0#32
  let v3 : BitVec 32 := Scalar.muli v2 c0_i32
  let v6 : BitVec 32 := Scalar.select v5 c4_i32 v3
  let v10 : BitVec 32 := Scalar.select v9 c2_i32 v6
  let v14 : BitVec 32 := Scalar.select v13 c6_i32 v10
  let v18 : BitVec 32 := Scalar.select v17 c0_i32_9 v14
  let v22 : BitVec 32 := Scalar.select v21 c8_i32 v18
  let v26 : BitVec 32 := Scalar.select v25 c1_i32_15 v22
  let v30 : BitVec 32 := Scalar.select v29 c10_i32 v26
  let v34 : BitVec 32 := Scalar.select v33 c3_i32_21 v30
  let v38 : BitVec 32 := Scalar.select v37 c12_i32 v34
  let v42 : BitVec 32 := Scalar.select v41 c5_i32_27 v38
  let v46 : BitVec 32 := Scalar.select v45 c14_i32 v42
  let v50 : BitVec 32 := Scalar.select v49 c7_i32_33 v46
  let v54 : BitVec 32 := Scalar.select v53 c13_i32_36 v50
  let v58 : BitVec 32 := Scalar.select v57 c9_i32_40 v54
  let v62 : BitVec 32 := Scalar.select v61 c15_i32_44 v58
  let v66 : BitVec 32 := Scalar.select v65 c11_i32_48 v62
  let c1_i32_642 : BitVec 32 := 1#32
  let v883 : BitVec 32 := Scalar.muli v66 c1_i32_642
  let v884 : BitVec 32 := Scalar.addi c0_i32_643 v883
  v884.toNat
def k0_dev10 (d0 : Dev nD) : Nat :=
  let c0_i32_655 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v67 : BitVec 1 := Scalar.cmpi .eq v2 c15_i32_49
  let c14_i32_50 : BitVec 32 := 14#32
  let c14_i32_45 : BitVec 32 := 14#32
  let v63 : BitVec 1 := Scalar.cmpi .eq v2 c14_i32_45
  let c10_i32_46 : BitVec 32 := 10#32
  let c13_i32_41 : BitVec 32 := 13#32
  let v59 : BitVec 1 := Scalar.cmpi .eq v2 c13_i32_41
  let c12_i32_42 : BitVec 32 := 12#32
  let c12_i32_37 : BitVec 32 := 12#32
  let v55 : BitVec 1 := Scalar.cmpi .eq v2 c12_i32_37
  let c8_i32_38 : BitVec 32 := 8#32
  let c11_i32_34 : BitVec 32 := 11#32
  let v51 : BitVec 1 := Scalar.cmpi .eq v2 c11_i32_34
  let c15_i32 : BitVec 32 := 15#32
  let c10_i32_30 : BitVec 32 := 10#32
  let v47 : BitVec 1 := Scalar.cmpi .eq v2 c10_i32_30
  let c6_i32_31 : BitVec 32 := 6#32
  let c9_i32_28 : BitVec 32 := 9#32
  let v43 : BitVec 1 := Scalar.cmpi .eq v2 c9_i32_28
  let c13_i32 : BitVec 32 := 13#32
  let c8_i32_24 : BitVec 32 := 8#32
  let v39 : BitVec 1 := Scalar.cmpi .eq v2 c8_i32_24
  let c4_i32_25 : BitVec 32 := 4#32
  let c7_i32_22 : BitVec 32 := 7#32
  let v35 : BitVec 1 := Scalar.cmpi .eq v2 c7_i32_22
  let c11_i32 : BitVec 32 := 11#32
  let c6_i32_18 : BitVec 32 := 6#32
  let v31 : BitVec 1 := Scalar.cmpi .eq v2 c6_i32_18
  let c2_i32_19 : BitVec 32 := 2#32
  let c5_i32_16 : BitVec 32 := 5#32
  let v27 : BitVec 1 := Scalar.cmpi .eq v2 c5_i32_16
  let c9_i32 : BitVec 32 := 9#32
  let c4_i32_12 : BitVec 32 := 4#32
  let v23 : BitVec 1 := Scalar.cmpi .eq v2 c4_i32_12
  let c0_i32_13 : BitVec 32 := 0#32
  let c3_i32_10 : BitVec 32 := 3#32
  let v19 : BitVec 1 := Scalar.cmpi .eq v2 c3_i32_10
  let c7_i32 : BitVec 32 := 7#32
  let c2_i32_6 : BitVec 32 := 2#32
  let v15 : BitVec 1 := Scalar.cmpi .eq v2 c2_i32_6
  let c1_i32_7 : BitVec 32 := 1#32
  let c1_i32_4 : BitVec 32 := 1#32
  let v11 : BitVec 1 := Scalar.cmpi .eq v2 c1_i32_4
  let c5_i32 : BitVec 32 := 5#32
  let c0_i32_2 : BitVec 32 := 0#32
  let v7 : BitVec 1 := Scalar.cmpi .eq v2 c0_i32_2
  let c3_i32 : BitVec 32 := 3#32
  let c0_i32_0 : BitVec 32 := 0#32
  let v4 : BitVec 32 := Scalar.muli v2 c0_i32_0
  let v8 : BitVec 32 := Scalar.select v7 c3_i32 v4
  let v12 : BitVec 32 := Scalar.select v11 c5_i32 v8
  let v16 : BitVec 32 := Scalar.select v15 c1_i32_7 v12
  let v20 : BitVec 32 := Scalar.select v19 c7_i32 v16
  let v24 : BitVec 32 := Scalar.select v23 c0_i32_13 v20
  let v28 : BitVec 32 := Scalar.select v27 c9_i32 v24
  let v32 : BitVec 32 := Scalar.select v31 c2_i32_19 v28
  let v36 : BitVec 32 := Scalar.select v35 c11_i32 v32
  let v40 : BitVec 32 := Scalar.select v39 c4_i32_25 v36
  let v44 : BitVec 32 := Scalar.select v43 c13_i32 v40
  let v48 : BitVec 32 := Scalar.select v47 c6_i32_31 v44
  let v52 : BitVec 32 := Scalar.select v51 c15_i32 v48
  let v56 : BitVec 32 := Scalar.select v55 c8_i32_38 v52
  let v60 : BitVec 32 := Scalar.select v59 c12_i32_42 v56
  let v64 : BitVec 32 := Scalar.select v63 c10_i32_46 v60
  let v68 : BitVec 32 := Scalar.select v67 c14_i32_50 v64
  let c1_i32_654 : BitVec 32 := 1#32
  let v893 : BitVec 32 := Scalar.muli v68 c1_i32_654
  let v894 : BitVec 32 := Scalar.addi c0_i32_655 v893
  v894.toNat
def k0_dev11 (d0 : Dev nD) : Nat :=
  let c0_i32_919 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v65 : BitVec 1 := Scalar.cmpi .eq v2 c15_i32_47
  let c11_i32_48 : BitVec 32 := 11#32
  let c14_i32_43 : BitVec 32 := 14#32
  let v61 : BitVec 1 := Scalar.cmpi .eq v2 c14_i32_43
  let c15_i32_44 : BitVec 32 := 15#32
  let c13_i32_39 : BitVec 32 := 13#32
  let v57 : BitVec 1 := Scalar.cmpi .eq v2 c13_i32_39
  let c9_i32_40 : BitVec 32 := 9#32
  let c12_i32_35 : BitVec 32 := 12#32
  let v53 : BitVec 1 := Scalar.cmpi .eq v2 c12_i32_35
  let c13_i32_36 : BitVec 32 := 13#32
  let c11_i32_32 : BitVec 32 := 11#32
  let v49 : BitVec 1 := Scalar.cmpi .eq v2 c11_i32_32
  let c7_i32_33 : BitVec 32 := 7#32
  let c10_i32_29 : BitVec 32 := 10#32
  let v45 : BitVec 1 := Scalar.cmpi .eq v2 c10_i32_29
  let c14_i32 : BitVec 32 := 14#32
  let c9_i32_26 : BitVec 32 := 9#32
  let v41 : BitVec 1 := Scalar.cmpi .eq v2 c9_i32_26
  let c5_i32_27 : BitVec 32 := 5#32
  let c8_i32_23 : BitVec 32 := 8#32
  let v37 : BitVec 1 := Scalar.cmpi .eq v2 c8_i32_23
  let c12_i32 : BitVec 32 := 12#32
  let c7_i32_20 : BitVec 32 := 7#32
  let v33 : BitVec 1 := Scalar.cmpi .eq v2 c7_i32_20
  let c3_i32_21 : BitVec 32 := 3#32
  let c6_i32_17 : BitVec 32 := 6#32
  let v29 : BitVec 1 := Scalar.cmpi .eq v2 c6_i32_17
  let c10_i32 : BitVec 32 := 10#32
  let c5_i32_14 : BitVec 32 := 5#32
  let v25 : BitVec 1 := Scalar.cmpi .eq v2 c5_i32_14
  let c1_i32_15 : BitVec 32 := 1#32
  let c4_i32_11 : BitVec 32 := 4#32
  let v21 : BitVec 1 := Scalar.cmpi .eq v2 c4_i32_11
  let c8_i32 : BitVec 32 := 8#32
  let c3_i32_8 : BitVec 32 := 3#32
  let v17 : BitVec 1 := Scalar.cmpi .eq v2 c3_i32_8
  let c0_i32_9 : BitVec 32 := 0#32
  let c2_i32_5 : BitVec 32 := 2#32
  let v13 : BitVec 1 := Scalar.cmpi .eq v2 c2_i32_5
  let c6_i32 : BitVec 32 := 6#32
  let c1_i32_3 : BitVec 32 := 1#32
  let v9 : BitVec 1 := Scalar.cmpi .eq v2 c1_i32_3
  let c2_i32 : BitVec 32 := 2#32
  let c0_i32_1 : BitVec 32 := 0#32
  let v5 : BitVec 1 := Scalar.cmpi .eq v2 c0_i32_1
  let c4_i32 : BitVec 32 := 4#32
  let c0_i32 : BitVec 32 := 0#32
  let v3 : BitVec 32 := Scalar.muli v2 c0_i32
  let v6 : BitVec 32 := Scalar.select v5 c4_i32 v3
  let v10 : BitVec 32 := Scalar.select v9 c2_i32 v6
  let v14 : BitVec 32 := Scalar.select v13 c6_i32 v10
  let v18 : BitVec 32 := Scalar.select v17 c0_i32_9 v14
  let v22 : BitVec 32 := Scalar.select v21 c8_i32 v18
  let v26 : BitVec 32 := Scalar.select v25 c1_i32_15 v22
  let v30 : BitVec 32 := Scalar.select v29 c10_i32 v26
  let v34 : BitVec 32 := Scalar.select v33 c3_i32_21 v30
  let v38 : BitVec 32 := Scalar.select v37 c12_i32 v34
  let v42 : BitVec 32 := Scalar.select v41 c5_i32_27 v38
  let v46 : BitVec 32 := Scalar.select v45 c14_i32 v42
  let v50 : BitVec 32 := Scalar.select v49 c7_i32_33 v46
  let v54 : BitVec 32 := Scalar.select v53 c13_i32_36 v50
  let v58 : BitVec 32 := Scalar.select v57 c9_i32_40 v54
  let v62 : BitVec 32 := Scalar.select v61 c15_i32_44 v58
  let v66 : BitVec 32 := Scalar.select v65 c11_i32_48 v62
  let c1_i32_918 : BitVec 32 := 1#32
  let v1331 : BitVec 32 := Scalar.muli v66 c1_i32_918
  let v1332 : BitVec 32 := Scalar.addi c0_i32_919 v1331
  v1332.toNat
def k0_dev12 (d0 : Dev nD) : Nat :=
  let c0_i32_931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v67 : BitVec 1 := Scalar.cmpi .eq v2 c15_i32_49
  let c14_i32_50 : BitVec 32 := 14#32
  let c14_i32_45 : BitVec 32 := 14#32
  let v63 : BitVec 1 := Scalar.cmpi .eq v2 c14_i32_45
  let c10_i32_46 : BitVec 32 := 10#32
  let c13_i32_41 : BitVec 32 := 13#32
  let v59 : BitVec 1 := Scalar.cmpi .eq v2 c13_i32_41
  let c12_i32_42 : BitVec 32 := 12#32
  let c12_i32_37 : BitVec 32 := 12#32
  let v55 : BitVec 1 := Scalar.cmpi .eq v2 c12_i32_37
  let c8_i32_38 : BitVec 32 := 8#32
  let c11_i32_34 : BitVec 32 := 11#32
  let v51 : BitVec 1 := Scalar.cmpi .eq v2 c11_i32_34
  let c15_i32 : BitVec 32 := 15#32
  let c10_i32_30 : BitVec 32 := 10#32
  let v47 : BitVec 1 := Scalar.cmpi .eq v2 c10_i32_30
  let c6_i32_31 : BitVec 32 := 6#32
  let c9_i32_28 : BitVec 32 := 9#32
  let v43 : BitVec 1 := Scalar.cmpi .eq v2 c9_i32_28
  let c13_i32 : BitVec 32 := 13#32
  let c8_i32_24 : BitVec 32 := 8#32
  let v39 : BitVec 1 := Scalar.cmpi .eq v2 c8_i32_24
  let c4_i32_25 : BitVec 32 := 4#32
  let c7_i32_22 : BitVec 32 := 7#32
  let v35 : BitVec 1 := Scalar.cmpi .eq v2 c7_i32_22
  let c11_i32 : BitVec 32 := 11#32
  let c6_i32_18 : BitVec 32 := 6#32
  let v31 : BitVec 1 := Scalar.cmpi .eq v2 c6_i32_18
  let c2_i32_19 : BitVec 32 := 2#32
  let c5_i32_16 : BitVec 32 := 5#32
  let v27 : BitVec 1 := Scalar.cmpi .eq v2 c5_i32_16
  let c9_i32 : BitVec 32 := 9#32
  let c4_i32_12 : BitVec 32 := 4#32
  let v23 : BitVec 1 := Scalar.cmpi .eq v2 c4_i32_12
  let c0_i32_13 : BitVec 32 := 0#32
  let c3_i32_10 : BitVec 32 := 3#32
  let v19 : BitVec 1 := Scalar.cmpi .eq v2 c3_i32_10
  let c7_i32 : BitVec 32 := 7#32
  let c2_i32_6 : BitVec 32 := 2#32
  let v15 : BitVec 1 := Scalar.cmpi .eq v2 c2_i32_6
  let c1_i32_7 : BitVec 32 := 1#32
  let c1_i32_4 : BitVec 32 := 1#32
  let v11 : BitVec 1 := Scalar.cmpi .eq v2 c1_i32_4
  let c5_i32 : BitVec 32 := 5#32
  let c0_i32_2 : BitVec 32 := 0#32
  let v7 : BitVec 1 := Scalar.cmpi .eq v2 c0_i32_2
  let c3_i32 : BitVec 32 := 3#32
  let c0_i32_0 : BitVec 32 := 0#32
  let v4 : BitVec 32 := Scalar.muli v2 c0_i32_0
  let v8 : BitVec 32 := Scalar.select v7 c3_i32 v4
  let v12 : BitVec 32 := Scalar.select v11 c5_i32 v8
  let v16 : BitVec 32 := Scalar.select v15 c1_i32_7 v12
  let v20 : BitVec 32 := Scalar.select v19 c7_i32 v16
  let v24 : BitVec 32 := Scalar.select v23 c0_i32_13 v20
  let v28 : BitVec 32 := Scalar.select v27 c9_i32 v24
  let v32 : BitVec 32 := Scalar.select v31 c2_i32_19 v28
  let v36 : BitVec 32 := Scalar.select v35 c11_i32 v32
  let v40 : BitVec 32 := Scalar.select v39 c4_i32_25 v36
  let v44 : BitVec 32 := Scalar.select v43 c13_i32 v40
  let v48 : BitVec 32 := Scalar.select v47 c6_i32_31 v44
  let v52 : BitVec 32 := Scalar.select v51 c15_i32 v48
  let v56 : BitVec 32 := Scalar.select v55 c8_i32_38 v52
  let v60 : BitVec 32 := Scalar.select v59 c12_i32_42 v56
  let v64 : BitVec 32 := Scalar.select v63 c10_i32_46 v60
  let v68 : BitVec 32 := Scalar.select v67 c14_i32_50 v64
  let c1_i32_930 : BitVec 32 := 1#32
  let v1341 : BitVec 32 := Scalar.muli v68 c1_i32_930
  let v1342 : BitVec 32 := Scalar.addi c0_i32_931 v1341
  v1342.toNat
def k0_dev13 (d0 : Dev nD) : Nat :=
  let c0_i32_1195 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v65 : BitVec 1 := Scalar.cmpi .eq v2 c15_i32_47
  let c11_i32_48 : BitVec 32 := 11#32
  let c14_i32_43 : BitVec 32 := 14#32
  let v61 : BitVec 1 := Scalar.cmpi .eq v2 c14_i32_43
  let c15_i32_44 : BitVec 32 := 15#32
  let c13_i32_39 : BitVec 32 := 13#32
  let v57 : BitVec 1 := Scalar.cmpi .eq v2 c13_i32_39
  let c9_i32_40 : BitVec 32 := 9#32
  let c12_i32_35 : BitVec 32 := 12#32
  let v53 : BitVec 1 := Scalar.cmpi .eq v2 c12_i32_35
  let c13_i32_36 : BitVec 32 := 13#32
  let c11_i32_32 : BitVec 32 := 11#32
  let v49 : BitVec 1 := Scalar.cmpi .eq v2 c11_i32_32
  let c7_i32_33 : BitVec 32 := 7#32
  let c10_i32_29 : BitVec 32 := 10#32
  let v45 : BitVec 1 := Scalar.cmpi .eq v2 c10_i32_29
  let c14_i32 : BitVec 32 := 14#32
  let c9_i32_26 : BitVec 32 := 9#32
  let v41 : BitVec 1 := Scalar.cmpi .eq v2 c9_i32_26
  let c5_i32_27 : BitVec 32 := 5#32
  let c8_i32_23 : BitVec 32 := 8#32
  let v37 : BitVec 1 := Scalar.cmpi .eq v2 c8_i32_23
  let c12_i32 : BitVec 32 := 12#32
  let c7_i32_20 : BitVec 32 := 7#32
  let v33 : BitVec 1 := Scalar.cmpi .eq v2 c7_i32_20
  let c3_i32_21 : BitVec 32 := 3#32
  let c6_i32_17 : BitVec 32 := 6#32
  let v29 : BitVec 1 := Scalar.cmpi .eq v2 c6_i32_17
  let c10_i32 : BitVec 32 := 10#32
  let c5_i32_14 : BitVec 32 := 5#32
  let v25 : BitVec 1 := Scalar.cmpi .eq v2 c5_i32_14
  let c1_i32_15 : BitVec 32 := 1#32
  let c4_i32_11 : BitVec 32 := 4#32
  let v21 : BitVec 1 := Scalar.cmpi .eq v2 c4_i32_11
  let c8_i32 : BitVec 32 := 8#32
  let c3_i32_8 : BitVec 32 := 3#32
  let v17 : BitVec 1 := Scalar.cmpi .eq v2 c3_i32_8
  let c0_i32_9 : BitVec 32 := 0#32
  let c2_i32_5 : BitVec 32 := 2#32
  let v13 : BitVec 1 := Scalar.cmpi .eq v2 c2_i32_5
  let c6_i32 : BitVec 32 := 6#32
  let c1_i32_3 : BitVec 32 := 1#32
  let v9 : BitVec 1 := Scalar.cmpi .eq v2 c1_i32_3
  let c2_i32 : BitVec 32 := 2#32
  let c0_i32_1 : BitVec 32 := 0#32
  let v5 : BitVec 1 := Scalar.cmpi .eq v2 c0_i32_1
  let c4_i32 : BitVec 32 := 4#32
  let c0_i32 : BitVec 32 := 0#32
  let v3 : BitVec 32 := Scalar.muli v2 c0_i32
  let v6 : BitVec 32 := Scalar.select v5 c4_i32 v3
  let v10 : BitVec 32 := Scalar.select v9 c2_i32 v6
  let v14 : BitVec 32 := Scalar.select v13 c6_i32 v10
  let v18 : BitVec 32 := Scalar.select v17 c0_i32_9 v14
  let v22 : BitVec 32 := Scalar.select v21 c8_i32 v18
  let v26 : BitVec 32 := Scalar.select v25 c1_i32_15 v22
  let v30 : BitVec 32 := Scalar.select v29 c10_i32 v26
  let v34 : BitVec 32 := Scalar.select v33 c3_i32_21 v30
  let v38 : BitVec 32 := Scalar.select v37 c12_i32 v34
  let v42 : BitVec 32 := Scalar.select v41 c5_i32_27 v38
  let v46 : BitVec 32 := Scalar.select v45 c14_i32 v42
  let v50 : BitVec 32 := Scalar.select v49 c7_i32_33 v46
  let v54 : BitVec 32 := Scalar.select v53 c13_i32_36 v50
  let v58 : BitVec 32 := Scalar.select v57 c9_i32_40 v54
  let v62 : BitVec 32 := Scalar.select v61 c15_i32_44 v58
  let v66 : BitVec 32 := Scalar.select v65 c11_i32_48 v62
  let c1_i32_1194 : BitVec 32 := 1#32
  let v1779 : BitVec 32 := Scalar.muli v66 c1_i32_1194
  let v1780 : BitVec 32 := Scalar.addi c0_i32_1195 v1779
  v1780.toNat
def k0_dev14 (d0 : Dev nD) : Nat :=
  let c0_i32_1207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v67 : BitVec 1 := Scalar.cmpi .eq v2 c15_i32_49
  let c14_i32_50 : BitVec 32 := 14#32
  let c14_i32_45 : BitVec 32 := 14#32
  let v63 : BitVec 1 := Scalar.cmpi .eq v2 c14_i32_45
  let c10_i32_46 : BitVec 32 := 10#32
  let c13_i32_41 : BitVec 32 := 13#32
  let v59 : BitVec 1 := Scalar.cmpi .eq v2 c13_i32_41
  let c12_i32_42 : BitVec 32 := 12#32
  let c12_i32_37 : BitVec 32 := 12#32
  let v55 : BitVec 1 := Scalar.cmpi .eq v2 c12_i32_37
  let c8_i32_38 : BitVec 32 := 8#32
  let c11_i32_34 : BitVec 32 := 11#32
  let v51 : BitVec 1 := Scalar.cmpi .eq v2 c11_i32_34
  let c15_i32 : BitVec 32 := 15#32
  let c10_i32_30 : BitVec 32 := 10#32
  let v47 : BitVec 1 := Scalar.cmpi .eq v2 c10_i32_30
  let c6_i32_31 : BitVec 32 := 6#32
  let c9_i32_28 : BitVec 32 := 9#32
  let v43 : BitVec 1 := Scalar.cmpi .eq v2 c9_i32_28
  let c13_i32 : BitVec 32 := 13#32
  let c8_i32_24 : BitVec 32 := 8#32
  let v39 : BitVec 1 := Scalar.cmpi .eq v2 c8_i32_24
  let c4_i32_25 : BitVec 32 := 4#32
  let c7_i32_22 : BitVec 32 := 7#32
  let v35 : BitVec 1 := Scalar.cmpi .eq v2 c7_i32_22
  let c11_i32 : BitVec 32 := 11#32
  let c6_i32_18 : BitVec 32 := 6#32
  let v31 : BitVec 1 := Scalar.cmpi .eq v2 c6_i32_18
  let c2_i32_19 : BitVec 32 := 2#32
  let c5_i32_16 : BitVec 32 := 5#32
  let v27 : BitVec 1 := Scalar.cmpi .eq v2 c5_i32_16
  let c9_i32 : BitVec 32 := 9#32
  let c4_i32_12 : BitVec 32 := 4#32
  let v23 : BitVec 1 := Scalar.cmpi .eq v2 c4_i32_12
  let c0_i32_13 : BitVec 32 := 0#32
  let c3_i32_10 : BitVec 32 := 3#32
  let v19 : BitVec 1 := Scalar.cmpi .eq v2 c3_i32_10
  let c7_i32 : BitVec 32 := 7#32
  let c2_i32_6 : BitVec 32 := 2#32
  let v15 : BitVec 1 := Scalar.cmpi .eq v2 c2_i32_6
  let c1_i32_7 : BitVec 32 := 1#32
  let c1_i32_4 : BitVec 32 := 1#32
  let v11 : BitVec 1 := Scalar.cmpi .eq v2 c1_i32_4
  let c5_i32 : BitVec 32 := 5#32
  let c0_i32_2 : BitVec 32 := 0#32
  let v7 : BitVec 1 := Scalar.cmpi .eq v2 c0_i32_2
  let c3_i32 : BitVec 32 := 3#32
  let c0_i32_0 : BitVec 32 := 0#32
  let v4 : BitVec 32 := Scalar.muli v2 c0_i32_0
  let v8 : BitVec 32 := Scalar.select v7 c3_i32 v4
  let v12 : BitVec 32 := Scalar.select v11 c5_i32 v8
  let v16 : BitVec 32 := Scalar.select v15 c1_i32_7 v12
  let v20 : BitVec 32 := Scalar.select v19 c7_i32 v16
  let v24 : BitVec 32 := Scalar.select v23 c0_i32_13 v20
  let v28 : BitVec 32 := Scalar.select v27 c9_i32 v24
  let v32 : BitVec 32 := Scalar.select v31 c2_i32_19 v28
  let v36 : BitVec 32 := Scalar.select v35 c11_i32 v32
  let v40 : BitVec 32 := Scalar.select v39 c4_i32_25 v36
  let v44 : BitVec 32 := Scalar.select v43 c13_i32 v40
  let v48 : BitVec 32 := Scalar.select v47 c6_i32_31 v44
  let v52 : BitVec 32 := Scalar.select v51 c15_i32 v48
  let v56 : BitVec 32 := Scalar.select v55 c8_i32_38 v52
  let v60 : BitVec 32 := Scalar.select v59 c12_i32_42 v56
  let v64 : BitVec 32 := Scalar.select v63 c10_i32_46 v60
  let v68 : BitVec 32 := Scalar.select v67 c14_i32_50 v64
  let c1_i32_1206 : BitVec 32 := 1#32
  let v1789 : BitVec 32 := Scalar.muli v68 c1_i32_1206
  let v1790 : BitVec 32 := Scalar.addi c0_i32_1207 v1789
  v1790.toNat
def k0_dev15 (d0 : Dev nD) : Nat :=
  let c0_i32_1471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v65 : BitVec 1 := Scalar.cmpi .eq v2 c15_i32_47
  let c11_i32_48 : BitVec 32 := 11#32
  let c14_i32_43 : BitVec 32 := 14#32
  let v61 : BitVec 1 := Scalar.cmpi .eq v2 c14_i32_43
  let c15_i32_44 : BitVec 32 := 15#32
  let c13_i32_39 : BitVec 32 := 13#32
  let v57 : BitVec 1 := Scalar.cmpi .eq v2 c13_i32_39
  let c9_i32_40 : BitVec 32 := 9#32
  let c12_i32_35 : BitVec 32 := 12#32
  let v53 : BitVec 1 := Scalar.cmpi .eq v2 c12_i32_35
  let c13_i32_36 : BitVec 32 := 13#32
  let c11_i32_32 : BitVec 32 := 11#32
  let v49 : BitVec 1 := Scalar.cmpi .eq v2 c11_i32_32
  let c7_i32_33 : BitVec 32 := 7#32
  let c10_i32_29 : BitVec 32 := 10#32
  let v45 : BitVec 1 := Scalar.cmpi .eq v2 c10_i32_29
  let c14_i32 : BitVec 32 := 14#32
  let c9_i32_26 : BitVec 32 := 9#32
  let v41 : BitVec 1 := Scalar.cmpi .eq v2 c9_i32_26
  let c5_i32_27 : BitVec 32 := 5#32
  let c8_i32_23 : BitVec 32 := 8#32
  let v37 : BitVec 1 := Scalar.cmpi .eq v2 c8_i32_23
  let c12_i32 : BitVec 32 := 12#32
  let c7_i32_20 : BitVec 32 := 7#32
  let v33 : BitVec 1 := Scalar.cmpi .eq v2 c7_i32_20
  let c3_i32_21 : BitVec 32 := 3#32
  let c6_i32_17 : BitVec 32 := 6#32
  let v29 : BitVec 1 := Scalar.cmpi .eq v2 c6_i32_17
  let c10_i32 : BitVec 32 := 10#32
  let c5_i32_14 : BitVec 32 := 5#32
  let v25 : BitVec 1 := Scalar.cmpi .eq v2 c5_i32_14
  let c1_i32_15 : BitVec 32 := 1#32
  let c4_i32_11 : BitVec 32 := 4#32
  let v21 : BitVec 1 := Scalar.cmpi .eq v2 c4_i32_11
  let c8_i32 : BitVec 32 := 8#32
  let c3_i32_8 : BitVec 32 := 3#32
  let v17 : BitVec 1 := Scalar.cmpi .eq v2 c3_i32_8
  let c0_i32_9 : BitVec 32 := 0#32
  let c2_i32_5 : BitVec 32 := 2#32
  let v13 : BitVec 1 := Scalar.cmpi .eq v2 c2_i32_5
  let c6_i32 : BitVec 32 := 6#32
  let c1_i32_3 : BitVec 32 := 1#32
  let v9 : BitVec 1 := Scalar.cmpi .eq v2 c1_i32_3
  let c2_i32 : BitVec 32 := 2#32
  let c0_i32_1 : BitVec 32 := 0#32
  let v5 : BitVec 1 := Scalar.cmpi .eq v2 c0_i32_1
  let c4_i32 : BitVec 32 := 4#32
  let c0_i32 : BitVec 32 := 0#32
  let v3 : BitVec 32 := Scalar.muli v2 c0_i32
  let v6 : BitVec 32 := Scalar.select v5 c4_i32 v3
  let v10 : BitVec 32 := Scalar.select v9 c2_i32 v6
  let v14 : BitVec 32 := Scalar.select v13 c6_i32 v10
  let v18 : BitVec 32 := Scalar.select v17 c0_i32_9 v14
  let v22 : BitVec 32 := Scalar.select v21 c8_i32 v18
  let v26 : BitVec 32 := Scalar.select v25 c1_i32_15 v22
  let v30 : BitVec 32 := Scalar.select v29 c10_i32 v26
  let v34 : BitVec 32 := Scalar.select v33 c3_i32_21 v30
  let v38 : BitVec 32 := Scalar.select v37 c12_i32 v34
  let v42 : BitVec 32 := Scalar.select v41 c5_i32_27 v38
  let v46 : BitVec 32 := Scalar.select v45 c14_i32 v42
  let v50 : BitVec 32 := Scalar.select v49 c7_i32_33 v46
  let v54 : BitVec 32 := Scalar.select v53 c13_i32_36 v50
  let v58 : BitVec 32 := Scalar.select v57 c9_i32_40 v54
  let v62 : BitVec 32 := Scalar.select v61 c15_i32_44 v58
  let v66 : BitVec 32 := Scalar.select v65 c11_i32_48 v62
  let c1_i32_1470 : BitVec 32 := 1#32
  let v2227 : BitVec 32 := Scalar.muli v66 c1_i32_1470
  let v2228 : BitVec 32 := Scalar.addi c0_i32_1471 v2227
  v2228.toNat
def k0_dev16 (d0 : Dev nD) : Nat :=
  let c0_i32_1483 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v67 : BitVec 1 := Scalar.cmpi .eq v2 c15_i32_49
  let c14_i32_50 : BitVec 32 := 14#32
  let c14_i32_45 : BitVec 32 := 14#32
  let v63 : BitVec 1 := Scalar.cmpi .eq v2 c14_i32_45
  let c10_i32_46 : BitVec 32 := 10#32
  let c13_i32_41 : BitVec 32 := 13#32
  let v59 : BitVec 1 := Scalar.cmpi .eq v2 c13_i32_41
  let c12_i32_42 : BitVec 32 := 12#32
  let c12_i32_37 : BitVec 32 := 12#32
  let v55 : BitVec 1 := Scalar.cmpi .eq v2 c12_i32_37
  let c8_i32_38 : BitVec 32 := 8#32
  let c11_i32_34 : BitVec 32 := 11#32
  let v51 : BitVec 1 := Scalar.cmpi .eq v2 c11_i32_34
  let c15_i32 : BitVec 32 := 15#32
  let c10_i32_30 : BitVec 32 := 10#32
  let v47 : BitVec 1 := Scalar.cmpi .eq v2 c10_i32_30
  let c6_i32_31 : BitVec 32 := 6#32
  let c9_i32_28 : BitVec 32 := 9#32
  let v43 : BitVec 1 := Scalar.cmpi .eq v2 c9_i32_28
  let c13_i32 : BitVec 32 := 13#32
  let c8_i32_24 : BitVec 32 := 8#32
  let v39 : BitVec 1 := Scalar.cmpi .eq v2 c8_i32_24
  let c4_i32_25 : BitVec 32 := 4#32
  let c7_i32_22 : BitVec 32 := 7#32
  let v35 : BitVec 1 := Scalar.cmpi .eq v2 c7_i32_22
  let c11_i32 : BitVec 32 := 11#32
  let c6_i32_18 : BitVec 32 := 6#32
  let v31 : BitVec 1 := Scalar.cmpi .eq v2 c6_i32_18
  let c2_i32_19 : BitVec 32 := 2#32
  let c5_i32_16 : BitVec 32 := 5#32
  let v27 : BitVec 1 := Scalar.cmpi .eq v2 c5_i32_16
  let c9_i32 : BitVec 32 := 9#32
  let c4_i32_12 : BitVec 32 := 4#32
  let v23 : BitVec 1 := Scalar.cmpi .eq v2 c4_i32_12
  let c0_i32_13 : BitVec 32 := 0#32
  let c3_i32_10 : BitVec 32 := 3#32
  let v19 : BitVec 1 := Scalar.cmpi .eq v2 c3_i32_10
  let c7_i32 : BitVec 32 := 7#32
  let c2_i32_6 : BitVec 32 := 2#32
  let v15 : BitVec 1 := Scalar.cmpi .eq v2 c2_i32_6
  let c1_i32_7 : BitVec 32 := 1#32
  let c1_i32_4 : BitVec 32 := 1#32
  let v11 : BitVec 1 := Scalar.cmpi .eq v2 c1_i32_4
  let c5_i32 : BitVec 32 := 5#32
  let c0_i32_2 : BitVec 32 := 0#32
  let v7 : BitVec 1 := Scalar.cmpi .eq v2 c0_i32_2
  let c3_i32 : BitVec 32 := 3#32
  let c0_i32_0 : BitVec 32 := 0#32
  let v4 : BitVec 32 := Scalar.muli v2 c0_i32_0
  let v8 : BitVec 32 := Scalar.select v7 c3_i32 v4
  let v12 : BitVec 32 := Scalar.select v11 c5_i32 v8
  let v16 : BitVec 32 := Scalar.select v15 c1_i32_7 v12
  let v20 : BitVec 32 := Scalar.select v19 c7_i32 v16
  let v24 : BitVec 32 := Scalar.select v23 c0_i32_13 v20
  let v28 : BitVec 32 := Scalar.select v27 c9_i32 v24
  let v32 : BitVec 32 := Scalar.select v31 c2_i32_19 v28
  let v36 : BitVec 32 := Scalar.select v35 c11_i32 v32
  let v40 : BitVec 32 := Scalar.select v39 c4_i32_25 v36
  let v44 : BitVec 32 := Scalar.select v43 c13_i32 v40
  let v48 : BitVec 32 := Scalar.select v47 c6_i32_31 v44
  let v52 : BitVec 32 := Scalar.select v51 c15_i32 v48
  let v56 : BitVec 32 := Scalar.select v55 c8_i32_38 v52
  let v60 : BitVec 32 := Scalar.select v59 c12_i32_42 v56
  let v64 : BitVec 32 := Scalar.select v63 c10_i32_46 v60
  let v68 : BitVec 32 := Scalar.select v67 c14_i32_50 v64
  let c1_i32_1482 : BitVec 32 := 1#32
  let v2237 : BitVec 32 := Scalar.muli v68 c1_i32_1482
  let v2238 : BitVec 32 := Scalar.addi c0_i32_1483 v2237
  v2238.toNat
def k0_dev17 (d0 : Dev nD) : Nat :=
  let c0_i32_1747 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v65 : BitVec 1 := Scalar.cmpi .eq v2 c15_i32_47
  let c11_i32_48 : BitVec 32 := 11#32
  let c14_i32_43 : BitVec 32 := 14#32
  let v61 : BitVec 1 := Scalar.cmpi .eq v2 c14_i32_43
  let c15_i32_44 : BitVec 32 := 15#32
  let c13_i32_39 : BitVec 32 := 13#32
  let v57 : BitVec 1 := Scalar.cmpi .eq v2 c13_i32_39
  let c9_i32_40 : BitVec 32 := 9#32
  let c12_i32_35 : BitVec 32 := 12#32
  let v53 : BitVec 1 := Scalar.cmpi .eq v2 c12_i32_35
  let c13_i32_36 : BitVec 32 := 13#32
  let c11_i32_32 : BitVec 32 := 11#32
  let v49 : BitVec 1 := Scalar.cmpi .eq v2 c11_i32_32
  let c7_i32_33 : BitVec 32 := 7#32
  let c10_i32_29 : BitVec 32 := 10#32
  let v45 : BitVec 1 := Scalar.cmpi .eq v2 c10_i32_29
  let c14_i32 : BitVec 32 := 14#32
  let c9_i32_26 : BitVec 32 := 9#32
  let v41 : BitVec 1 := Scalar.cmpi .eq v2 c9_i32_26
  let c5_i32_27 : BitVec 32 := 5#32
  let c8_i32_23 : BitVec 32 := 8#32
  let v37 : BitVec 1 := Scalar.cmpi .eq v2 c8_i32_23
  let c12_i32 : BitVec 32 := 12#32
  let c7_i32_20 : BitVec 32 := 7#32
  let v33 : BitVec 1 := Scalar.cmpi .eq v2 c7_i32_20
  let c3_i32_21 : BitVec 32 := 3#32
  let c6_i32_17 : BitVec 32 := 6#32
  let v29 : BitVec 1 := Scalar.cmpi .eq v2 c6_i32_17
  let c10_i32 : BitVec 32 := 10#32
  let c5_i32_14 : BitVec 32 := 5#32
  let v25 : BitVec 1 := Scalar.cmpi .eq v2 c5_i32_14
  let c1_i32_15 : BitVec 32 := 1#32
  let c4_i32_11 : BitVec 32 := 4#32
  let v21 : BitVec 1 := Scalar.cmpi .eq v2 c4_i32_11
  let c8_i32 : BitVec 32 := 8#32
  let c3_i32_8 : BitVec 32 := 3#32
  let v17 : BitVec 1 := Scalar.cmpi .eq v2 c3_i32_8
  let c0_i32_9 : BitVec 32 := 0#32
  let c2_i32_5 : BitVec 32 := 2#32
  let v13 : BitVec 1 := Scalar.cmpi .eq v2 c2_i32_5
  let c6_i32 : BitVec 32 := 6#32
  let c1_i32_3 : BitVec 32 := 1#32
  let v9 : BitVec 1 := Scalar.cmpi .eq v2 c1_i32_3
  let c2_i32 : BitVec 32 := 2#32
  let c0_i32_1 : BitVec 32 := 0#32
  let v5 : BitVec 1 := Scalar.cmpi .eq v2 c0_i32_1
  let c4_i32 : BitVec 32 := 4#32
  let c0_i32 : BitVec 32 := 0#32
  let v3 : BitVec 32 := Scalar.muli v2 c0_i32
  let v6 : BitVec 32 := Scalar.select v5 c4_i32 v3
  let v10 : BitVec 32 := Scalar.select v9 c2_i32 v6
  let v14 : BitVec 32 := Scalar.select v13 c6_i32 v10
  let v18 : BitVec 32 := Scalar.select v17 c0_i32_9 v14
  let v22 : BitVec 32 := Scalar.select v21 c8_i32 v18
  let v26 : BitVec 32 := Scalar.select v25 c1_i32_15 v22
  let v30 : BitVec 32 := Scalar.select v29 c10_i32 v26
  let v34 : BitVec 32 := Scalar.select v33 c3_i32_21 v30
  let v38 : BitVec 32 := Scalar.select v37 c12_i32 v34
  let v42 : BitVec 32 := Scalar.select v41 c5_i32_27 v38
  let v46 : BitVec 32 := Scalar.select v45 c14_i32 v42
  let v50 : BitVec 32 := Scalar.select v49 c7_i32_33 v46
  let v54 : BitVec 32 := Scalar.select v53 c13_i32_36 v50
  let v58 : BitVec 32 := Scalar.select v57 c9_i32_40 v54
  let v62 : BitVec 32 := Scalar.select v61 c15_i32_44 v58
  let v66 : BitVec 32 := Scalar.select v65 c11_i32_48 v62
  let c1_i32_1746 : BitVec 32 := 1#32
  let v2675 : BitVec 32 := Scalar.muli v66 c1_i32_1746
  let v2676 : BitVec 32 := Scalar.addi c0_i32_1747 v2675
  v2676.toNat
def k0_dev18 (d0 : Dev nD) : Nat :=
  let c0_i32_1759 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_49 : BitVec 32 := 15#32
  let v67 : BitVec 1 := Scalar.cmpi .eq v2 c15_i32_49
  let c14_i32_50 : BitVec 32 := 14#32
  let c14_i32_45 : BitVec 32 := 14#32
  let v63 : BitVec 1 := Scalar.cmpi .eq v2 c14_i32_45
  let c10_i32_46 : BitVec 32 := 10#32
  let c13_i32_41 : BitVec 32 := 13#32
  let v59 : BitVec 1 := Scalar.cmpi .eq v2 c13_i32_41
  let c12_i32_42 : BitVec 32 := 12#32
  let c12_i32_37 : BitVec 32 := 12#32
  let v55 : BitVec 1 := Scalar.cmpi .eq v2 c12_i32_37
  let c8_i32_38 : BitVec 32 := 8#32
  let c11_i32_34 : BitVec 32 := 11#32
  let v51 : BitVec 1 := Scalar.cmpi .eq v2 c11_i32_34
  let c15_i32 : BitVec 32 := 15#32
  let c10_i32_30 : BitVec 32 := 10#32
  let v47 : BitVec 1 := Scalar.cmpi .eq v2 c10_i32_30
  let c6_i32_31 : BitVec 32 := 6#32
  let c9_i32_28 : BitVec 32 := 9#32
  let v43 : BitVec 1 := Scalar.cmpi .eq v2 c9_i32_28
  let c13_i32 : BitVec 32 := 13#32
  let c8_i32_24 : BitVec 32 := 8#32
  let v39 : BitVec 1 := Scalar.cmpi .eq v2 c8_i32_24
  let c4_i32_25 : BitVec 32 := 4#32
  let c7_i32_22 : BitVec 32 := 7#32
  let v35 : BitVec 1 := Scalar.cmpi .eq v2 c7_i32_22
  let c11_i32 : BitVec 32 := 11#32
  let c6_i32_18 : BitVec 32 := 6#32
  let v31 : BitVec 1 := Scalar.cmpi .eq v2 c6_i32_18
  let c2_i32_19 : BitVec 32 := 2#32
  let c5_i32_16 : BitVec 32 := 5#32
  let v27 : BitVec 1 := Scalar.cmpi .eq v2 c5_i32_16
  let c9_i32 : BitVec 32 := 9#32
  let c4_i32_12 : BitVec 32 := 4#32
  let v23 : BitVec 1 := Scalar.cmpi .eq v2 c4_i32_12
  let c0_i32_13 : BitVec 32 := 0#32
  let c3_i32_10 : BitVec 32 := 3#32
  let v19 : BitVec 1 := Scalar.cmpi .eq v2 c3_i32_10
  let c7_i32 : BitVec 32 := 7#32
  let c2_i32_6 : BitVec 32 := 2#32
  let v15 : BitVec 1 := Scalar.cmpi .eq v2 c2_i32_6
  let c1_i32_7 : BitVec 32 := 1#32
  let c1_i32_4 : BitVec 32 := 1#32
  let v11 : BitVec 1 := Scalar.cmpi .eq v2 c1_i32_4
  let c5_i32 : BitVec 32 := 5#32
  let c0_i32_2 : BitVec 32 := 0#32
  let v7 : BitVec 1 := Scalar.cmpi .eq v2 c0_i32_2
  let c3_i32 : BitVec 32 := 3#32
  let c0_i32_0 : BitVec 32 := 0#32
  let v4 : BitVec 32 := Scalar.muli v2 c0_i32_0
  let v8 : BitVec 32 := Scalar.select v7 c3_i32 v4
  let v12 : BitVec 32 := Scalar.select v11 c5_i32 v8
  let v16 : BitVec 32 := Scalar.select v15 c1_i32_7 v12
  let v20 : BitVec 32 := Scalar.select v19 c7_i32 v16
  let v24 : BitVec 32 := Scalar.select v23 c0_i32_13 v20
  let v28 : BitVec 32 := Scalar.select v27 c9_i32 v24
  let v32 : BitVec 32 := Scalar.select v31 c2_i32_19 v28
  let v36 : BitVec 32 := Scalar.select v35 c11_i32 v32
  let v40 : BitVec 32 := Scalar.select v39 c4_i32_25 v36
  let v44 : BitVec 32 := Scalar.select v43 c13_i32 v40
  let v48 : BitVec 32 := Scalar.select v47 c6_i32_31 v44
  let v52 : BitVec 32 := Scalar.select v51 c15_i32 v48
  let v56 : BitVec 32 := Scalar.select v55 c8_i32_38 v52
  let v60 : BitVec 32 := Scalar.select v59 c12_i32_42 v56
  let v64 : BitVec 32 := Scalar.select v63 c10_i32_46 v60
  let v68 : BitVec 32 := Scalar.select v67 c14_i32_50 v64
  let c1_i32_1758 : BitVec 32 := 1#32
  let v2685 : BitVec 32 := Scalar.muli v68 c1_i32_1758
  let v2686 : BitVec 32 := Scalar.addi c0_i32_1759 v2685
  v2686.toNat
def k0_dev19 (d0 : Dev nD) : Nat :=
  let c0_i32_2023 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_47 : BitVec 32 := 15#32
  let v65 : BitVec 1 := Scalar.cmpi .eq v2 c15_i32_47
  let c11_i32_48 : BitVec 32 := 11#32
  let c14_i32_43 : BitVec 32 := 14#32
  let v61 : BitVec 1 := Scalar.cmpi .eq v2 c14_i32_43
  let c15_i32_44 : BitVec 32 := 15#32
  let c13_i32_39 : BitVec 32 := 13#32
  let v57 : BitVec 1 := Scalar.cmpi .eq v2 c13_i32_39
  let c9_i32_40 : BitVec 32 := 9#32
  let c12_i32_35 : BitVec 32 := 12#32
  let v53 : BitVec 1 := Scalar.cmpi .eq v2 c12_i32_35
  let c13_i32_36 : BitVec 32 := 13#32
  let c11_i32_32 : BitVec 32 := 11#32
  let v49 : BitVec 1 := Scalar.cmpi .eq v2 c11_i32_32
  let c7_i32_33 : BitVec 32 := 7#32
  let c10_i32_29 : BitVec 32 := 10#32
  let v45 : BitVec 1 := Scalar.cmpi .eq v2 c10_i32_29
  let c14_i32 : BitVec 32 := 14#32
  let c9_i32_26 : BitVec 32 := 9#32
  let v41 : BitVec 1 := Scalar.cmpi .eq v2 c9_i32_26
  let c5_i32_27 : BitVec 32 := 5#32
  let c8_i32_23 : BitVec 32 := 8#32
  let v37 : BitVec 1 := Scalar.cmpi .eq v2 c8_i32_23
  let c12_i32 : BitVec 32 := 12#32
  let c7_i32_20 : BitVec 32 := 7#32
  let v33 : BitVec 1 := Scalar.cmpi .eq v2 c7_i32_20
  let c3_i32_21 : BitVec 32 := 3#32
  let c6_i32_17 : BitVec 32 := 6#32
  let v29 : BitVec 1 := Scalar.cmpi .eq v2 c6_i32_17
  let c10_i32 : BitVec 32 := 10#32
  let c5_i32_14 : BitVec 32 := 5#32
  let v25 : BitVec 1 := Scalar.cmpi .eq v2 c5_i32_14
  let c1_i32_15 : BitVec 32 := 1#32
  let c4_i32_11 : BitVec 32 := 4#32
  let v21 : BitVec 1 := Scalar.cmpi .eq v2 c4_i32_11
  let c8_i32 : BitVec 32 := 8#32
  let c3_i32_8 : BitVec 32 := 3#32
  let v17 : BitVec 1 := Scalar.cmpi .eq v2 c3_i32_8
  let c0_i32_9 : BitVec 32 := 0#32
  let c2_i32_5 : BitVec 32 := 2#32
  let v13 : BitVec 1 := Scalar.cmpi .eq v2 c2_i32_5
  let c6_i32 : BitVec 32 := 6#32
  let c1_i32_3 : BitVec 32 := 1#32
  let v9 : BitVec 1 := Scalar.cmpi .eq v2 c1_i32_3
  let c2_i32 : BitVec 32 := 2#32
  let c0_i32_1 : BitVec 32 := 0#32
  let v5 : BitVec 1 := Scalar.cmpi .eq v2 c0_i32_1
  let c4_i32 : BitVec 32 := 4#32
  let c0_i32 : BitVec 32 := 0#32
  let v3 : BitVec 32 := Scalar.muli v2 c0_i32
  let v6 : BitVec 32 := Scalar.select v5 c4_i32 v3
  let v10 : BitVec 32 := Scalar.select v9 c2_i32 v6
  let v14 : BitVec 32 := Scalar.select v13 c6_i32 v10
  let v18 : BitVec 32 := Scalar.select v17 c0_i32_9 v14
  let v22 : BitVec 32 := Scalar.select v21 c8_i32 v18
  let v26 : BitVec 32 := Scalar.select v25 c1_i32_15 v22
  let v30 : BitVec 32 := Scalar.select v29 c10_i32 v26
  let v34 : BitVec 32 := Scalar.select v33 c3_i32_21 v30
  let v38 : BitVec 32 := Scalar.select v37 c12_i32 v34
  let v42 : BitVec 32 := Scalar.select v41 c5_i32_27 v38
  let v46 : BitVec 32 := Scalar.select v45 c14_i32 v42
  let v50 : BitVec 32 := Scalar.select v49 c7_i32_33 v46
  let v54 : BitVec 32 := Scalar.select v53 c13_i32_36 v50
  let v58 : BitVec 32 := Scalar.select v57 c9_i32_40 v54
  let v62 : BitVec 32 := Scalar.select v61 c15_i32_44 v58
  let v66 : BitVec 32 := Scalar.select v65 c11_i32_48 v62
  let c1_i32_2022 : BitVec 32 := 1#32
  let v3123 : BitVec 32 := Scalar.muli v66 c1_i32_2022
  let v3124 : BitVec 32 := Scalar.addi c0_i32_2023 v3123
  v3124.toNat
abbrev stage0_0 : Fin 1 → Memref sig .tc .vmem S2x256x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S768x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S768x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x4096x768 : Shape := ⟨3, ![2, 4096, 768]⟩
abbrev S768x256 : Shape := ⟨2, ![768, 256]⟩
abbrev S256x768 : Shape := ⟨2, ![256, 768]⟩
abbrev S32 : Shape := ⟨1, ![32]⟩
abbrev S_ : Shape := ⟨0, ![]⟩
abbrev S4096 : Shape := ⟨1, ![4096]⟩
abbrev S4096x1 : Shape := ⟨2, ![4096, 1]⟩
abbrev S1x32 : Shape := ⟨2, ![1, 32]⟩
abbrev S4096x32 : Shape := ⟨2, ![4096, 32]⟩
abbrev S4096x32x2 : Shape := ⟨3, ![4096, 32, 2]⟩
abbrev S4096x64 : Shape := ⟨2, ![4096, 64]⟩
abbrev S2x4096x256 : Shape := ⟨3, ![2, 4096, 256]⟩
abbrev S2x4096x4x64 : Shape := ⟨4, ![2, 4096, 4, 64]⟩
abbrev S2x4096x4x32x2 : Shape := ⟨5, ![2, 4096, 4, 32, 2]⟩
abbrev S2x4096x4x32x1 : Shape := ⟨5, ![2, 4096, 4, 32, 1]⟩
abbrev S2x4096x4x32 : Shape := ⟨4, ![2, 4096, 4, 32]⟩
abbrev S1x4096x1x64 : Shape := ⟨4, ![1, 4096, 1, 64]⟩
abbrev S2x4x4096x4096 : Shape := ⟨4, ![2, 4, 4096, 4096]⟩
abbrev S2x4x4096 : Shape := ⟨3, ![2, 4, 4096]⟩
abbrev S2x4x4096x1 : Shape := ⟨4, ![2, 4, 4096, 1]⟩
abbrev S2x4x64x4096 : Shape := ⟨4, ![2, 4, 64, 4096]⟩

abbrev nBuf : Space → Nat
  | .hbm => 94
  | .vmem => 0
  | .smem => 0
  | _ => 0

abbrev bufTy : (tb : Table) → Fin (tcTables nBuf tb) → BufTy
  | .hbm, ⟨0, _⟩ => ⟨S2x4096x768, .f32⟩
  | .hbm, ⟨1, _⟩ => ⟨S768x256, .f32⟩
  | .hbm, ⟨2, _⟩ => ⟨S768x256, .f32⟩
  | .hbm, ⟨3, _⟩ => ⟨S768x256, .f32⟩
  | .hbm, ⟨4, _⟩ => ⟨S256x768, .f32⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .i32⟩
  | .hbm, ⟨23, _⟩ => ⟨S4096x1, .i32⟩
  | .hbm, ⟨24, _⟩ => ⟨S1x32, .f32⟩
  | .hbm, ⟨25, _⟩ => ⟨S4096x1, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S4096x32x2, .f32⟩
  | .hbm, ⟨31, _⟩ => ⟨S4096x64, .f32⟩
  | .hbm, ⟨32, _⟩ => ⟨S4096x32, .f32⟩
  | .hbm, ⟨33, _⟩ => ⟨S4096x32x2, .f32⟩
  | .hbm, ⟨34, _⟩ => ⟨S4096x64, .f32⟩
  | .hbm, ⟨35, _⟩ => ⟨S2x4096x256, .f32⟩
  | .hbm, ⟨36, _⟩ => ⟨S2x4096x4x64, .f32⟩
  | .hbm, ⟨37, _⟩ => ⟨S2x4096x4x32x2, .f32⟩
  | .hbm, ⟨38, _⟩ => ⟨S2x4096x4x32x1, .f32⟩
  | .hbm, ⟨39, _⟩ => ⟨S2x4096x4x32, .f32⟩
  | .hbm, ⟨40, _⟩ => ⟨S2x4096x4x32, .f32⟩
  | .hbm, ⟨41, _⟩ => ⟨S2x4096x4x32x1, .f32⟩
  | .hbm, ⟨42, _⟩ => ⟨S2x4096x4x32, .f32⟩
  | .hbm, ⟨43, _⟩ => ⟨S2x4096x4x32x1, .f32⟩
  | .hbm, ⟨44, _⟩ => ⟨S2x4096x4x32x1, .f32⟩
  | .hbm, ⟨45, _⟩ => ⟨S2x4096x4x32x2, .f32⟩
  | .hbm, ⟨46, _⟩ => ⟨S2x4096x4x64, .f32⟩
  | .hbm, ⟨47, _⟩ => ⟨S1x4096x1x64, .f32⟩
  | .hbm, ⟨48, _⟩ => ⟨S2x4096x4x64, .f32⟩
  | .hbm, ⟨49, _⟩ => ⟨S2x4096x4x64, .f32⟩
  | .hbm, ⟨50, _⟩ => ⟨S1x4096x1x64, .f32⟩
  | .hbm, ⟨51, _⟩ => ⟨S2x4096x4x64, .f32⟩
  | .hbm, ⟨52, _⟩ => ⟨S2x4096x4x64, .f32⟩
  | .hbm, ⟨53, _⟩ => ⟨S2x4096x4x64, .f32⟩
  | .hbm, ⟨54, _⟩ => ⟨S2x4096x256, .f32⟩
  | .hbm, ⟨55, _⟩ => ⟨S2x4096x4x64, .f32⟩
  | .hbm, ⟨56, _⟩ => ⟨S2x4096x4x32x2, .f32⟩
  | .hbm, ⟨57, _⟩ => ⟨S2x4096x4x32x1, .f32⟩
  | .hbm, ⟨58, _⟩ => ⟨S2x4096x4x32, .f32⟩
  | .hbm, ⟨59, _⟩ => ⟨S2x4096x4x32, .f32⟩
  | .hbm, ⟨60, _⟩ => ⟨S2x4096x4x32x1, .f32⟩
  | .hbm, ⟨61, _⟩ => ⟨S2x4096x4x32, .f32⟩
  | .hbm, ⟨62, _⟩ => ⟨S2x4096x4x32x1, .f32⟩
  | .hbm, ⟨63, _⟩ => ⟨S2x4096x4x32x1, .f32⟩
  | .hbm, ⟨64, _⟩ => ⟨S2x4096x4x32x2, .f32⟩
  | .hbm, ⟨65, _⟩ => ⟨S2x4096x4x64, .f32⟩
  | .hbm, ⟨66, _⟩ => ⟨S1x4096x1x64, .f32⟩
  | .hbm, ⟨67, _⟩ => ⟨S2x4096x4x64, .f32⟩
  | .hbm, ⟨68, _⟩ => ⟨S2x4096x4x64, .f32⟩
  | .hbm, ⟨69, _⟩ => ⟨S1x4096x1x64, .f32⟩
  | .hbm, ⟨70, _⟩ => ⟨S2x4096x4x64, .f32⟩
  | .hbm, ⟨71, _⟩ => ⟨S2x4096x4x64, .f32⟩
  | .hbm, ⟨72, _⟩ => ⟨S2x4096x4x64, .f32⟩
  | .hbm, ⟨73, _⟩ => ⟨S2x4096x256, .f32⟩
  | .hbm, ⟨74, _⟩ => ⟨S2x4096x4x64, .f32⟩
  | .hbm, ⟨75, _⟩ => ⟨S2x4x4096x4096, .f32⟩
  | .hbm, ⟨76, _⟩ => ⟨S_, .f32⟩
  | .hbm, ⟨77, _⟩ => ⟨S2x4x4096x4096, .f32⟩
  | .hbm, ⟨78, _⟩ => ⟨S2x4x4096x4096, .f32⟩
  | .hbm, ⟨79, _⟩ => ⟨S_, .f32⟩
  | .hbm, ⟨80, _⟩ => ⟨S2x4x4096, .f32⟩
  | .hbm, ⟨81, _⟩ => ⟨S2x4x4096x1, .f32⟩
  | .hbm, ⟨82, _⟩ => ⟨S2x4x4096x4096, .f32⟩
  | .hbm, ⟨83, _⟩ => ⟨S2x4x4096x4096, .f32⟩
  | .hbm, ⟨84, _⟩ => ⟨S2x4x4096x4096, .f32⟩
  | .hbm, ⟨85, _⟩ => ⟨S_, .f32⟩
  | .hbm, ⟨86, _⟩ => ⟨S2x4x4096, .f32⟩
  | .hbm, ⟨87, _⟩ => ⟨S2x4x4096x1, .f32⟩
  | .hbm, ⟨88, _⟩ => ⟨S2x4x4096x4096, .f32⟩
  | .hbm, ⟨89, _⟩ => ⟨S2x4x4096x4096, .f32⟩
  | .hbm, ⟨90, _⟩ => ⟨S2x4x64x4096, .f32⟩
  | .hbm, ⟨91, _⟩ => ⟨S2x4096x4x64, .f32⟩
  | .hbm, ⟨92, _⟩ => ⟨S2x4096x256, .f32⟩
  | .hbm, ⟨93, _⟩ => ⟨S2x4096x768, .f32⟩
  | _, _ => ⟨S2x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_3 : Ref sig .tc := ⟨.hbm, 76, rfl⟩
abbrev main_v66 : Ref sig .tc := ⟨.hbm, 77, rfl⟩
abbrev main_v67 : Ref sig .tc := ⟨.hbm, 78, rfl⟩
abbrev main_cst_4 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_cst_5 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩

abbrev nD : Nat := 1
abbrev τ : Topo := Topo.v7x

variable {F : FTy → Type} [FloatOps F]
-- ==== Proof.Body.lean ====
/-
The kernel's body, written once more with its repetitions named: the block stored in the first slot, the copy of a
slot to a neighbour, the attention step over one slot, the hop. `body_eq` says that this text is the printed body,
by unfolding. Everything the proof says about the body is said of these named pieces.
-/
module

public import proofs.«01_k».proof.Proof.Gen.KernelIdeal.Skeleton
public import Idealize.ShloMosaic.Lib.Tactic

@[expose] public section

noncomputable section

namespace Cert.Att

open Idealize.ShloMosaic Idealize.SL.Sem
open Idealize.ShloMosaic.TcCoe
open Cert.KernelIdeal Cert.KernelIdeal.Gen

variable {F : FTy → Type} [FloatOps F]

/-- A body's program, with results `α`. -/
abbrev Pg (F : FTy → Type) [FloatOps F] (α : Type) := Prog (TpuEff nD τ sig (Elt F) Λ₀ .tc) α

/-! ## Where things lie in the scratch array -/

theorem inb_slot : ∀ k : Fin 16, ∀ a, (![k.val, 0, 0, 0] : Fin 4 → Nat) a + S1x2x256x512.size a ≤ S16x2x256x512.size a := by
  decide

theorem inb_half : ∀ (k : Fin 16) (b : Fin 2), ∀ a,
    (![k.val, b.val, 0, 0] : Fin 4 → Nat) a + S1x1x256x512.size a ≤ S16x2x256x512.size a := by decide

theorem inb_part : ∀ (b : Fin 2) (t : Fin 2), ∀ a,
    (![0, b.val, 0, 256 * t.val] : Fin 4 → Nat) a + S1x1x256x256.size a ≤ S16x2x256x512.size a := by decide

theorem inb_head : ∀ (k : Fin 16) (b : Fin 2) (t : Fin 8), ∀ a,
    (![k.val, b.val, 0, 64 * t.val] : Fin 4 → Nat) a + S1x1x256x64.size a ≤ S16x2x256x512.size a := by decide

theorem inb_batch : ∀ b : Fin 2, ∀ a, (![b.val, 0, 0] : Fin 3 → Nat) a + S1x256x768.size a ≤ S2x256x768.size a := by
  decide

theorem inb2 : ∀ i : Fin 2, ∀ a, (![i.val] : Fin 1 → Nat) a + S1.size a ≤ S2.size a := by decide
theorem inb9 : ∀ i : Fin 9, ∀ a, (![i.val] : Fin 1 → Nat) a + S1.size a ≤ S9.size a := by decide
theorem inb8 : ∀ i : Fin 8, ∀ a, (![i.val] : Fin 1 → Nat) a + S1.size a ≤ S8.size a := by decide

/-- Slot `k` of the scratch array: both batches. -/
abbrev slotRect (k : Fin 16) := Rect.unit (s := S16x2x256x512) ![k.val, 0, 0, 0] S1x2x256x512.size (inb_slot k)

/-- Batch `b` of slot `k`. -/
abbrev halfRect (k : Fin 16) (b : Fin 2) :=
  Rect.unit (s := S16x2x256x512) ![k.val, b.val, 0, 0] S1x1x256x512.size (inb_half k b)

/-- The keys (`t = 0`) or the values (`t = 1`) of batch `b` in the first slot. -/
abbrev partRect (b t : Fin 2) :=
  Rect.unit (s := S16x2x256x512) ![0, b.val, 0, 256 * t.val] S1x1x256x256.size (inb_part b t)

/-- A stretch of 64 columns in batch `b` of slot `k`: head `t`'s keys for `t < 4`, head `t - 4`'s values after. -/
abbrev headRect (k : Fin 16) (b : Fin 2) (t : Fin 8) :=
  Rect.unit (s := S16x2x256x512) ![k.val, b.val, 0, 64 * t.val] S1x1x256x64.size (inb_head k b t)

theorem words_slot : ∀ k : Fin 16, (slotRect k).WholeWords (EltTy.packing .bf16) := by decide
theorem words_half : ∀ (k : Fin 16) (b : Fin 2), (halfRect k b).WholeWords (EltTy.packing .bf16) := by decide
theorem packed_part : ∀ b t : Fin 2, (partRect b t).PackedRows (EltTy.packing .bf16) := by decide

/-- A batch of a window's block. -/
abbrev batchRect (b : Fin 2) := Rect.unit (s := S2x256x768) ![b.val, 0, 0] S1x256x768.size (inb_batch b)

abbrev sem2 (a : DmaSems sig S2) (i : Fin 2) : DmaSem sig :=
  ((a.slice (Rect.unit (s := S2) ![i.val] S1.size (inb2 i))).squeeze S_ squeezes_S1_S_).sem
abbrev sem9 (a : DmaSems sig S9) (i : Fin 9) : DmaSem sig :=
  ((a.slice (Rect.unit (s := S9) ![i.val] S1.size (inb9 i))).squeeze S_ squeezes_S1_S_).sem
abbrev sem8 (a : DmaSems sig S8) (i : Fin 8) : DmaSem sig :=
  ((a.slice (Rect.unit (s := S8) ![i.val] S1.size (inb8 i))).squeeze S_ squeezes_S1_S_).sem

/-! ## The values -/

/-- The device's number as the body computes it. -/
abbrev devWord (d : Dev nD) : BitVec 32 := Scalar.remsi (Scalar.divsi (Dev.word d) 1#32) 16#32

/-- The table of cosines of the device's positions. -/
def cosT (d : Dev nD) : FVec F S256x256 .f32 := k0_pay7 (devWord d) (k0_pay1 (F := F)) k0_pay2 2#32 k0_pay3 k0_pay4 k0_pay5

/-- The table of sines. -/
def sinT (d : Dev nD) : FVec F S256x256 .f32 := k0_pay8 (devWord d) (k0_pay1 (F := F)) k0_pay2 2#32 k0_pay3 k0_pay4 k0_pay5

/-- The matrix that exchanges the columns of a pair, the first with its sign turned. -/
def rotM : FVec F S256x256 .f32 := k0_pay9 (F := F)

/-- A batch of the device's block times a weight matrix. -/
def proj (x : Vec F S1x256x768 .f32) (w : Vec F S768x256 .f32) : FVec F S256x256 .f32 :=
  matmul dot_S256x768_S768x256_S256x256_1_0_0_1_n_n none (shapeCast S256x768 x shapeCasts_S1x256x768_S256x768)
    (shapeCast S768x256 w shapeCasts_S768x256_S768x256) (constant S256x256 .f32 0x00000000#32)

/-- The rotary embedding at the device's positions. -/
def rope (d : Dev nD) (a : FVec F S256x256 .f32) : FVec F S256x256 .f32 :=
  addf (mulf a (cosT d))
    (mulf (matmul dot_S256x256_S256x256_S256x256_1_0_0_1_n_n none a rotM (constant S256x256 .f32 0x00000000#32)) (sinT d))

/-- The keys stored for a batch. -/
def keysV (d : Dev nD) (x : Vec F S1x256x768 .f32) (w : Vec F S768x256 .f32) : FVec F S256x256 .bf16 :=
  truncf .bf16 (rope d (proj x w)) bitsLt_bf16_f32

/-- The values stored for a batch. -/
def valsV (x : Vec F S1x256x768 .f32) (w : Vec F S768x256 .f32) : FVec F S256x256 .bf16 :=
  truncf .bf16 (proj x w) bitsLt_bf16_f32

theorem slices_head : ∀ t : Fin 4, S256x256.Slices ![0, 64 * t.val] S256x64 := by decide

/-- A head of the rotated queries. -/
def headQ (t : Fin 4) (q : FVec F S256x256 .f32) : FVec F S256x64 .f32 :=
  extractStridedSlice S256x64 ![0, 64 * t.val] q (slices_head t)

/-- A stretch of 64 columns read from a slot, widened. -/
def wide (k : Vec F S1x1x256x64 .bf16) : FVec F S256x64 .f32 :=
  extf .f32 (shapeCast S256x64 k shapeCasts_S1x1x256x64_S256x64) bitsLt_bf16_f32

/-- The scores of a head's queries against a slot's keys. -/
def scores (q : FVec F S256x64 .f32) (k : Vec F S1x1x256x64 .bf16) : FVec F S256x256 .f32 :=
  mulf (matmul dot_S256x64_S256x64_S256x256_1_1_0_0_n_n none q (wide k) (constant S256x256 .f32 0x00000000#32))
    (broadcast S256x256 (Scalar.ofBits .f32 0x3E000000#32))

/-- The rows' maxima. -/
def rowMax (s : FVec F S256x256 .f32) : FVec F S256x1 .f32 :=
  shapeCast S256x1 (multiReduction .maximumf [1] S256 s 0xFF800000#32 reduces_S256x256_S256 (.inl rfl) rfl) shapeCasts_S256_S256x1

/-- The scores' exponentials against a row bound. -/
def expo (s : FVec F S256x256 .f32) (m : FVec F S256x1 .f32) : FVec F S256x256 .f32 :=
  exp (subf s (broadcastTo S256x256 m broadcasts_S256x1_S256x256))

/-- The rows' sums. -/
def rowSum (p : FVec F S256x256 .f32) : FVec F S256x1 .f32 :=
  shapeCast S256x1 (multiReduction .add [1] S256 p 0x00000000#32 reduces_S256x256_S256 (.inl rfl) rfl) shapeCasts_S256_S256x1

/-- The weights times the slot's values. -/
def weigh (p : FVec F S256x256 .f32) (v : Vec F S1x1x256x64 .bf16) : FVec F S256x64 .f32 :=
  matmul dot_S256x256_S256x64_S256x64_1_0_0_1_n_n none p (wide v) (constant S256x64 .f32 0x00000000#32)

/-- The running state of a head: row bound, normaliser, weighted sum. -/
structure St (F : FTy → Type) where
  m : FVec F S256x1 .f32
  l : FVec F S256x1 .f32
  a : FVec F S256x64 .f32

/-- The state after the first slot. -/
def first (q : FVec F S256x64 .f32) (k v : Vec F S1x1x256x64 .bf16) : St F :=
  { m := rowMax (scores q k)
    l := rowSum (expo (scores q k) (rowMax (scores q k)))
    a := weigh (expo (scores q k) (rowMax (scores q k))) v }

/-- The row bound after one more slot. -/
def newM (m : FVec F S256x1 .f32) (q : FVec F S256x64 .f32) (k : Vec F S1x1x256x64 .bf16) : FVec F S256x1 .f32 :=
  maximumf m (rowMax (scores q k))

/-- What the old state is scaled by. -/
def scale (m m' : FVec F S256x1 .f32) : FVec F S256x1 .f32 := exp (subf m m')

/-- The state after one more slot. -/
def next (s : St F) (q : FVec F S256x64 .f32) (k v : Vec F S1x1x256x64 .bf16) : St F :=
  { m := newM s.m q k
    l := addf (mulf s.l (scale s.m (newM s.m q k))) (rowSum (expo (scores q k) (newM s.m q k)))
    a := addf (mulf s.a (broadcastTo S256x64 (scale s.m (newM s.m q k)) broadcasts_S256x1_S256x64))
      (weigh (expo (scores q k) (newM s.m q k)) v) }

/-- One slot more, or the first. -/
def upd : Option (St F) → FVec F S256x64 .f32 → Vec F S1x1x256x64 .bf16 → Vec F S1x1x256x64 .bf16 → St F
  | none, q, k, v => first q k v
  | some s, q, k, v => next s q k v

/-- A head's part of the context. -/
def ctxHead (s : St F) : FVec F S256x64 .f32 := divf s.a (broadcastTo S256x64 s.l broadcasts_S256x1_S256x64)

/-- A batch of the result. -/
def outV (s0 s1 s2 s3 : St F) (w : Vec F S256x768 .f32) : FVec F S256x768 .f32 :=
  matmul dot_S256x256_S256x768_S256x768_1_0_0_1_n_n none
    (concatenate S256x256 1 [⟨S256x64, ctxHead s0⟩, ⟨S256x64, ctxHead s1⟩, ⟨S256x64, ctxHead s2⟩, ⟨S256x64, ctxHead s3⟩]
      concatenates_S256x64_S256x64_S256x64_S256x64_S256x256_d1)
    (shapeCast S256x768 w shapeCasts_S256x768_S256x768) (constant S256x768 .f32 0x00000000#32)

/-! ## The body's pieces -/

section
variable (x : Memref sig .tc .vmem S2x256x768 .f32) (wq wk wv : Memref sig .tc .vmem S768x256 .f32)
  (wo : Memref sig .tc .vmem S256x768 .f32) (out : Memref sig .tc .vmem S2x256x768 .f32)
  (kv : Memref sig .tc .vmem S16x2x256x512 .bf16) (hkv : kv.IsWhole)

/-- Slot `k` as a copy names it. -/
abbrev slotM (k : Fin 16) : Memref sig .tc .vmem S2x256x512 .bf16 :=
  (kv.slice (slotRect k) (fun _ => rfl)).squeeze S2x256x512 squeezes_S1x2x256x512_S2x256x512

/-- Batch `b` of slot `k` as a copy names it. -/
abbrev halfM (k : Fin 16) (b : Fin 2) : Memref sig .tc .vmem S256x512 .bf16 :=
  (kv.slice (halfRect k b) (fun _ => rfl)).squeeze S256x512 squeezes_S1x1x256x512_S256x512

def loadX (b : Fin 2) : Pg F (Vec F S1x256x768 .f32) :=
  Prog.lift (.load x (batchRect b).toLoadRect (View.loadsAt_vmem h_S1x256x768))

def loadW (w : Memref sig .tc .vmem S768x256 .f32) : Pg F (Vec F S768x256 .f32) :=
  Prog.lift (.load w (Rect.unit (s := S768x256) ![0, 0] S768x256.size inb_S768x256_S768x256_0_0).toLoadRect
    (View.loadsAt_vmem h_S768x256))

def loadHead (k : Fin 16) (b : Fin 2) (t : Fin 8) : Pg F (Vec F S1x1x256x64 .bf16) :=
  Prog.lift (.load kv (headRect k b t).toLoadRect (View.loadsAt_vmem h_S1x1x256x64))

/-- Read and overwrite the keys or the values of a batch in the first slot. -/
def storePart (b t : Fin 2) (v : FVec F S256x256 .bf16) : Pg F PUnit := do
  let _ ← Prog.lift (.load kv (partRect b t).toLoadRect (View.loadsAt_vmem h_S1x1x256x256))
  Prog.lift (.store kv (partRect b t) (shapeCast S1x1x256x256 v shapeCasts_S256x256_S1x1x256x256) Finset.univ
    (View.stores_vmem h_S1x1x256x256 (hkv.storeExact_slice rfl _ (packed_part b t)) (fun _ => rfl)) (.inl rfl))

/-- The copy of a batch of a slot into a batch of a slot of another device. -/
def sendHalf (d : Dev nD) (k k' : Fin 16) (b : Fin 2) (ss rs : DmaSem sig) : Pg F PUnit :=
  Prog.lift (.enqueueDma (halfM kv k b) (.remote (Dev.tc d) (halfM kv k' b) (.dma ss)) (.dma rs)
    ((hkv.wordExact_slice rfl _ (words_half k b)).reshape _ _) ((hkv.wordExact_slice rfl _ (words_half k' b)).reshape _ _)
    ⟨⟨rfl, Or.inl rfl⟩, trivial⟩)

/-- The copy of a slot into a slot of another device. -/
def sendSlot (d : Dev nD) (k k' : Fin 16) (ss rs : DmaSem sig) : Pg F PUnit :=
  Prog.lift (.enqueueDma (slotM kv k) (.remote (Dev.tc d) (slotM kv k') (.dma ss)) (.dma rs)
    ((hkv.wordExact_slice rfl _ (words_slot k)).reshape _ _) ((hkv.wordExact_slice rfl _ (words_slot k')).reshape _ _)
    ⟨⟨rfl, Or.inl rfl⟩, trivial⟩)

/-- A wait for the copy of a batch of slot `k` into slot `k'`. -/
def waitHalf (k k' : Fin 16) (b : Fin 2) (s : DmaSem sig) : Pg F PUnit :=
  Prog.lift (.waitDma2 s (halfM kv k b) (halfM kv k' b)
    ((hkv.wordExact_slice rfl _ (words_half k b)).reshape _ _) ((hkv.wordExact_slice rfl _ (words_half k' b)).reshape _ _))

/-- A wait for the copy of slot `k` into slot `k'`. -/
def waitSlot (k k' : Fin 16) (s : DmaSem sig) : Pg F PUnit :=
  Prog.lift (.waitDma2 s (slotM kv k) (slotM kv k')
    ((hkv.wordExact_slice rfl _ (words_slot k)).reshape _ _) ((hkv.wordExact_slice rfl _ (words_slot k')).reshape _ _))

/-- The keys and the values of a batch, computed and stored in the first slot. -/
def fill (d : Dev nD) (b : Fin 2) : Pg F PUnit := do
  let xb ← loadX x b
  let k ← loadW wk
  let v ← loadW wv
  storePart kv hkv b 0 (keysV d xb k)
  storePart kv hkv b 1 (valsV xb v)

/-- The rotated queries of a batch. -/
def query (d : Dev nD) (b : Fin 2) : Pg F (FVec F S256x256 .f32) := do
  let xb ← loadX x b
  let q ← loadW wq
  pure (rope d (proj xb q))

/-- The number of a head's keys among the stretches of 64 columns. -/
abbrev kIx (t : Fin 4) : Fin 8 := ⟨t.val, by omega⟩
/-- The number of a head's values. -/
abbrev vIx (t : Fin 4) : Fin 8 := ⟨t.val + 4, by omega⟩

/-- One head's step over a slot. -/
def stepHead (k : Fin 16) (b : Fin 2) (t : Fin 4) (q : FVec F S256x256 .f32) (s : Option (St F)) : Pg F (St F) := do
  let kc ← loadHead kv k b (kIx t)
  let vc ← loadHead kv k b (vIx t)
  pure (upd s (headQ t q) kc vc)

/-- Every head's step over a slot. -/
def consume (k : Fin 16) (q : Fin 2 → FVec F S256x256 .f32) (s : Fin 2 → Fin 4 → Option (St F)) :
    Pg F (Fin 2 → Fin 4 → St F) := do
  let s00 ← stepHead kv k 0 0 (q 0) (s 0 0)
  let s01 ← stepHead kv k 0 1 (q 0) (s 0 1)
  let s02 ← stepHead kv k 0 2 (q 0) (s 0 2)
  let s03 ← stepHead kv k 0 3 (q 0) (s 0 3)
  let s10 ← stepHead kv k 1 0 (q 1) (s 1 0)
  let s11 ← stepHead kv k 1 1 (q 1) (s 1 1)
  let s12 ← stepHead kv k 1 2 (q 1) (s 1 2)
  let s13 ← stepHead kv k 1 3 (q 1) (s 1 3)
  pure ![![s00, s01, s02, s03], ![s10, s11, s12, s13]]

/-- A batch of the result, stored. -/
def finish (b : Fin 2) (s : Fin 4 → St F) : Pg F PUnit := do
  let w ← Prog.lift (.load wo (Rect.unit (s := S256x768) ![0, 0] S256x768.size inb_S256x768_S256x768_0_0).toLoadRect
    (View.loadsAt_vmem h_S256x768))
  let _ ← Prog.lift (.load out (batchRect b).toLoadRect (View.loadsAt_vmem h_S1x256x768))
  Prog.lift (.store out (batchRect b) (shapeCast S1x256x768 (outV (s 0) (s 1) (s 2) (s 3) w) shapeCasts_S256x768_S1x256x768)
    Finset.univ (View.stores_vmem_bits_univ h_S1x256x768 rfl) (.inl rfl))

variable (sr : DmaSems sig S2) (rr : DmaSems sig S9) (sl : DmaSems sig S2) (rl : DmaSems sig S8)

/-- The device to the left. -/
abbrev leftDev (d : Dev nD) : Dev nD := ⟨k0_dev1 d, k0_dev1_lt d⟩
/-- The device to the right. -/
abbrev rightDev (d : Dev nD) : Dev nD := ⟨k0_dev2 d, k0_dev2_lt d⟩

/-- The handshake with the two neighbours. -/
def handshake (d : Dev nD) : Pg F PUnit := do
  semSignalWord (leftDev d) (SemArray.scalar (sig.barrier 0 rfl) : Sems sig S_).sem 1#32
  semSignalWord (rightDev d) (SemArray.scalar (sig.barrier 0 rfl) : Sems sig S_).sem 1#32
  semWaitWord (SemArray.scalar (sig.barrier 0 rfl) : Sems sig S_).sem 2#32

/-- The semaphore a batch's first hop arrives on, to the right. -/
abbrev r0 (b : Fin 2) : Fin 9 := ⟨8 * b.val, by omega⟩
/-- The semaphore a batch's first hop arrives on, to the left. -/
abbrev l0 (b : Fin 2) : Fin 8 := ⟨7 * b.val, by omega⟩

/-- A batch of the first slot on its way to both neighbours. -/
def sendFirst (d : Dev nD) (b : Fin 2) : Pg F PUnit := do
  sendHalf kv hkv (rightDev d) 0 1 b (sem2 sr b) (sem9 rr (r0 b))
  sendHalf kv hkv (leftDev d) 0 9 b (sem2 sl b) (sem8 rl (l0 b))

/-- The waits for a batch's first hop. -/
def waitFirst (b : Fin 2) : Pg F PUnit := do
  waitHalf kv hkv 1 0 b (sem2 sr b)
  waitHalf kv hkv 0 1 b (sem9 rr (r0 b))
  waitHalf kv hkv 9 0 b (sem2 sl b)
  waitHalf kv hkv 0 9 b (sem8 rl (l0 b))

/-- The slot of the block that came `h + 1` hops from the left. -/
abbrev rs (h : Nat) (hh : h < 8) : Fin 16 := ⟨h + 1, by omega⟩
/-- The slot of the block that came `h + 1` hops from the right. -/
abbrev ls (h : Nat) (hh : h < 7) : Fin 16 := ⟨h + 9, by omega⟩

abbrev par (h : Nat) : Fin 2 := ⟨(h + 1) % 2, Nat.mod_lt _ (by omega)⟩
abbrev rn (h : Nat) (hh : h < 7) : Fin 9 := ⟨h + 1, by omega⟩
abbrev ln (h : Nat) (hh : h < 6) : Fin 8 := ⟨h + 1, by omega⟩

/-- The copy to the right of hop `h + 2`. -/
def sendR (d : Dev nD) (h : Nat) (hh : h < 7) : Pg F PUnit :=
  sendSlot kv hkv (rightDev d) (rs h (by omega)) (rs (h + 1) (by omega)) (sem2 sr (par h)) (sem9 rr (rn h hh))

/-- The copy to the left. -/
def sendL (d : Dev nD) (h : Nat) (hh : h < 6) : Pg F PUnit :=
  sendSlot kv hkv (leftDev d) (ls h (by omega)) (ls (h + 1) (by omega)) (sem2 sl (par h)) (sem8 rl (ln h hh))

def waitR (h : Nat) (hh : h < 7) : Pg F PUnit := do
  waitSlot kv hkv (rs (h + 1) (by omega)) (rs h (by omega)) (sem2 sr (par h))
  waitSlot kv hkv (rs h (by omega)) (rs (h + 1) (by omega)) (sem9 rr (rn h hh))

def waitL (h : Nat) (hh : h < 6) : Pg F PUnit := do
  waitSlot kv hkv (ls (h + 1) (by omega)) (ls h (by omega)) (sem2 sl (par h))
  waitSlot kv hkv (ls h (by omega)) (ls (h + 1) (by omega)) (sem8 rl (ln h hh))

/-- A hop: both blocks that arrived last go on while they are attended to. -/
def hop (d : Dev nD) (q : Fin 2 → FVec F S256x256 .f32) (h : Nat) (hh : h < 6) (s : Fin 2 → Fin 4 → St F) :
    Pg F (Fin 2 → Fin 4 → St F) := do
  sendR kv hkv sr rr d h (by omega)
  sendL kv hkv sl rl d h hh
  let s' ← consume kv (rs h (by omega)) q (fun b t => some (s b t))
  let s'' ← consume kv (ls h (by omega)) q (fun b t => some (s' b t))
  waitR kv hkv sr rr h (by omega)
  waitL kv hkv sl rl h hh
  pure s''

/-- The last hop, to the right alone, and the last slot. -/
def lastHop (d : Dev nD) (q : Fin 2 → FVec F S256x256 .f32) (s : Fin 2 → Fin 4 → St F) :
    Pg F (Fin 2 → Fin 4 → St F) := do
  sendR kv hkv sr rr d 6 (by omega)
  let s' ← consume kv (rs 6 (by omega)) q (fun b t => some (s b t))
  let s'' ← consume kv (ls 6 (by omega)) q (fun b t => some (s' b t))
  waitR kv hkv sr rr 6 (by omega)
  consume kv (rs 7 (by omega)) q (fun b t => some (s'' b t))

/-- The body. -/
def body : Pg F PUnit := do
  let d ← Prog.lift .deviceId
  handshake d
  fill x wk wv kv hkv d 0
  sendFirst kv hkv sr rr sl rl d 0
  fill x wk wv kv hkv d 1
  sendFirst kv hkv sr rr sl rl d 1
  let q0 ← query x wq d 0
  let q1 ← query x wq d 1
  let s0 ← consume kv 0 ![q0, q1] (fun _ _ => none)
  waitFirst kv hkv sr rr sl rl 0
  waitFirst kv hkv sr rr sl rl 1
  let s1 ← hop kv hkv sr rr sl rl d ![q0, q1] 0 (by omega) s0
  let s2 ← hop kv hkv sr rr sl rl d ![q0, q1] 1 (by omega) s1
  let s3 ← hop kv hkv sr rr sl rl d ![q0, q1] 2 (by omega) s2
  let s4 ← hop kv hkv sr rr sl rl d ![q0, q1] 3 (by omega) s3
  let s5 ← hop kv hkv sr rr sl rl d ![q0, q1] 4 (by omega) s4
  let s6 ← hop kv hkv sr rr sl rl d ![q0, q1] 5 (by omega) s5
  let s7 ← lastHop kv hkv sr rr d ![q0, q1] s6
  finish wo out 0 (s7 0)
  finish wo out 1 (s7 1)

end

/-- The printed body is the one above. -/
theorem body_eq (x : Memref sig .tc .vmem S2x256x768 .f32) (h0 : x.IsWhole) (wq : Memref sig .tc .vmem S768x256 .f32) (h1 : wq.IsWhole)
    (wk : Memref sig .tc .vmem S768x256 .f32) (h2 : wk.IsWhole) (wv : Memref sig .tc .vmem S768x256 .f32) (h3 : wv.IsWhole)
    (wo : Memref sig .tc .vmem S256x768 .f32) (h4 : wo.IsWhole) (out : Memref sig .tc .vmem S2x256x768 .f32) (h5 : out.IsWhole)
    (kv : Memref sig .tc .vmem S16x2x256x512 .bf16) (hkv : kv.IsWhole)
    (sr : DmaSems sig S2) (rr : DmaSems sig S9) (sl : DmaSems sig S2) (rl : DmaSems sig S8) :
    cc0_body (F := F) x h0 wq h1 wk h2 wv h3 wo h4 out h5 kv hkv sr rr sl rl
      = body x wq wk wv wo out kv hkv sr rr sl rl := by sl_kernel_rfl

end Cert.Att
-- ==== Proof.Content.lean ====
/-
What the scratch array holds. The devices stand on a ring; slot `s` of a device's scratch array holds, once it has
arrived, the keys and the values of one device of the ring: its own for `s = 0`, those of the device `s` places to the
left for `1 ≤ s ≤ 8`, those of the device `s - 8` places to the right for `9 ≤ s`. The lemmas here say that each copy,
and the stores that fill the first slot, leave these contents.
-/
module

public import proofs.«01_k».proof.Proof.Body
public import Idealize.ShloMosaic.Lib.ValueLayout

@[expose] public section

noncomputable section

namespace Cert.Att

open Idealize.ShloMosaic Idealize.SL.Sem
open Idealize.ShloMosaic.TcCoe
open Cert.KernelIdeal Cert.KernelIdeal.Gen
open Idealize.ShloMosaic.ValueIdx

variable {F : FTy → Type} [FloatOps F]

/-! ## The ring -/

/-- The device to the right. -/
def nxt (c : Dev nD) : Dev nD := (![4, 2, 6, 0, 8, 1, 10, 3, 12, 5, 14, 7, 13, 9, 15, 11] : Fin 16 → Fin 16) c
/-- The device to the left. -/
def prv (c : Dev nD) : Dev nD := (![3, 5, 1, 7, 0, 9, 2, 11, 4, 13, 6, 15, 8, 12, 10, 14] : Fin 16 → Fin 16) c

theorem nxt_prv : ∀ c : Dev nD, nxt (prv c) = c := by decide
theorem prv_nxt : ∀ c : Dev nD, prv (nxt c) = c := by decide
theorem rightDev_eq : ∀ c : Dev nD, rightDev c = nxt c := by decide +kernel
theorem leftDev_eq : ∀ c : Dev nD, leftDev c = prv c := by decide +kernel

def ring : Dev nD ≃ Dev nD := ⟨nxt, prv, prv_nxt, nxt_prv⟩

/-- `n` places to the right. -/
def nxts : Nat → Dev nD → Dev nD
  | 0, c => c
  | n + 1, c => nxt (nxts n c)
/-- `n` places to the left. -/
def prvs : Nat → Dev nD → Dev nD
  | 0, c => c
  | n + 1, c => prv (prvs n c)

/-- The device whose keys and values slot `s` of device `c` holds. -/
def src (c : Dev nD) (s : Fin 16) : Dev nD := if s.val ≤ 8 then prvs s.val c else nxts (s.val - 8) c

theorem src_zero (c : Dev nD) : src c 0 = c := rfl

/-! ## The regions of the scratch array -/

/-- The scratch array. -/
abbrev kvM : Memref sig .tc .vmem S16x2x256x512 .bf16 := Memref.whole cc0_scratch0

/-- A slot, or a batch of one. -/
abbrev Reg := Fin 16 × Option (Fin 2)

/-- The elements of a region. -/
def rset : Reg → Finset S16x2x256x512.Idx
  | (k, none) => (slotRect k).set
  | (k, some b) => (halfRect k b).set

theorem mem_slot {k : Fin 16} {i : S16x2x256x512.Idx} : i ∈ rset (k, none) ↔ (i 0 : Nat) = k.val := by
  unfold rset
  rw [Rect.mem_set_unit]
  constructor
  · intro h; have := h 0; simp at this; omega
  · intro h a
    have := (i a).isLt
    fin_cases a <;> simp at * <;> omega

theorem mem_half {k : Fin 16} {b : Fin 2} {i : S16x2x256x512.Idx} :
    i ∈ rset (k, some b) ↔ (i 0 : Nat) = k.val ∧ (i 1 : Nat) = b.val := by
  unfold rset
  rw [Rect.mem_set_unit]
  constructor
  · intro h; have h0 := h 0; have h1 := h 1; simp at h0 h1; omega
  · rintro ⟨h0, h1⟩ a
    have := (i a).isLt
    fin_cases a <;> simp at * <;> omega

theorem slot_view_set (k : Fin 16) : (slotM kvM k).view.set = rset (k, none) := by
  show ((View.whole cc0_scratch0).slice (slotRect k) |>.reshape _ _).set = _
  rw [View.set_reshape]; exact View.set_slice_whole _ _

theorem half_view_set (k : Fin 16) (b : Fin 2) : (halfM kvM k b).view.set = rset (k, some b) := by
  show ((View.whole cc0_scratch0).slice (halfRect k b) |>.reshape _ _).set = _
  rw [View.set_reshape]; exact View.set_slice_whole _ _

/-- The slots are all of the array, -/
theorem slots_univ : (Finset.univ : Finset S16x2x256x512.Idx) = (Finset.univ : Finset (Fin 16)).biUnion fun k => rset (k, none) := by
  ext i
  simp only [Finset.mem_univ, Finset.mem_biUnion, true_and, true_iff]
  exact ⟨i 0, mem_slot.mpr rfl⟩

/-- no two of them with an element in common, -/
theorem slots_disjoint (k k' : Fin 16) (h : k ≠ k') : Disjoint (rset (k, none)) (rset (k', none)) := by
  refine Finset.disjoint_left.mpr fun i hi hi' => h (Fin.ext ?_)
  rw [← mem_slot.mp hi, ← mem_slot.mp hi']

/-- and a slot is its two batches. -/
theorem slot_halves (k : Fin 16) : rset (k, none) = rset (k, some 0) ∪ rset (k, some 1) := by
  ext i
  rw [Finset.mem_union, mem_slot, mem_half, mem_half]
  have := (i 1).isLt
  simp at *; omega

theorem halves_disjoint (k : Fin 16) : Disjoint (rset (k, some 0)) (rset (k, some 1)) := by
  refine Finset.disjoint_left.mpr fun i hi hi' => ?_
  have h0 := (mem_half.mp hi).2
  have h1 := (mem_half.mp hi').2
  rw [h0] at h1; exact absurd h1 (by decide)

/-! ## The contents -/

/-- The keys (`0`) and values (`1`) of each batch of each device. -/
abbrev Parts (F : FTy → Type) := Dev nD → Fin 2 → Fin 2 → Vec F S1x1x256x256 .bf16

variable (P : Parts F)

/-- A device's keys and values side by side: row `i`, column `j` of batch `b`. -/
def kvEl (d : Dev nD) (b : Fin 2) (i : Fin 256) (j : Fin 512) : Elt F .bf16 :=
  P d b ⟨j.val / 256, by omega⟩ (ix4 (n0 := 1) (n1 := 1) 0 0 i ⟨j.val % 256, Nat.mod_lt _ (by omega)⟩)

/-- The scratch array of device `c`, every slot arrived. -/
def kvAll (c : Dev nD) : (cc0_scratch0 : Ref sig .tc).ty.Contents (Elt F) := fun i : S16x2x256x512.Idx =>
  kvEl P (src c (i 0)) (i 1) (i 2) (i 3)

theorem kvAll_congr {c c' : Dev nD} {i j : S16x2x256x512.Idx} (h0 : src c (i 0) = src c' (j 0)) (h1 : i 1 = j 1)
    (h2 : i 2 = j 2) (h3 : i 3 = j 3) : kvAll P c i = kvAll P c' j := by
  unfold kvAll; rw [h0, h1, h2, h3]

theorem copy_slot {c c' : Dev nD} {k k' : Fin 16} (h : src c k = src c' k') (fd : (cc0_scratch0 : Ref sig .tc).ty.Contents (Elt F))
    (i : S16x2x256x512.Idx) (hi : i ∈ rset (k', none)) :
    (slotM kvM k').view.write (Elt F) fd ((slotM kvM k).view.read (Elt F) (kvAll P c)) Finset.univ i = kvAll P c' i := by
  rw [← slot_view_set] at hi
  obtain ⟨x, -, rfl⟩ := Finset.mem_map.mp hi
  rw [View.write_emb_of_mem _ _ (Finset.mem_univ x)]
  show kvAll P c ((slotRect k).emb (Shape.reshapeEquiv squeezes_S1x2x256x512_S2x256x512.numel_eq x)) = kvAll P c' ((slotRect k').emb (Shape.reshapeEquiv squeezes_S1x2x256x512_S2x256x512.numel_eq x))
  generalize Shape.reshapeEquiv squeezes_S1x2x256x512_S2x256x512.numel_eq x = y
  have hy : (y 0 : Nat) < 1 := (y 0).isLt
  have e (k : Fin 16) : (slotRect k).emb y 0 = k := Fin.ext (by
    show k.val + 1 * (y 0 : Nat) = k.val; omega)
  refine kvAll_congr P ?_ rfl rfl rfl
  rw [e, e]; exact h

theorem copy_half {c c' : Dev nD} {k k' : Fin 16} {b : Fin 2} (h : src c k = src c' k') (fd : (cc0_scratch0 : Ref sig .tc).ty.Contents (Elt F))
    (i : S16x2x256x512.Idx) (hi : i ∈ rset (k', some b)) :
    (halfM kvM k' b).view.write (Elt F) fd ((halfM kvM k b).view.read (Elt F) (kvAll P c)) Finset.univ i = kvAll P c' i := by
  rw [← half_view_set] at hi
  obtain ⟨x, -, rfl⟩ := Finset.mem_map.mp hi
  rw [View.write_emb_of_mem _ _ (Finset.mem_univ x)]
  show kvAll P c ((halfRect k b).emb (Shape.reshapeEquiv squeezes_S1x1x256x512_S256x512.numel_eq x)) = kvAll P c' ((halfRect k' b).emb (Shape.reshapeEquiv squeezes_S1x1x256x512_S256x512.numel_eq x))
  generalize Shape.reshapeEquiv squeezes_S1x1x256x512_S256x512.numel_eq x = y
  have hy : (y 0 : Nat) < 1 := (y 0).isLt
  have e (k : Fin 16) : (halfRect k b).emb y 0 = k := Fin.ext (by
    show k.val + 1 * (y 0 : Nat) = k.val; omega)
  refine kvAll_congr P ?_ rfl rfl rfl
  rw [e, e]; exact h

/-- What the stores of the first slot go through. -/
theorem part_subset (b t : Fin 2) : (partRect b t).set ⊆ rset (0, some b) := fun i hi => by
  rw [Rect.mem_set_unit] at hi
  have h0 := hi 0
  have h1 := hi 1
  rw [mem_half]; simp at h0 h1 ⊢; omega

theorem part_emb (b t : Fin 2) {i : S16x2x256x512.Idx} (h : i ∈ rset (0, some b)) (ht : (i 3).val / 256 = t.val) :
    (partRect b t).emb (ix4 0 0 (i 2) ⟨(i 3).val % 256, Nat.mod_lt _ (by omega)⟩) = i := by
  have hh := mem_half.mp h
  funext a
  refine Fin.ext ?_
  show (![0, b.val, 0, 256 * t.val] : Fin 4 → Nat) a + 1 * _ = _
  fin_cases a
  · show 0 + 1 * 0 = (i 0 : Nat); omega
  · show b.val + 1 * 0 = (i 1 : Nat); omega
  · show 0 + 1 * (i 2 : Nat) = (i 2 : Nat); omega
  · show 256 * t.val + 1 * ((i 3 : Nat) % 256) = (i 3 : Nat); omega

theorem not_mem_part (b t : Fin 2) {i : S16x2x256x512.Idx} (ht : (i 3).val / 256 ≠ t.val) : i ∉ (partRect b t).set := fun hi => by
  rw [Rect.mem_set_unit] at hi
  have h3 := hi 3
  simp at h3; omega

/-- A write through a part, under it and outside it. -/
theorem write_part (f : (cc0_scratch0 : Ref sig .tc).ty.Contents (Elt F)) (b t : Fin 2) (w : Vec F S1x1x256x256 .bf16)
    {i : S16x2x256x512.Idx} (h : i ∈ rset (0, some b)) :
    (kvM.access (partRect b t)).write (Elt F) f w Finset.univ i
      = if (i 3).val / 256 = t.val then w (ix4 0 0 (i 2) ⟨(i 3).val % 256, Nat.mod_lt _ (by omega)⟩) else f i := by
  split
  · rename_i ht
    have e := part_emb b t h ht
    revert e
    generalize (ix4 0 0 (i 2) ⟨(i 3).val % 256, Nat.mod_lt _ (by omega)⟩ : S1x1x256x256.Idx) = x
    intro e
    rw [← e]
    show (kvM.access (partRect b t)).write (Elt F) f w Finset.univ ((kvM.access (partRect b t)).emb x) = w x
    rw [View.write_emb]
    exact if_pos (Finset.mem_univ x)
  · rename_i ht
    rw [View.write_of_not_mem]
    rw [View.setOn_univ]
    exact fun hi => not_mem_part b t ht ((View.set_slice_whole cc0_scratch0 (partRect b t)) ▸ hi)

/-- The two stores of a batch leave the batch's contents. -/
theorem fill_half (c : Dev nD) (b : Fin 2) (f : (cc0_scratch0 : Ref sig .tc).ty.Contents (Elt F)) (i : S16x2x256x512.Idx)
    (h : i ∈ rset (0, some b)) :
    (kvM.access (partRect b 1)).write (Elt F) ((kvM.access (partRect b 0)).write (Elt F) f (P c b 0) Finset.univ) (P c b 1) Finset.univ i
      = kvAll P c i := by
  rw [write_part _ _ _ _ h, write_part _ _ _ _ h]
  have hh := mem_half.mp h
  have h3 : (i 3 : Nat) < 512 := (i 3).isLt
  have e0 : (i 0 : Fin 16) = (0 : Fin 16) := Fin.ext hh.1
  have e1 : (i 1 : Fin 2) = b := Fin.ext hh.2
  unfold kvAll
  rw [e0, e1, src_zero]
  unfold kvEl
  split
  · rename_i ht
    rw [show (⟨(i 3 : Nat) / 256, by omega⟩ : Fin 2) = 1 from Fin.ext ht]
  · rename_i ht
    have : (i 3 : Nat) / 256 = 0 := by have : ((1 : Fin 2) : Nat) = 1 := rfl; omega
    rw [if_pos (show (i 3 : Nat) / 256 = ((0 : Fin 2) : Nat) from this), show (⟨(i 3 : Nat) / 256, by omega⟩ : Fin 2) = 0 from Fin.ext this]

/-- What a load of 64 columns of a slot reads. -/
def headAt (c : Dev nD) (k : Fin 16) (b : Fin 2) (t : Fin 8) : Vec F S1x1x256x64 .bf16 :=
  (kvM.view).readAt (Elt F) (headRect k b t).toLoadRect (kvAll P c)

theorem head_subset (k : Fin 16) (b : Fin 2) (t : Fin 8) : kvM.view.setOn (headRect k b t).toLoadRect.set ⊆ rset (k, none) := by
  intro i hi
  obtain ⟨j, hj, rfl⟩ := Finset.mem_map.mp hi
  rw [show kvM.view.emb j = j from rfl, mem_slot]
  have h0 := (Rect.mem_set_unit.mp hj) 0
  simp at h0; omega

end Cert.Att
-- ==== Proof.Ring.lean ====
/-
The protocol. Every device owns one cell per semaphore: the barrier's, one per send semaphore, one per receive
semaphore. A LEG is one remote copy of the body: legs 0 to 8 go to the right, 9 to 16 to the left; the first two of each
direction carry the two batches of the sender's first slot, each later one a slot that arrived before. A receive cell has
one round, paid by the leg that arrives on it; a send cell has a round for each leg that leaves on it. A device's barrier
cell has one round with two payers: the neighbour to the left hands over, with its signal, the slots this device will
write on it — the slots a leg to the left fills — and the neighbour to the right those a leg to the right fills.
-/
module

public import proofs.«01_k».proof.Proof.Content
public import proofs.«01_k».proof.Proof.Gen.KernelIdeal.Launch
public import Idealize.ShloMosaic.Lib.Pipeline.Launch

@[expose] public section

noncomputable section

namespace Cert.Att

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- The barrier semaphore. -/
abbrev barS : Sem sig := (SemArray.scalar (sig.barrier 0 rfl) : Sems sig S_).sem

/-- A device's semaphores: the barrier's, then the body's copies', in the order they are numbered. -/
def csem (k : Fin 22) : SemLoc sig := if k.val = 0 then .reg barS else .dma (⟨k.val + 5, by have := k.isLt; show k.val + 5 < 27; omega⟩ : Fin 27)
abbrev kcell (c : Dev nD) (k : Fin 22) : GSem nD τ sig := ((c : Thread nD τ), csem k)
abbrev barCell (c : Dev nD) : GSem nD τ sig := kcell c 0

theorem csem_zero : csem 0 = .reg barS := rfl
theorem csem_injective : Function.Injective csem := by decide

/-! ## The legs -/

abbrev Leg := Fin 17

/-- Whether a leg goes to the right. -/
abbrev toR (g : Leg) : Prop := g.val < 9
/-- A leg's number among those of its direction. -/
abbrev num (g : Leg) : Nat := if toR g then g.val else g.val - 9

/-- Where a leg goes. -/
def dst (g : Leg) (c : Dev nD) : Dev nD := if toR g then nxt c else prv c
/-- Where the leg that arrives on a device comes from. -/
def org (g : Leg) (c : Dev nD) : Dev nD := if toR g then prv c else nxt c

theorem dst_org (g : Leg) (c : Dev nD) : dst g (org g c) = c := by
  unfold dst org; split <;> simp only [nxt_prv, prv_nxt]
theorem org_dst (g : Leg) (c : Dev nD) : org g (dst g c) = c := by
  unfold dst org; split <;> simp only [nxt_prv, prv_nxt]

def legEquiv (g : Leg) : Dev nD ≃ Dev nD := ⟨dst g, org g, org_dst g, dst_org g⟩

/-- The send cell of a leg, -/
def sendIx (g : Leg) : Fin 22 := Fin.ofNat 22 ((if toR g then 1 else 12) + (if num g < 2 then num g else (num g + 1) % 2))
/-- its round there, -/
def sendRd (g : Leg) : Nat := if num g < 2 then 0 else num g / 2
/-- the cell it arrives on, -/
def recvIx (g : Leg) : Fin 22 :=
  Fin.ofNat 22 (if toR g then (if num g = 0 then 3 else if num g = 1 then 11 else num g + 2)
    else if num g = 0 then 14 else if num g = 1 then 21 else num g + 13)
/-- the region it reads, -/
def srcReg (g : Leg) : Reg :=
  if num g < 2 then (0, some (Fin.ofNat 2 (num g))) else (Fin.ofNat 16 (if toR g then num g - 1 else num g + 7), none)
/-- the region it writes. -/
def dstReg (g : Leg) : Reg :=
  if num g < 2 then ((if toR g then 1 else 9), some (Fin.ofNat 2 (num g))) else (Fin.ofNat 16 (if toR g then num g else num g + 8), none)

/-! ## Contents and payloads -/

variable (P : Parts F)

/-- Elements `S` of a device's scratch array at contents `f`. -/
def scr (c : Dev nD) (S : Finset S16x2x256x512.Idx) (q : PosShare TreeShare) (f : (cc0_scratch0 : Ref sig .tc).ty.Contents (Elt F)) : sProp 𝕄 :=
  ((c : Thread nD τ).loc cc0_scratch0) ↦[S]{q} f
/-- A region holding what it is to hold. -/
def pts (c : Dev nD) (r : Reg) (q : PosShare TreeShare) : sProp 𝕄 := scr c (rset r) q (kvAll P c)
/-- A region holding anything. -/
def raw (c : Dev nD) (r : Reg) : sProp 𝕄 := iprop(∃ f, scr (F := F) c (rset r) fullShare f)

instance scr_storable (c : Dev nD) (S q) (f) : BI.Storable (upEmb : UEmb _ 𝕄) (scr (F := F) c S q f) := by unfold scr; infer_instance
instance pts_storable (c : Dev nD) (r q) : BI.Storable (upEmb : UEmb _ 𝕄) (pts P c r q) := by unfold pts; infer_instance
instance raw_storable (c : Dev nD) (r) : BI.Storable (upEmb : UEmb _ 𝕄) (raw (F := F) c r) := by unfold raw; infer_instance

def legsR : Finset Leg := Finset.univ.filter fun g => toR g
def legsL : Finset Leg := Finset.univ.filter fun g => ¬ toR g

/-- What a signal of the barrier hands over: what the left neighbour gives for the legs to the left, the right one for
    those to the right. -/
def barPay (c : Dev nD) : Bool → sProp 𝕄
  | false => bigSep legsL fun g => raw (F := F) (prv c) (dstReg g)
  | true => bigSep legsR fun g => raw (F := F) (nxt c) (dstReg g)

instance barPay_storable (c : Dev nD) (d) : BI.Storable (upEmb : UEmb _ 𝕄) (barPay (F := F) c d) := by
  cases d <;> unfold barPay <;> infer_instance

/-- How many rounds the cell of a copy semaphore has, -/
def rounds (n : Nat) : Nat := if n = 6 ∨ n = 17 ∨ n = 18 then 4 else if n = 7 then 5 else if n < 6 then 0 else 1
/-- the region each round hands over, -/
def regOf (n r : Nat) : Reg :=
  if n = 6 ∨ n = 7 then (if r = 0 then (0, some (Fin.ofNat 2 (n - 6))) else (Fin.ofNat 16 (2 * r - (n - 6)), none))
  else if n = 17 ∨ n = 18 then (if r = 0 then (0, some (Fin.ofNat 2 (n - 17))) else (Fin.ofNat 16 (8 + 2 * r - (n - 17)), none))
  else if n = 8 then (1, some 0) else if n = 16 then (1, some 1) else if n = 19 then (9, some 0) else if n = 26 then (9, some 1)
  else if n < 16 then (Fin.ofNat 16 (n - 7), none) else (Fin.ofNat 16 (n - 10), none)
/-- at what share, -/
def shareOf (n : Nat) : PosShare TreeShare :=
  if n = 6 ∨ n = 7 then fullShare.left else if n = 17 ∨ n = 18 then fullShare.right.left else fullShare
/-- for how much. -/
def NF : Nat := (slotM kvM 0).view.dmaCredit
def NH : Nat := (halfM kvM 0 0).view.dmaCredit
def amtR : Reg → Nat
  | (_, none) => NF
  | (_, some _) => NH

theorem amtR_pos (r : Reg) : 0 < amtR r := by
  obtain ⟨k, _ | b⟩ := r
  · exact View.dmaCredit_pos _ (by decide)
  · exact View.dmaCredit_pos _ (by decide)

theorem slot_credit (k : Fin 16) : (slotM kvM k).view.dmaCredit = NF := rfl
theorem half_credit (k : Fin 16) (b : Fin 2) : (halfM kvM k b).view.dmaCredit = NH := rfl

/-! ## The schedule -/

def duties (s : SemLoc sig) (r : Nat) : Finset Bool := match s with
  | .reg b => if b = barS ∧ r = 0 then Finset.univ else ∅
  | .dma n => if r < rounds n.val then {false} else ∅

def amount (s : SemLoc sig) (r : Nat) : Nat := match s with
  | .reg _ => 1
  | .dma n => amtR (regOf n.val r)

def payload (c : Dev nD) (s : SemLoc sig) (r : Nat) (d : Bool) : sProp 𝕄 := match s with
  | .reg _ => barPay c d
  | .dma n => pts P c (regOf n.val r) (shareOf n.val)

def Rd : Rounds.Schedule (GSem nD τ sig) Bool 𝕄 where
  duties g r := if g.1.2 = .tc then duties g.2 r else ∅
  unitless _ := False
  amount g r _ := amount g.2 r
  payload g r d := payload P g.1.1 g.2 r d
  amount_pos g r _ _ := by
    show 0 < amount g.2 r
    unfold amount
    cases g.2 with
    | reg _ => exact Nat.one_pos
    | dma n => exact amtR_pos _

instance Rd_payload_storable (g : GSem nD τ sig) (r : ℕ) (d : Bool) :
    BI.Storable (upEmb : UEmb _ 𝕄) ((Rd (F := F) P).payload g r d) := by
  show BI.Storable upEmb (payload P g.1.1 g.2 r d)
  unfold payload
  cases g.2 <;> infer_instance

section Sched
variable (c : Dev nD)

theorem duties_cell (k : Fin 22) (r : Nat) : (Rd P).duties (kcell c k) r = duties (csem k) r := by
  dsimp only [Rd]; exact if_pos rfl
theorem duties_bar : (Rd P).duties (barCell c) 0 = Finset.univ := rfl
theorem amount_bar (d : Bool) : (Rd P).amount (barCell c) 0 d = 1 := rfl
theorem payload_bar (d : Bool) : (Rd P).payload (barCell c) 0 d = barPay c d := rfl
theorem expect_bar : (Rd P).expect (barCell c) 0 = 2 := rfl

/-- A round of a copy semaphore's cell with a payer: what is said of it in terms of the cell's number. -/
theorem duties_dma {k : Fin 22} (hk : k.val ≠ 0) {r : Nat} (hr : r < rounds (k.val + 5)) : (Rd P).duties (kcell c k) r = {false} := by
  rw [duties_cell]; unfold csem; rw [if_neg hk]; exact if_pos hr
theorem amount_dma {k : Fin 22} (hk : k.val ≠ 0) (r : Nat) (d : Bool) : (Rd P).amount (kcell c k) r d = amtR (regOf (k.val + 5) r) := by
  show amount (csem k) r = _
  unfold csem; rw [if_neg hk]; rfl
theorem payload_dma {k : Fin 22} (hk : k.val ≠ 0) (r : Nat) (d : Bool) :
    (Rd P).payload (kcell c k) r d = pts P c (regOf (k.val + 5) r) (shareOf (k.val + 5)) := by
  show payload P c (csem k) r d = _
  unfold csem; rw [if_neg hk]; rfl
theorem expect_dma {k : Fin 22} (hk : k.val ≠ 0) {r : Nat} (hr : r < rounds (k.val + 5)) :
    (Rd P).expect (kcell c k) r = amtR (regOf (k.val + 5) r) := by
  unfold Schedule.expect Schedule.amountOf
  rw [duties_dma P c hk hr, Finset.sum_singleton, amount_dma P c hk]
theorem rest_dma {k : Fin 22} (hk : k.val ≠ 0) {r : Nat} (hr : r < rounds (k.val + 5)) :
    bigSep ((Rd P).duties (kcell c k) r \ ∅) (fun d => (Rd P).payload (kcell c k) r d) = pts P c (regOf (k.val + 5) r) (shareOf (k.val + 5)) := by
  rw [Finset.sdiff_empty, duties_dma P c hk hr, bigSep_singleton, payload_dma P c hk]
theorem rest_bar : bigSep ((Rd P).duties (barCell c) 0 \ ∅) (fun d => (Rd P).payload (barCell c) 0 d) = iprop(barPay (F := F) c false ∗ barPay c true) := by
  rw [Finset.sdiff_empty, duties_bar, bigSep_univ_eq_bigSepL [false, true] (by decide) (by decide), bigSepL_cons_cons, bigSepL_singleton]
  rfl

/-- The last round of a cell. -/
def lastRd (k : Fin 22) : Nat := if k.val = 0 then 1 else rounds (k.val + 5)
theorem duties_later (k : Fin 22) : ∀ r, lastRd k ≤ r → (Rd P).duties (kcell c k) r = ∅ := fun r hr => by
  rw [duties_cell]
  unfold lastRd at hr
  unfold csem
  split
  · rename_i h; rw [if_pos h] at hr; exact if_neg fun h => by omega
  · rename_i h; rw [if_neg h] at hr; exact if_neg (by show ¬ r < rounds (k.val + 5); omega)

end Sched

/-! ## The legs' cells in the schedule -/

theorem send_ne : ∀ g : Leg, (sendIx g).val ≠ 0 := by decide
theorem recv_ne : ∀ g : Leg, (recvIx g).val ≠ 0 := by decide
theorem send_rd : ∀ g : Leg, sendRd g < rounds ((sendIx g).val + 5) := by decide
theorem recv_rd : ∀ g : Leg, 0 < rounds ((recvIx g).val + 5) := by decide
theorem send_reg : ∀ g : Leg, regOf ((sendIx g).val + 5) (sendRd g) = srcReg g := by decide
theorem recv_reg : ∀ g : Leg, regOf ((recvIx g).val + 5) 0 = dstReg g := by decide
theorem recv_last : ∀ g : Leg, lastRd (recvIx g) = 1 := by decide
theorem src_half : ∀ g : Leg, (srcReg g).2 = (dstReg g).2 := by decide

/-- The share a leg reads at. -/
def qs (g : Leg) : PosShare TreeShare := if toR g then fullShare.left else fullShare.right.left
theorem send_share (g : Leg) : shareOf ((sendIx g).val + 5) = qs g := by
  have h : ∀ g : Leg, (if toR g then ((sendIx g).val = 1 ∨ (sendIx g).val = 2) else ((sendIx g).val = 12 ∨ (sendIx g).val = 13)) := by decide
  have := h g
  unfold qs shareOf
  split at this
  · rename_i h'; rw [if_pos h', if_pos (by omega)]
  · rename_i h'; rw [if_neg h', if_neg (by omega), if_pos (by omega)]
theorem recv_share (g : Leg) : shareOf ((recvIx g).val + 5) = fullShare := by
  have h : ∀ g : Leg, 2 < (recvIx g).val ∧ (recvIx g).val ≠ 12 ∧ (recvIx g).val ≠ 13 := by decide
  have := h g
  unfold shareOf
  rw [if_neg (by omega), if_neg (by omega)]

theorem amtR_eq {r r' : Reg} (h : r.2 = r'.2) : amtR r = amtR r' := by
  obtain ⟨k, b⟩ := r; obtain ⟨k', b'⟩ := r'
  have : b = b' := h
  subst this
  cases b <;> rfl

/-- What a leg moves. -/
def amt (g : Leg) : Nat := amtR (dstReg g)
theorem amt_src (g : Leg) : amtR (srcReg g) = amt g := amtR_eq (src_half g)

/-- A leg brings to its destination what is to be there. -/
theorem src_dst (g : Leg) (c : Dev nD) : src c (srcReg g).1 = src (dst g c) (dstReg g).1 := by
  have hp (n : Nat) (c : Dev nD) : prvs (n + 1) c = prvs n (prv c) := by
    induction n with
    | zero => rfl
    | succ n ih => exact congrArg prv ih
  have hn (n : Nat) (c : Dev nD) : nxts (n + 1) c = nxts n (nxt c) := by
    induction n with
    | zero => rfl
    | succ n ih => exact congrArg nxt ih
  have key : ∀ g : Leg, if toR g then ((srcReg g).1.val ≤ 7 ∧ (dstReg g).1.val = (srcReg g).1.val + 1)
      else (((srcReg g).1.val = 0 ∧ (dstReg g).1.val = 9) ∨ (9 ≤ (srcReg g).1.val ∧ (dstReg g).1.val = (srcReg g).1.val + 1)) := by decide
  have := key g
  unfold dst src
  split at this
  · rename_i h
    rw [if_pos h, if_pos (by omega), if_pos (by omega), this.2, hp, prv_nxt]
  · rename_i h
    rw [if_neg h]
    rcases this with ⟨h0, h9⟩ | ⟨h0, h9⟩
    · rw [if_pos (by omega), if_neg (by omega), h0, h9]
      show c = nxts 1 (prv c)
      show c = nxt (prv c)
      rw [nxt_prv]
    · rw [if_neg (by omega), if_neg (by omega), h9, show (srcReg g).1.val + 1 - 8 = ((srcReg g).1.val - 8) + 1 by omega, hn, nxt_prv]

section Legs
variable (c : Dev nD) (g : Leg)
theorem duties_send : (Rd P).duties (kcell c (sendIx g)) (sendRd g) = {false} := duties_dma P c (send_ne g) (send_rd g)
theorem duties_recv : (Rd P).duties (kcell c (recvIx g)) 0 = {false} := duties_dma P c (recv_ne g) (recv_rd g)
theorem amount_send (d : Bool) : (Rd P).amount (kcell c (sendIx g)) (sendRd g) d = amt g := by
  rw [amount_dma P c (send_ne g), send_reg, amt_src]
theorem amount_recv (d : Bool) : (Rd P).amount (kcell c (recvIx g)) 0 d = amt g := by
  rw [amount_dma P c (recv_ne g), recv_reg]; rfl
theorem payload_send (d : Bool) : (Rd P).payload (kcell c (sendIx g)) (sendRd g) d = pts P c (srcReg g) (qs g) := by
  rw [payload_dma P c (send_ne g), send_reg, send_share]
theorem payload_recv (d : Bool) : (Rd P).payload (kcell c (recvIx g)) 0 d = pts P c (dstReg g) fullShare := by
  rw [payload_dma P c (recv_ne g), recv_reg, recv_share]
theorem expect_send : (Rd P).expect (kcell c (sendIx g)) (sendRd g) = amt g := by
  rw [expect_dma P c (send_ne g) (send_rd g), send_reg, amt_src]
theorem expect_recv : (Rd P).expect (kcell c (recvIx g)) 0 = amt g := by
  rw [expect_dma P c (recv_ne g) (recv_rd g), recv_reg]; rfl
theorem rest_send : bigSep ((Rd P).duties (kcell c (sendIx g)) (sendRd g) \ ∅) (fun d => (Rd P).payload (kcell c (sendIx g)) (sendRd g) d)
    = pts P c (srcReg g) (qs g) := by
  rw [rest_dma P c (send_ne g) (send_rd g), send_reg, send_share]
theorem rest_recv : bigSep ((Rd P).duties (kcell c (recvIx g)) 0 \ ∅) (fun d => (Rd P).payload (kcell c (recvIx g)) 0 d)
    = pts P c (dstReg g) fullShare := by
  rw [rest_dma P c (recv_ne g) (recv_rd g), recv_reg, recv_share]
end Legs

/-! ## What a device owes, and the levels -/

/-- What device `c` owes for the legs of a list, its first leg's credit outermost. -/
def owl (c : Dev nD) : List Leg → CellTallies nD τ sig Unit
  | [] => 0
  | g :: gs => owl c gs + tallyAt (kcell (dst g c) (recvIx g)) () (amt g)

/-- The legs in the order they leave. -/
def legOrder : List Leg := [0, 9, 1, 10, 2, 11, 3, 12, 4, 13, 5, 14, 6, 15, 7, 16, 8]

def O₁ (c : Dev nD) : CellTallies nD τ sig Unit := owl c legOrder + tallyAt (barCell (nxt c)) () 1
/-- What device `c` owes at the start: every leg, and a unit to each neighbour's barrier cell. -/
def O₀ (c : Dev nD) : CellTallies nD τ sig Unit := O₁ c + tallyAt (barCell (prv c)) () 1

def L (g : GSem nD τ sig) : Finset Unit := if g.1.2 = .tc then {()} else ∅

/-- A receive cell's level: the barrier's is one, the first hop's two, and one more each hop. -/
def lvK (k : Fin 22) : Nat :=
  if k.val = 0 then 1 else if k.val = 3 ∨ k.val = 11 ∨ k.val = 14 ∨ k.val = 21 then 2
  else if 3 < k.val ∧ k.val < 11 then k.val - 1 else if 14 < k.val then k.val - 12 else 0

def lv (g : GSem nD τ sig) (_ : Unit) : ℕ := match g.2 with
  | .reg _ => 1
  | .dma n => if h : 6 ≤ n.val then lvK ⟨n.val - 5, by have : n.val < 27 := n.isLt; omega⟩ else 0

theorem L_of_ne (g : GSem nD τ sig) (h : g.1.2 ≠ .tc) : L g = ∅ := if_neg h
theorem L_tc (c : Dev nD) (sm : SemLoc sig) : L ((c : Thread nD τ), sm) = {()} := if_pos rfl
theorem lv_cell : ∀ (k : Fin 22) (c : Dev nD), lv (kcell c k) () = lvK k := by decide

theorem owl_pos {c : Dev nD} {gs : List Leg} {s : GSem nD τ sig} {u : Unit} (h : 0 < owl c gs s u) :
    ∃ g ∈ gs, s = kcell (dst g c) (recvIx g) := by
  induction gs with
  | nil => exact absurd h (Nat.lt_irrefl 0)
  | cons g gs ih =>
    unfold owl at h
    rw [Pi.add_apply, Finsupp.add_apply] at h
    rcases Nat.eq_zero_or_pos (owl c gs s u) with h0 | h0
    · rw [h0, Nat.zero_add] at h
      exact ⟨g, List.mem_cons_self, (Pipeline.tallyAt_pos h).1⟩
    · obtain ⟨g', hg', e⟩ := ih h0
      exact ⟨g', List.mem_cons_of_mem _ hg', e⟩

theorem O₀_pos {c : Dev nD} {s : GSem nD τ sig} {u : Unit} (h : 0 < O₀ c s u) : ∃ k : Fin 22, 0 < lvK k ∧ ∃ c', s = kcell c' k := by
  unfold O₀ O₁ at h
  rw [Pi.add_apply, Finsupp.add_apply, Pi.add_apply, Finsupp.add_apply] at h
  rcases Nat.eq_zero_or_pos (owl c legOrder s u) with h0 | h0
  · rw [h0, Nat.zero_add] at h
    rcases Nat.eq_zero_or_pos (tallyAt (barCell (nxt c)) () 1 s u) with h1 | h1
    · rw [h1, Nat.zero_add] at h
      exact ⟨0, by decide, prv c, (Pipeline.tallyAt_pos h).1⟩
    · exact ⟨0, by decide, _, (Pipeline.tallyAt_pos h1).1⟩
  · obtain ⟨g, -, e⟩ := owl_pos h0
    exact ⟨recvIx g, (show ∀ g : Leg, 0 < lvK (recvIx g) by decide) g, _, e⟩

/-- A device may wait on a cell below every cell it still owes. -/
theorem mayWait_cell (c : Dev nD) (k : Fin 22) (gs : List Leg) (h : ∀ g ∈ gs, lvK k < lvK (recvIx g)) :
    (levAts L lv : sProp 𝕄) ⊢ MayWait (c : Thread nD τ) (csem k) () (owl c gs) :=
  MayOwe.of_cut (L := L) (lev := lv) (lvK k) (fun p hp => by rw [Finset.mem_singleton.mp hp, L_tc]; exact Finset.mem_singleton_self _)
    (fun s u hs => by obtain ⟨g, -, rfl⟩ := owl_pos hs; rw [L_tc]; exact Finset.mem_singleton_self _)
    (fun p hp => by rw [Finset.mem_singleton.mp hp]; exact le_of_eq (lv_cell k c))
    (fun s u hs => by obtain ⟨g, hg, rfl⟩ := owl_pos hs; exact lt_of_lt_of_eq (h g hg) (lv_cell _ _).symm)

/-- A staging semaphore may be waited on whatever is owed. -/
theorem mayWait_stage (c : Dev nD) (q : DmaSem sig) (hq : q.val < 6) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun s u hs => by obtain ⟨k, -, c', rfl⟩ := O₀_pos hs; rw [L_tc]; exact Finset.mem_singleton_self _)
      (fun p hp => by rw [Finset.mem_singleton.mp hp]; dsimp only [lv]; rw [dif_neg (by omega)])
      (fun s u hs => by obtain ⟨k, hk, c', rfl⟩ := O₀_pos hs; exact lt_of_lt_of_eq hk (lv_cell _ _).symm)
  · rw [MayWait_zero]; iintro -; iempintro

/-- Splitting and joining a region of the scratch array. -/
theorem scr_share (c : Dev nD) (S : Finset S16x2x256x512.Idx) (f) {q q₁ q₂ : PosShare TreeShare} (h : q ∈ q₁ ·? q₂) :
    (scr (F := F) c S q f) ⊣⊢ iprop(scr c S q₁ f ∗ scr c S q₂ f) := pointsTo_share h
theorem scr_congr (c : Dev nD) (S : Finset S16x2x256x512.Idx) (q) {f f' : (cc0_scratch0 : Ref sig .tc).ty.Contents (Elt F)} (h : ∀ i ∈ S, f i = f' i) :
    scr (F := F) c S q f = scr c S q f' := pointsTo_congr h

theorem halves (c : Dev nD) (k : Fin 16) (q : PosShare TreeShare) :
    pts P c (k, none) q ⊣⊢ iprop(pts P c (k, some 0) q ∗ pts P c (k, some 1) q) := by
  unfold pts scr
  rw [slot_halves]
  exact pointsTo_union (halves_disjoint k)

/-- A whole array, whatever it holds, is its slots. -/
theorem scr_slots (c : Dev nD) (f) : scr (F := F) c Finset.univ fullShare f = bigSep Finset.univ fun k : Fin 16 => scr c (rset (k, none)) fullShare f := by
  unfold scr
  rw [slots_univ]
  exact pointsTo_biUnion _ _ fun k _ k' _ h => slots_disjoint k k' h

theorem raw_halves (c : Dev nD) (k : Fin 16) (f) : scr (F := F) c (rset (k, none)) fullShare f ⊢ iprop(raw (F := F) c (k, some 0) ∗ raw c (k, some 1)) := by
  unfold raw scr
  rw [slot_halves]
  refine (pointsTo_union (halves_disjoint k)).1.trans ?_
  iintro ⟨H, H'⟩
  isplitl [H]
  · iexists f; iexact H
  · iexists f; iexact H'

end Cert.Att
-- ==== Proof.Pieces.lean ====
/-
The pieces of the body, each with what it takes and what it leaves: the loads, the attention step over a slot, the
stores that fill the first slot, a leg's departure, the waits for it at both ends, and the hop.
-/
module

public import proofs.«01_k».proof.Proof.Ring

@[expose] public section

noncomputable section

namespace Cert.Att

open Cert.KernelIdeal Cert.KernelIdeal.Gen
open Idealize.ShloMosaic
open Idealize.ShloMosaic.TcCoe
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A piece run on device `c`'s core. -/
abbrev wpc (c : Dev nD) {α : Type} (p : Pg F α) (Q : α → sProp 𝕄) : sProp 𝕄 :=
  wp frame (wpE (defs₀ (F := F)) 𝒱₀ (c : Thread nD τ) none) Set.univ p Q

variable (P : Parts F) (c : Dev nD)

/-! ## Loads -/

theorem wp_loadHead (k : Fin 16) (b : Fin 2) (t : Fin 8) (q : PosShare TreeShare) (Q : Vec F S1x1x256x64 .bf16 → sProp 𝕄) :
    pts P c (k, none) q ⊢ iprop((pts P c (k, none) q -∗ Q (headAt P c k b t)) -∗ wpc c (loadHead kvM k b t) Q) := by
  unfold loadHead pts scr headAt
  simp only [Prog.lift]
  iintro H Hk
  iapply (wp_load 𝒱₀ (c : Thread nD τ) none Set.univ (m := kvM) (head_subset k b t)) $$ H
  iintro H
  rw [wp_ret]; imodintro
  iapply Hk; iexact H

/-- The state after a slot. -/
def cons (k : Fin 16) (q : Fin 2 → FVec F S256x256 .f32) (s : Fin 2 → Fin 4 → Option (St F)) : Fin 2 → Fin 4 → St F :=
  fun b t => upd (s b t) (headQ t (q b)) (headAt P c k b (kIx t)) (headAt P c k b (vIx t))

theorem wp_stepHead (k : Fin 16) (b : Fin 2) (t : Fin 4) (q : FVec F S256x256 .f32) (s : Option (St F)) (qq : PosShare TreeShare)
    (Q : St F → sProp 𝕄) :
    pts P c (k, none) qq ⊢ iprop((pts P c (k, none) qq -∗ Q (upd s (headQ t q) (headAt P c k b (kIx t)) (headAt P c k b (vIx t))))
      -∗ wpc c (stepHead kvM k b t q s) Q) := by
  unfold stepHead
  simp only [wp_bind, Prog.pure_eq_ret, wp_ret]
  iintro H Hk
  iapply (wp_loadHead P c k b (kIx t) qq _) $$ H; iintro H
  iapply (wp_loadHead P c k b (vIx t) qq _) $$ H; iintro H
  imodintro
  iapply Hk; iexact H

theorem wp_consume (k : Fin 16) (q : Fin 2 → FVec F S256x256 .f32) (s : Fin 2 → Fin 4 → Option (St F)) (qq : PosShare TreeShare)
    (Q : (Fin 2 → Fin 4 → St F) → sProp 𝕄) :
    pts P c (k, none) qq ⊢ iprop((pts P c (k, none) qq -∗ Q (cons P c k q s)) -∗ wpc c (consume kvM k q s) Q) := by
  unfold consume
  simp only [wp_bind, Prog.pure_eq_ret, wp_ret]
  iintro H Hk
  iapply (wp_stepHead P c k 0 0 _ _ qq _) $$ H; iintro H
  iapply (wp_stepHead P c k 0 1 _ _ qq _) $$ H; iintro H
  iapply (wp_stepHead P c k 0 2 _ _ qq _) $$ H; iintro H
  iapply (wp_stepHead P c k 0 3 _ _ qq _) $$ H; iintro H
  iapply (wp_stepHead P c k 1 0 _ _ qq _) $$ H; iintro H
  iapply (wp_stepHead P c k 1 1 _ _ qq _) $$ H; iintro H
  iapply (wp_stepHead P c k 1 2 _ _ qq _) $$ H; iintro H
  iapply (wp_stepHead P c k 1 3 _ _ qq _) $$ H; iintro H
  imodintro
  have e : ∀ f r : Fin 2 → Fin 4 → St F, f = r → ![![f 0 0, f 0 1, f 0 2, f 0 3], ![f 1 0, f 1 1, f 1 2, f 1 3]] = r := fun f r h => by
    subst h; funext b t; fin_cases b <;> fin_cases t <;> rfl
  have e2 := e (fun b t => upd (s b t) (headQ t (q b)) (headAt P c k b (kIx t)) (headAt P c k b (vIx t))) (cons P c k q s) rfl
  rw [e2]
  iapply Hk; iexact H

/-! ## The staged blocks -/

/-- A staging buffer's contents. -/
def stgPts (b : Ref sig .tc) (f : b.ty.Contents (Elt F)) : sProp 𝕄 := ((c : Thread nD τ).loc b) ↦{fullShare} f

/-- A batch of the staged block of `x`. -/
def xOf (f : (cc0_stg0_0 : Ref sig .tc).ty.Contents (Elt F)) (b : Fin 2) : Vec F S1x256x768 .f32 :=
  (Memref.whole cc0_stg0_0 : Memref sig .tc .vmem S2x256x768 .f32).view.readAt (Elt F) (batchRect b).toLoadRect f

theorem wp_loadX (b : Fin 2) (f) (Q : Vec F S1x256x768 .f32 → sProp 𝕄) :
    stgPts c cc0_stg0_0 f ⊢ iprop((stgPts c cc0_stg0_0 f -∗ Q (xOf f b)) -∗ wpc c (loadX (Memref.whole cc0_stg0_0) b) Q) := by
  unfold loadX stgPts xOf
  simp only [Prog.lift]
  iintro H Hk
  iapply (wp_load 𝒱₀ (c : Thread nD τ) none Set.univ (m := (Memref.whole cc0_stg0_0 : Memref sig .tc .vmem S2x256x768 .f32)) (Finset.subset_univ _)) $$ H
  iintro H
  rw [wp_ret]; imodintro
  iapply Hk; iexact H

theorem hz2 : (![0, 0] : Fin 2 → Nat) = fun _ => 0 := funext fun a => by fin_cases a <;> rfl

theorem wp_loadWq (f) (Q : Vec F S768x256 .f32 → sProp 𝕄) :
    stgPts c cc0_stg1_0 f ⊢ iprop((stgPts c cc0_stg1_0 f -∗ Q f) -∗ wpc c (loadW (Memref.whole cc0_stg1_0)) Q) := by
  unfold loadW stgPts
  simp only [Prog.lift]
  iintro H Hk
  iapply (wp_load 𝒱₀ (c : Thread nD τ) none Set.univ (m := (Memref.whole cc0_stg1_0 : Memref sig .tc .vmem S768x256 .f32)) (Finset.subset_univ _)) $$ H
  iintro H
  rw [wp_ret, show (Memref.whole cc0_stg1_0 : Memref sig .tc .vmem S768x256 .f32).view.readAt (Elt F) (Rect.unit (s := S768x256) ![0, 0] ![768, 256] inb_S768x256_S768x256_0_0).toLoadRect f = f from
    Memref.readAt_unit_zero (Elt F) cc0_stg1_0 hz2 _ f]; imodintro
  iapply Hk; iexact H

theorem wp_loadWk (f) (Q : Vec F S768x256 .f32 → sProp 𝕄) :
    stgPts c cc0_stg2_0 f ⊢ iprop((stgPts c cc0_stg2_0 f -∗ Q f) -∗ wpc c (loadW (Memref.whole cc0_stg2_0)) Q) := by
  unfold loadW stgPts
  simp only [Prog.lift]
  iintro H Hk
  iapply (wp_load 𝒱₀ (c : Thread nD τ) none Set.univ (m := (Memref.whole cc0_stg2_0 : Memref sig .tc .vmem S768x256 .f32)) (Finset.subset_univ _)) $$ H
  iintro H
  rw [wp_ret, show (Memref.whole cc0_stg2_0 : Memref sig .tc .vmem S768x256 .f32).view.readAt (Elt F) (Rect.unit (s := S768x256) ![0, 0] ![768, 256] inb_S768x256_S768x256_0_0).toLoadRect f = f from
    Memref.readAt_unit_zero (Elt F) cc0_stg2_0 hz2 _ f]; imodintro
  iapply Hk; iexact H

theorem wp_loadWv (f) (Q : Vec F S768x256 .f32 → sProp 𝕄) :
    stgPts c cc0_stg3_0 f ⊢ iprop((stgPts c cc0_stg3_0 f -∗ Q f) -∗ wpc c (loadW (Memref.whole cc0_stg3_0)) Q) := by
  unfold loadW stgPts
  simp only [Prog.lift]
  iintro H Hk
  iapply (wp_load 𝒱₀ (c : Thread nD τ) none Set.univ (m := (Memref.whole cc0_stg3_0 : Memref sig .tc .vmem S768x256 .f32)) (Finset.subset_univ _)) $$ H
  iintro H
  rw [wp_ret, show (Memref.whole cc0_stg3_0 : Memref sig .tc .vmem S768x256 .f32).view.readAt (Elt F) (Rect.unit (s := S768x256) ![0, 0] ![768, 256] inb_S768x256_S768x256_0_0).toLoadRect f = f from
    Memref.readAt_unit_zero (Elt F) cc0_stg3_0 hz2 _ f]; imodintro
  iapply Hk; iexact H

theorem wp_query (b : Fin 2) (fx) (fq) (Q : FVec F S256x256 .f32 → sProp 𝕄) :
    iprop(stgPts c cc0_stg0_0 fx ∗ stgPts c cc0_stg1_0 fq)
      ⊢ iprop(((stgPts c cc0_stg0_0 fx ∗ stgPts c cc0_stg1_0 fq) -∗ Q (rope c (proj (xOf fx b) fq)))
        -∗ wpc c (query (Memref.whole cc0_stg0_0) (Memref.whole cc0_stg1_0) c b) Q) := by
  unfold query
  simp only [wp_bind, Prog.pure_eq_ret, wp_ret]
  iintro ⟨Hx, Hq⟩ Hk
  iapply (wp_loadX c b fx _) $$ Hx; iintro Hx
  iapply (wp_loadWq c fq _) $$ Hq; iintro Hq
  imodintro
  iapply Hk; isplitl [Hx] <;> iassumption

/-! ## Filling the first slot -/

theorem wp_storePart (b t : Fin 2) (v : FVec F S256x256 .bf16) (f) (Q : PUnit → sProp 𝕄) :
    scr c (rset (0, some b)) fullShare f
      ⊢ iprop((scr c (rset (0, some b)) fullShare ((kvM.access (partRect b t)).write (Elt F) f (shapeCast S1x1x256x256 v shapeCasts_S256x256_S1x1x256x256) Finset.univ)
          -∗ Q ⟨⟩) -∗ wpc c (storePart kvM (Memref.isWhole_whole _) b t v) Q) := by
  unfold storePart scr
  simp only [Prog.lift, Prog.bind_op, Prog.bind_ret]
  have hs : (kvM.access (partRect b t)).set ⊆ rset (0, some b) := by
    rw [show (kvM.access (partRect b t)).set = (partRect b t).set from View.set_slice_whole cc0_scratch0 (partRect b t)]
    exact part_subset b t
  iintro H Hk
  iapply (wp_load_rect 𝒱₀ (c : Thread nD τ) none Set.univ (m := kvM) (r := partRect b t) hs) $$ H
  iintro H
  iapply (wp_store 𝒱₀ (c : Thread nD τ) none Set.univ (m := kvM) (r := partRect b t) (Mk := Finset.univ) hs) $$ H
  iintro H
  rw [wp_ret]; imodintro
  iapply Hk; iexact H

theorem wp_fill (b : Fin 2) (fx) (fk) (fv)
    (hk : P c b 0 = shapeCast S1x1x256x256 (keysV c (xOf fx b) fk) shapeCasts_S256x256_S1x1x256x256)
    (hv : P c b 1 = shapeCast S1x1x256x256 (valsV (xOf fx b) fv) shapeCasts_S256x256_S1x1x256x256) (Q : PUnit → sProp 𝕄) :
    iprop(stgPts c cc0_stg0_0 fx ∗ stgPts c cc0_stg2_0 fk ∗ stgPts c cc0_stg3_0 fv ∗ raw c (0, some b))
      ⊢ iprop(((stgPts c cc0_stg0_0 fx ∗ stgPts c cc0_stg2_0 fk ∗ stgPts c cc0_stg3_0 fv ∗ pts P c (0, some b) fullShare) -∗ Q ⟨⟩)
        -∗ wpc c (fill (Memref.whole cc0_stg0_0) (Memref.whole cc0_stg2_0) (Memref.whole cc0_stg3_0) kvM (Memref.isWhole_whole _) c b) Q) := by
  unfold fill raw
  simp only [wp_bind]
  iintro ⟨Hx, HK, HV, ⟨%f, H⟩⟩ Hk
  iapply (wp_loadX c b fx _) $$ Hx; iintro Hx
  iapply (wp_loadWk c fk _) $$ HK; iintro HK
  iapply (wp_loadWv c fv _) $$ HV; iintro HV
  iapply (wp_storePart c b 0 _ f _) $$ H; iintro H
  iapply (wp_storePart c b 1 _ _ _) $$ H; iintro H
  rw [← hk, ← hv]
  iapply Hk
  isplitl [Hx]; · iexact Hx
  isplitl [HK]; · iexact HK
  isplitl [HV]; · iexact HV
  unfold pts
  iapply (Entails.of_eq (scr_congr c (rset (0, some b)) fullShare (fun i hi => fill_half P c b f i hi)))
  iexact H

/-! ## The legs -/

variable (K : Dev nD × Fin 22 → ℕ)

/-- Every cell's invariant, and that its first round is open. -/
def recs : sProp 𝕄 :=
  iprop((bigSep Finset.univ fun ck : Dev nD × Fin 22 => cellInv ER (Rd P) (K ck) (kcell ck.1 ck.2))
    ∗ bigSep Finset.univ fun ck : Dev nD × Fin 22 => reached ER (kcell ck.1 ck.2) 0)

instance recs_persistent : BI.Persistent (recs P K) := by unfold recs; infer_instance

theorem recs_inv (d : Dev nD) (k : Fin 22) : recs P K ⊢ cellInv ER (Rd P) (K (d, k)) (kcell d k) :=
  (sep_elim_left).trans (bigSep_elim (Φ := fun ck : Dev nD × Fin 22 => cellInv ER (Rd P) (K ck) (kcell ck.1 ck.2)) (Finset.mem_univ (d, k)))
theorem recs_reached (d : Dev nD) (k : Fin 22) : recs P K ⊢ reached ER (kcell d k) 0 :=
  (sep_elim_right).trans (bigSep_elim (Φ := fun ck : Dev nD × Fin 22 => (reached ER (kcell ck.1 ck.2) 0 : sProp 𝕄)) (Finset.mem_univ (d, k)))

/-- What a device owes, its past waits forgotten. -/
def owed (O : CellTallies nD τ sig Unit) : sProp 𝕄 := iprop(∃ W, owes (c : Thread nD τ) O W)

/-- What a device needs of a leg that leaves it and of the one that arrives: the two payers' tokens, -/
def legTok (g : Leg) : sProp 𝕄 :=
  iprop(dutyTok ER (kcell c (sendIx g)) (sendRd g) false ∗ dutyTok ER (kcell (dst g c) (recvIx g)) 0 false)
/-- the credit and the position of its own receive cell. -/
def legRcv (g : Leg) : sProp 𝕄 :=
  iprop(cred (tallyAt (kcell c (recvIx g)) () (amt g)) ∗ atPos ER (kcell c (recvIx g)) 0 ∅ 0)
/-- A device's position at one of its cells. -/
def pos (k : Fin 22) (r : Nat) : sProp 𝕄 := iprop(atPos ER (kcell c k) r ∅ 0 ∗ reached ER (kcell c k) r)

omit [FloatOps F] in
theorem owl_cons (g : Leg) (gs : List Leg) :
    owl c (g :: gs) = owl c gs + tallyAt (kcell (dst g c) (recvIx g)) () (amt g) := rfl

/-- A leg's departure, the copy a slot's. -/
theorem wp_sendSlot (g : Leg) (gs : List Leg) {k k' : Fin 16} (hs : srcReg g = (k, none)) (hd : dstReg g = (k', none)) {n : Dev nD} (hn : n = dst g c)
    {ss rs : DmaSem sig} (hss : SemLoc.dma ss = csem (sendIx g)) (hrs : SemLoc.dma rs = csem (recvIx g)) (Q : PUnit → sProp 𝕄) :
    iprop(recs P K ∗ pts P c (k, none) (qs g) ∗ raw (dst g c) (k', none) ∗ owed c (owl c (g :: gs)) ∗ legTok c g ∗ pos c (sendIx g) (sendRd g))
      ⊢ iprop(((cred (tallyAt (kcell c (sendIx g)) () (amt g)) ∗ owed c (owl c gs) ∗ pos c (sendIx g) (sendRd g)) -∗ Q ⟨⟩)
        -∗ wpc c (sendSlot kvM (Memref.isWhole_whole _) n k k' ss rs) Q) := by
  subst hn
  unfold sendSlot raw legTok pos owed
  simp only [Prog.lift]
  iintro ⟨#HR, Hsrc, ⟨%f, Hdst⟩, ⟨%W, HO⟩, ⟨Ht1, Ht2⟩, ⟨Hat, #Hre⟩⟩ Hk
  have e1 : (slotM kvM k).view.set = rset (k, none) := slot_view_set k
  have e2 : (slotM kvM k').view.set = rset (k', none) := slot_view_set k'
  have hsr := src_dst g c
  rw [hs, hd] at hsr
  have hp1 := payload_send P c g false
  have hp2 := payload_recv P (dst g c) g false
  have hd1 := duties_send P c g
  have hd2 := duties_recv P (dst g c) g
  have ha1 := amount_send P c g false
  have ha2 := amount_recv P (dst g c) g false
  have hamt : amt g = NF := by unfold amt; rw [hd]; rfl
  unfold kcell at hp1 hp2 hd1 hd2 ha1 ha2 ⊢
  rw [← hss] at hp1 hd1 ha1 ⊢
  rw [← hrs] at hp2 hd2 ha2 ⊢
  ihave HI1 := (recs_inv P K c (sendIx g)) $$ HR
  ihave HI2 := (recs_inv P K (dst g c) (recvIx g)) $$ HR
  ihave HR2 := (recs_reached P K (dst g c) (recvIx g)) $$ HR
  unfold kcell
  rw [← hss, ← hrs]
  iapply (Rounds.wp_send_pointsTo 𝒱₀ ER (Rd P) (c : Thread nD τ) none (c' := (dst g c : Thread nD τ)) (sS := .dma ss) (sem := .dma rs) (src := slotM kvM k) (dst := slotM kvM k')
    (κ₁ := K (c, sendIx g)) (κ₂ := K (dst g c, recvIx g)) (q := qs g) (fs := kvAll P c) (fd := f)
    (r₁ := sendRd g) (r₂ := 0) (d₁ := false) (d₂ := false)
    (by rw [hd1]; exact Finset.mem_singleton_self _) (by rw [hd2]; exact Finset.mem_singleton_self _)
    () () (amt g) ((show _ = NF from rfl).trans hamt.symm) ha1 ha2 (O₀ := owl c (g :: gs)) (owl c gs) (by rw [owl_cons]; unfold kcell; rw [hrs]) (W := W)
    (by rw [hp1, hs, e1]; exact BI.Entails.refl _)
    (by
      rw [hp2, hd, e2]
      exact Entails.of_eq (pointsTo_congr fun i hi => copy_slot P hsr f i hi))) $$ [Hsrc Hdst HO Ht1 Ht2 HI1 HI2 HR2]
  · isplitl [HI1]; · iexact HI1
    isplitl [HI2]; · iexact HI2
    isplitl [Hsrc]; · rw [e1]; unfold pts scr; iexact Hsrc
    isplitl [Hdst]; · rw [e2]; unfold scr; iexact Hdst
    isplitl [HO]; · iexact HO
    isplitl [Ht1]; · iexact Ht1
    isplitr; · iexact Hre
    isplitl [Ht2]; · iexact Ht2
    iexact HR2
  iintro ⟨Hc, HO⟩
  rw [wp_ret]; imodintro
  iapply Hk
  isplitl [Hc]; · iexact Hc
  isplitl [HO]; · iexists W; iexact HO
  isplitl [Hat]; · iexact Hat
  iexact Hre

/-- A leg's departure, the copy half a slot's. -/
theorem wp_sendHalf (g : Leg) (gs : List Leg) {k k' : Fin 16} {b : Fin 2} (hs : srcReg g = (k, some b)) (hd : dstReg g = (k', some b)) {n : Dev nD} (hn : n = dst g c)
    {ss rs : DmaSem sig} (hss : SemLoc.dma ss = csem (sendIx g)) (hrs : SemLoc.dma rs = csem (recvIx g)) (Q : PUnit → sProp 𝕄) :
    iprop(recs P K ∗ pts P c (k, some b) (qs g) ∗ raw (dst g c) (k', some b) ∗ owed c (owl c (g :: gs)) ∗ legTok c g ∗ pos c (sendIx g) (sendRd g))
      ⊢ iprop(((cred (tallyAt (kcell c (sendIx g)) () (amt g)) ∗ owed c (owl c gs) ∗ pos c (sendIx g) (sendRd g)) -∗ Q ⟨⟩)
        -∗ wpc c (sendHalf kvM (Memref.isWhole_whole _) n k k' b ss rs) Q) := by
  subst hn
  unfold sendHalf raw legTok pos owed
  simp only [Prog.lift]
  iintro ⟨#HR, Hsrc, ⟨%f, Hdst⟩, ⟨%W, HO⟩, ⟨Ht1, Ht2⟩, ⟨Hat, #Hre⟩⟩ Hk
  have e1 : (halfM kvM k b).view.set = rset (k, some b) := half_view_set k b
  have e2 : (halfM kvM k' b).view.set = rset (k', some b) := half_view_set k' b
  have hsr := src_dst g c
  rw [hs, hd] at hsr
  have hp1 := payload_send P c g false
  have hp2 := payload_recv P (dst g c) g false
  have hd1 := duties_send P c g
  have hd2 := duties_recv P (dst g c) g
  have ha1 := amount_send P c g false
  have ha2 := amount_recv P (dst g c) g false
  have hamt : amt g = NH := by unfold amt; rw [hd]; rfl
  unfold kcell at hp1 hp2 hd1 hd2 ha1 ha2 ⊢
  rw [← hss] at hp1 hd1 ha1 ⊢
  rw [← hrs] at hp2 hd2 ha2 ⊢
  ihave HI1 := (recs_inv P K c (sendIx g)) $$ HR
  ihave HI2 := (recs_inv P K (dst g c) (recvIx g)) $$ HR
  ihave HR2 := (recs_reached P K (dst g c) (recvIx g)) $$ HR
  unfold kcell
  rw [← hss, ← hrs]
  iapply (Rounds.wp_send_pointsTo 𝒱₀ ER (Rd P) (c : Thread nD τ) none (c' := (dst g c : Thread nD τ)) (sS := .dma ss) (sem := .dma rs) (src := halfM kvM k b) (dst := halfM kvM k' b)
    (κ₁ := K (c, sendIx g)) (κ₂ := K (dst g c, recvIx g)) (q := qs g) (fs := kvAll P c) (fd := f)
    (r₁ := sendRd g) (r₂ := 0) (d₁ := false) (d₂ := false)
    (by rw [hd1]; exact Finset.mem_singleton_self _) (by rw [hd2]; exact Finset.mem_singleton_self _)
    () () (amt g) ((show _ = NH from rfl).trans hamt.symm) ha1 ha2 (O₀ := owl c (g :: gs)) (owl c gs) (by rw [owl_cons]; unfold kcell; rw [hrs]) (W := W)
    (by rw [hp1, hs, e1]; exact BI.Entails.refl _)
    (by
      rw [hp2, hd, e2]
      exact Entails.of_eq (pointsTo_congr fun i hi => copy_half P hsr f i hi))) $$ [Hsrc Hdst HO Ht1 Ht2 HI1 HI2 HR2]
  · isplitl [HI1]; · iexact HI1
    isplitl [HI2]; · iexact HI2
    isplitl [Hsrc]; · rw [e1]; unfold pts scr; iexact Hsrc
    isplitl [Hdst]; · rw [e2]; unfold scr; iexact Hdst
    isplitl [HO]; · iexact HO
    isplitl [Ht1]; · iexact Ht1
    isplitr; · iexact Hre
    isplitl [Ht2]; · iexact Ht2
    iexact HR2
  iintro ⟨Hc, HO⟩
  rw [wp_ret]; imodintro
  iapply Hk
  isplitl [Hc]; · iexact Hc
  isplitl [HO]; · iexists W; iexact HO
  isplitl [Hat]; · iexact Hat
  iexact Hre

/-- A cell whose rounds are over closes: its counter is the device's, at zero. -/
theorem close_cell (k : Fin 22) (r : Nat) (hr : r = lastRd k) :
    iprop(recs P K ∗ atPos ER (kcell c k) r ∅ 0) ⊢ |={Set.univ}=> (semVal (kcell c k) 0 : sProp 𝕄) := by
  subst hr
  iintro ⟨#HR, Hat⟩
  ihave HI := (recs_inv P K c k) $$ HR
  iapply (Rounds.cell_close ER (Rd P) (Set.mem_univ (K (c, k))) (fun h => h) (R := lastRd k) (duties_later P c k))
  isplitl [HI]; · iexact HI
  iexact Hat

omit [FloatOps F] in
theorem send_below : ∀ g g' : Leg, lvK (sendIx g) < lvK (recvIx g') := by decide

/-! ## The waits -/

/-- A wait on a cell for what its open round brings, in any of its states of debt. -/
theorem wp_waitCell {w : TpuEff nD τ sig (Elt F) Λ₀ .tc PUnit} (k : Fin 22) {sm : SemLoc sig} (hsm : sm = csem k) {n : Nat}
    (hw : ∀ Q : PUnit → sProp 𝕄, wpE (defs₀ (F := F)) 𝒱₀ (c : Thread nD τ) none Set.univ w Q = waitSpec (c : Thread nD τ) Set.univ sm n Q)
    (r : Nat) (hn : n = (Rd P).expect (kcell c k) r) (O : CellTallies nD τ sig Unit) (Q : PUnit → sProp 𝕄) :
    iprop(recs P K ∗ cred (tallyAt (kcell c k) () n) ∗ owed c O ∗ MayWait (c : Thread nD τ) (csem k) () O ∗ atPos ER (kcell c k) r ∅ 0)
      ⊢ iprop(((owed c O ∗ pos c k (r + 1) ∗ bigSep ((Rd P).duties (kcell c k) r \ ∅) (fun d => (Rd P).payload (kcell c k) r d)) -∗ Q ⟨⟩)
        -∗ wpc c (Prog.lift w) Q) := by
  subst hsm
  unfold owed pos
  simp only [Prog.lift]
  iintro ⟨#HR, Hc, ⟨%W, HO⟩, HM, Hat⟩ Hk
  ihave HI := (recs_inv P K c k) $$ HR
  have hn' : 0 + n = (Rd P).expect ((c : Thread nD τ), csem k) r := by rw [Nat.zero_add]; exact hn
  unfold kcell
  iapply (Rounds.wp_wait_rest_token 𝒱₀ ER (Rd P) (c : Thread nD τ) none (κ := K (c, k)) hw (Set.mem_univ _) () (O := O) (W := W) (R := r) (m := 0) (T := ∅) hn')
    $$ [HI Hc HO HM Hat]
  · isplitl [HI]; · iexact HI
    isplitl [Hc]; · iexact Hc
    isplitl [HO]; · iexact HO
    isplitl [HM]; · iexact HM
    iexact Hat
  iintro ⟨HO, Hat, Hre, Hpay⟩
  rw [wp_ret]; imodintro
  iapply Hk
  isplitl [HO]; · iexists _; iexact HO
  isplitl [Hat Hre]; · isplitl [Hat] <;> iassumption
  iexact Hpay

/-- The wait for a leg's departure: the source share is back. -/
theorem wp_waitSend {w : TpuEff nD τ sig (Elt F) Λ₀ .tc PUnit} (g : Leg) (gs : List Leg) {sm : SemLoc sig} (hsm : sm = csem (sendIx g)) {n : Nat}
    (hw : ∀ Q : PUnit → sProp 𝕄, wpE (defs₀ (F := F)) 𝒱₀ (c : Thread nD τ) none Set.univ w Q = waitSpec (c : Thread nD τ) Set.univ sm n Q)
    (hn : n = amt g) (Q : PUnit → sProp 𝕄) :
    iprop(recs P K ∗ levAts L lv ∗ cred (tallyAt (kcell c (sendIx g)) () (amt g)) ∗ owed c (owl c gs) ∗ pos c (sendIx g) (sendRd g))
      ⊢ iprop(((owed c (owl c gs) ∗ pos c (sendIx g) (sendRd g + 1) ∗ pts P c (srcReg g) (qs g)) -∗ Q ⟨⟩) -∗ wpc c (Prog.lift w) Q) := by
  subst hn
  iintro ⟨#HR, #HL, Hc, HO, Hat⟩ Hk
  unfold pos
  icases Hat with ⟨Hat, -⟩
  iapply (wp_waitCell P c K (sendIx g) hsm hw (sendRd g) (expect_send P c g).symm (owl c gs) Q) $$ [Hc HO Hat]
  · isplitr; · iexact HR
    isplitl [Hc]; · iexact Hc
    isplitl [HO]; · iexact HO
    isplitr
    · iapply (mayWait_cell c (sendIx g) gs (fun g' _ => send_below g g')); iexact HL
    iexact Hat
  iintro ⟨HO, Hp, Hpay⟩
  iapply Hk
  isplitl [HO]; · iexact HO
  isplitl [Hp]; · unfold pos; iexact Hp
  iapply (Entails.of_eq (rest_send P c g)); iexact Hpay

/-- The wait for a leg's arrival: the region holds the sender's slot, and the cell is closed. -/
theorem wp_waitRecv {w : TpuEff nD τ sig (Elt F) Λ₀ .tc PUnit} (g : Leg) (gs : List Leg) (hlv : ∀ g' ∈ gs, lvK (recvIx g) < lvK (recvIx g'))
    {sm : SemLoc sig} (hsm : sm = csem (recvIx g)) {n : Nat}
    (hw : ∀ Q : PUnit → sProp 𝕄, wpE (defs₀ (F := F)) 𝒱₀ (c : Thread nD τ) none Set.univ w Q = waitSpec (c : Thread nD τ) Set.univ sm n Q)
    (hn : n = amt g) (Q : PUnit → sProp 𝕄) :
    iprop(recs P K ∗ levAts L lv ∗ legRcv c g ∗ owed c (owl c gs))
      ⊢ iprop(((owed c (owl c gs) ∗ semVal (kcell c (recvIx g)) 0 ∗ pts P c (dstReg g) fullShare) -∗ Q ⟨⟩) -∗ wpc c (Prog.lift w) Q) := by
  subst hn
  unfold legRcv
  iintro ⟨#HR, #HL, ⟨Hc, Hat⟩, HO⟩ Hk
  ihave HI := (recs_inv P K c (recvIx g)) $$ HR
  iapply wp_fupd
  iapply (wp_waitCell P c K (recvIx g) hsm hw 0 (expect_recv P c g).symm (owl c gs) _) $$ [Hc HO Hat]
  · isplitr; · iexact HR
    isplitl [Hc]; · iexact Hc
    isplitl [HO]; · iexact HO
    isplitr
    · iapply (mayWait_cell c (recvIx g) gs hlv); iexact HL
    iexact Hat
  iintro ⟨HO, Hp, Hpay⟩
  unfold pos
  icases Hp with ⟨Hp, -⟩
  imod (close_cell P c K (recvIx g) 1 (by rw [recv_last])) $$ [Hp] with Hz
  · isplitr; · iexact HR
    iexact Hp
  imodintro
  iapply Hk
  isplitl [HO]; · iexact HO
  isplitl [Hz]; · iexact Hz
  iapply (Entails.of_eq (rest_recv P c g)); iexact Hpay

end Cert.Att
-- ==== Proof.Hop.lean ====
/-
The hops of the ring, over what a device holds between them.
-/
module

public import proofs.«01_k».proof.Proof.Pieces

@[expose] public section

noncomputable section

namespace Cert.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F) (c : Dev nD) (K : Dev nD × Fin 22 → ℕ)

/-! ## What a device holds of each leg and slot -/

/-- Leg number `n`. -/
abbrev lg (n : Nat) : Leg := Fin.ofNat 17 n

/-- What a device holds of a leg before it leaves: its payers' tokens, its own arrival's credit and position, the neighbour's
    region. -/
def ready (n : Nat) : sProp 𝕄 := iprop(legTok c (lg n) ∗ legRcv c (lg n) ∗ raw (dst (lg n) c) (dstReg (lg n)))
/-- What it owes for the legs of a list. -/
def owedN (ns : List Nat) : sProp 𝕄 := owed c (owl c (ns.map lg))
/-- A leg's receive cell, closed. -/
def shut (n : Nat) : sProp 𝕄 := semVal (kcell c (recvIx (lg n))) 0
/-- A whole slot with its contents. -/
def slotF (n : Nat) : sProp 𝕄 := pts P c (Fin.ofNat 16 n, none) fullShare
/-- The position at the send cell that hop `h` to the right uses, -/
def posR (h : Nat) : sProp 𝕄 := pos c (if h % 2 = 0 then 2 else 1) ((h + 2) / 2)
/-- and to the left. -/
def posL (h : Nat) : sProp 𝕄 := pos c (if h % 2 = 0 then 13 else 12) ((h + 2) / 2)

def lvN (n : Nat) : Nat := lvK (recvIx (lg n))

theorem share3 (r : Reg) : pts P c r fullShare ⊣⊢ iprop(pts P c r fullShare.left ∗ pts P c r fullShare.right.left ∗ pts P c r fullShare.right.right) := by
  unfold pts
  constructor
  · refine (scr_share c _ _ (PosShare.mem_left_op_right fullShare)).1.trans ?_
    exact sep_mono_right (scr_share c _ _ (PosShare.mem_left_op_right fullShare.right)).1
  · exact (sep_mono_right (scr_share c _ _ (PosShare.mem_left_op_right fullShare.right)).2).trans
      (scr_share c _ _ (PosShare.mem_left_op_right fullShare)).2

theorem dst_R {g : Leg} (h : toR g) : dst g c = nxt c := if_pos h
theorem dst_L {g : Leg} (h : ¬ toR g) : dst g c = prv c := if_neg h
theorem qs_R {g : Leg} (h : toR g) : qs g = fullShare.left := if_pos h
theorem qs_L {g : Leg} (h : ¬ toR g) : qs g = fullShare.right.left := if_neg h

theorem right_facts : ∀ h : Fin 7, toR (lg (h.val + 2)) ∧ srcReg (lg (h.val + 2)) = (Fin.ofNat 16 (h.val + 1), none)
    ∧ dstReg (lg (h.val + 2)) = (Fin.ofNat 16 (h.val + 2), none)
    ∧ sendIx (lg (h.val + 2)) = (if h.val % 2 = 0 then 2 else 1) ∧ sendRd (lg (h.val + 2)) = (h.val + 2) / 2
    ∧ SemLoc.dma (sem2 cc0_scratch1 (par h.val)) = csem (sendIx (lg (h.val + 2)))
    ∧ SemLoc.dma (sem9 cc0_scratch2 (rn h.val h.isLt)) = csem (recvIx (lg (h.val + 2))) := by decide

theorem left_facts : ∀ h : Fin 6, ¬ toR (lg (h.val + 11)) ∧ srcReg (lg (h.val + 11)) = (Fin.ofNat 16 (h.val + 9), none)
    ∧ dstReg (lg (h.val + 11)) = (Fin.ofNat 16 (h.val + 10), none)
    ∧ sendIx (lg (h.val + 11)) = (if h.val % 2 = 0 then 13 else 12) ∧ sendRd (lg (h.val + 11)) = (h.val + 2) / 2
    ∧ SemLoc.dma (sem2 cc0_scratch3 (par h.val)) = csem (sendIx (lg (h.val + 11)))
    ∧ SemLoc.dma (sem8 cc0_scratch4 (ln h.val h.isLt)) = csem (recvIx (lg (h.val + 11))) := by decide

/-- What a device keeps of a leg while it travels. -/
def under (n : Nat) : sProp 𝕄 := iprop(cred (tallyAt (kcell c (sendIx (lg n))) () (amt (lg n))) ∗ legRcv c (lg n))

theorem amt_slot {g : Leg} {k : Fin 16} (h : dstReg g = (k, none)) : NF = amt g := by unfold amt; rw [h]; rfl
theorem amt_half {g : Leg} {k : Fin 16} {b : Fin 2} (h : dstReg g = (k, some b)) : NH = amt g := by unfold amt; rw [h]; rfl

theorem rs_eq (h : Nat) (hh : h < 8) : rs h hh = Fin.ofNat 16 (h + 1) := Fin.ext (Nat.mod_eq_of_lt (by omega)).symm
theorem ls_eq (h : Nat) (hh : h < 7) : ls h hh = Fin.ofNat 16 (h + 9) := Fin.ext (Nat.mod_eq_of_lt (by omega)).symm

/-! ## The waits, by size -/

theorem wp_waitSlotSend (g : Leg) (gs : List Leg) {sm : DmaSem sig} (hsm : SemLoc.dma sm = csem (sendIx g)) {x k k' : Fin 16} (hx : dstReg g = (x, none))
    (Q : PUnit → sProp 𝕄) :
    iprop(recs P K ∗ levAts L lv ∗ cred (tallyAt (kcell c (sendIx g)) () (amt g)) ∗ owed c (owl c gs) ∗ pos c (sendIx g) (sendRd g))
      ⊢ iprop(((owed c (owl c gs) ∗ pos c (sendIx g) (sendRd g + 1) ∗ pts P c (srcReg g) (qs g)) -∗ Q ⟨⟩)
        -∗ wpc c (waitSlot kvM (Memref.isWhole_whole _) k k' sm) Q) := by
  unfold waitSlot
  refine wp_waitSend P c K g gs hsm (n := (slotM kvM k').view.dmaCredit) ?_ (amt_slot hx) Q
  exact fun Q => wpE_waitDma2_eq 𝒱₀ (c : Thread nD τ) none Set.univ Q

theorem wp_waitSlotRecv (g : Leg) (gs : List Leg) (hlv : ∀ g' ∈ gs, lvK (recvIx g) < lvK (recvIx g')) {sm : DmaSem sig}
    (hsm : SemLoc.dma sm = csem (recvIx g)) {x k k' : Fin 16} (hx : dstReg g = (x, none)) (Q : PUnit → sProp 𝕄) :
    iprop(recs P K ∗ levAts L lv ∗ legRcv c g ∗ owed c (owl c gs))
      ⊢ iprop(((owed c (owl c gs) ∗ semVal (kcell c (recvIx g)) 0 ∗ pts P c (dstReg g) fullShare) -∗ Q ⟨⟩)
        -∗ wpc c (waitSlot kvM (Memref.isWhole_whole _) k k' sm) Q) := by
  unfold waitSlot
  refine wp_waitRecv P c K g gs hlv hsm (n := (slotM kvM k').view.dmaCredit) ?_ (amt_slot hx) Q
  exact fun Q => wpE_waitDma2_eq 𝒱₀ (c : Thread nD τ) none Set.univ Q

theorem wp_waitHalfSend (g : Leg) (gs : List Leg) {sm : DmaSem sig} (hsm : SemLoc.dma sm = csem (sendIx g)) {x k k' : Fin 16} {b b' : Fin 2} (hx : dstReg g = (x, some b'))
    (Q : PUnit → sProp 𝕄) :
    iprop(recs P K ∗ levAts L lv ∗ cred (tallyAt (kcell c (sendIx g)) () (amt g)) ∗ owed c (owl c gs) ∗ pos c (sendIx g) (sendRd g))
      ⊢ iprop(((owed c (owl c gs) ∗ pos c (sendIx g) (sendRd g + 1) ∗ pts P c (srcReg g) (qs g)) -∗ Q ⟨⟩)
        -∗ wpc c (waitHalf kvM (Memref.isWhole_whole _) k k' b sm) Q) := by
  unfold waitHalf
  refine wp_waitSend P c K g gs hsm (n := (halfM kvM k' b).view.dmaCredit) ?_ (amt_half hx) Q
  exact fun Q => wpE_waitDma2_eq 𝒱₀ (c : Thread nD τ) none Set.univ Q

theorem wp_waitHalfRecv (g : Leg) (gs : List Leg) (hlv : ∀ g' ∈ gs, lvK (recvIx g) < lvK (recvIx g')) {sm : DmaSem sig}
    (hsm : SemLoc.dma sm = csem (recvIx g)) {x k k' : Fin 16} {b b' : Fin 2} (hx : dstReg g = (x, some b')) (Q : PUnit → sProp 𝕄) :
    iprop(recs P K ∗ levAts L lv ∗ legRcv c g ∗ owed c (owl c gs))
      ⊢ iprop(((owed c (owl c gs) ∗ semVal (kcell c (recvIx g)) 0 ∗ pts P c (dstReg g) fullShare) -∗ Q ⟨⟩)
        -∗ wpc c (waitHalf kvM (Memref.isWhole_whole _) k k' b sm) Q) := by
  unfold waitHalf
  refine wp_waitRecv P c K g gs hlv hsm (n := (halfM kvM k' b).view.dmaCredit) ?_ (amt_half hx) Q
  exact fun Q => wpE_waitDma2_eq 𝒱₀ (c : Thread nD τ) none Set.univ Q

/-! ## Sending and waiting to the right and to the left -/

theorem wp_sendR (h : Nat) (hh : h < 7) (ns : List Nat) (Q : PUnit → sProp 𝕄) :
    iprop(recs P K ∗ owedN c ((h + 2) :: ns) ∗ ready c (h + 2) ∗ posR c h ∗ pts P c (Fin.ofNat 16 (h + 1), none) fullShare.left)
      ⊢ iprop(((owedN c ns ∗ under c (h + 2) ∗ posR c h) -∗ Q ⟨⟩)
        -∗ wpc c (sendR kvM (Memref.isWhole_whole _) cc0_scratch1 cc0_scratch2 c h hh) Q) := by
  obtain ⟨h1, h2, h3, h4, h5, h6, h7⟩ := right_facts ⟨h, hh⟩
  dsimp only at h1 h2 h3 h4 h5 h6 h7
  unfold sendR owedN ready posR under
  rw [rs_eq, rs_eq, ← h4, ← h5, ← qs_R h1]
  iintro ⟨#HR, HO, ⟨HT, HV, Hraw⟩, Hp, Hs⟩ Hk
  iapply (wp_sendSlot P c K (lg (h + 2)) (ns.map lg) h2 h3 ((rightDev_eq c).trans (dst_R c h1).symm) h6 h7 Q) $$ [HO HT Hraw Hp Hs]
  · isplitr; · iexact HR
    isplitl [Hs]; · iexact Hs
    isplitl [Hraw]; · rw [h3]; iexact Hraw
    isplitl [HO]; · iexact HO
    isplitl [HT] <;> iassumption
  iintro ⟨Hc, HO, Hp⟩
  iapply Hk
  isplitl [HO]; · iexact HO
  isplitl [Hc HV]; · isplitl [Hc] <;> iassumption
  iexact Hp

theorem wp_sendL (h : Nat) (hh : h < 6) (ns : List Nat) (Q : PUnit → sProp 𝕄) :
    iprop(recs P K ∗ owedN c ((h + 11) :: ns) ∗ ready c (h + 11) ∗ posL c h ∗ pts P c (Fin.ofNat 16 (h + 9), none) fullShare.right.left)
      ⊢ iprop(((owedN c ns ∗ under c (h + 11) ∗ posL c h) -∗ Q ⟨⟩)
        -∗ wpc c (sendL kvM (Memref.isWhole_whole _) cc0_scratch3 cc0_scratch4 c h hh) Q) := by
  obtain ⟨h1, h2, h3, h4, h5, h6, h7⟩ := left_facts ⟨h, hh⟩
  dsimp only at h1 h2 h3 h4 h5 h6 h7
  unfold sendL owedN ready posL under
  rw [ls_eq, ls_eq, ← h4, ← h5, ← qs_L h1]
  iintro ⟨#HR, HO, ⟨HT, HV, Hraw⟩, Hp, Hs⟩ Hk
  iapply (wp_sendSlot P c K (lg (h + 11)) (ns.map lg) h2 h3 ((leftDev_eq c).trans (dst_L c h1).symm) h6 h7 Q) $$ [HO HT Hraw Hp Hs]
  · isplitr; · iexact HR
    isplitl [Hs]; · iexact Hs
    isplitl [Hraw]; · rw [h3]; iexact Hraw
    isplitl [HO]; · iexact HO
    isplitl [HT] <;> iassumption
  iintro ⟨Hc, HO, Hp⟩
  iapply Hk
  isplitl [HO]; · iexact HO
  isplitl [Hc HV]; · isplitl [Hc] <;> iassumption
  iexact Hp

theorem next_par (h a b : Nat) : (if (h + 2) % 2 = 0 then a else b) = (if h % 2 = 0 then a else b) := by
  rw [Nat.add_mod_right]
theorem posR_next (h : Nat) : (pos c (if h % 2 = 0 then 2 else 1) ((h + 2) / 2 + 1) : sProp 𝕄) = posR c (h + 2) := by
  unfold posR
  rw [Nat.add_mod_right, show (h + 2 + 2) / 2 = (h + 2) / 2 + 1 by omega]
theorem posL_next (h : Nat) : (pos c (if h % 2 = 0 then 13 else 12) ((h + 2) / 2 + 1) : sProp 𝕄) = posL c (h + 2) := by
  unfold posL
  rw [Nat.add_mod_right, show (h + 2 + 2) / 2 = (h + 2) / 2 + 1 by omega]

theorem map_lv {n : Nat} {ns : List Nat} (h : ∀ n' ∈ ns, lvN n < lvN n') : ∀ g ∈ ns.map lg, lvK (recvIx (lg n)) < lvK (recvIx g) := fun g hg => by
  obtain ⟨n', h', rfl⟩ := List.mem_map.mp hg
  exact h n' h'

theorem wp_waitR (h : Nat) (hh : h < 7) (ns : List Nat) (hlv : ∀ n ∈ ns, lvN (h + 2) < lvN n) (Q : PUnit → sProp 𝕄) :
    iprop(recs P K ∗ levAts L lv ∗ owedN c ns ∗ under c (h + 2) ∗ posR c h)
      ⊢ iprop(((owedN c ns ∗ shut c (h + 2) ∗ posR c (h + 2) ∗ pts P c (Fin.ofNat 16 (h + 1), none) fullShare.left ∗ slotF P c (h + 2)) -∗ Q ⟨⟩)
        -∗ wpc c (waitR kvM (Memref.isWhole_whole _) cc0_scratch1 cc0_scratch2 h hh) Q) := by
  obtain ⟨h1, h2, h3, h4, h5, h6, h7⟩ := right_facts ⟨h, hh⟩
  dsimp only at h1 h2 h3 h4 h5 h6 h7
  unfold waitR owedN under shut slotF
  rw [← posR_next]
  unfold posR
  rw [rs_eq, rs_eq, ← h4, ← h5, ← qs_R h1, ← h2, ← h3]
  simp only [wp_bind]
  iintro ⟨#HR, #HL, HO, ⟨Hc, HV⟩, Hp⟩ Hk
  iapply (wp_waitSlotSend P c K (lg (h + 2)) (ns.map lg) h6 h3 _) $$ [HO Hc Hp]
  · isplitr; · iexact HR
    isplitr; · iexact HL
    isplitl [Hc]; · iexact Hc
    isplitl [HO] <;> iassumption
  iintro ⟨HO, Hp, Hs⟩
  iapply (wp_waitSlotRecv P c K (lg (h + 2)) (ns.map lg) (map_lv hlv) h7 h3 _) $$ [HO HV]
  · isplitr; · iexact HR
    isplitr; · iexact HL
    isplitl [HV] <;> iassumption
  iintro ⟨HO, Hz, Hd⟩
  iapply Hk
  isplitl [HO]; · iexact HO
  isplitl [Hz]; · iexact Hz
  isplitl [Hp]; · iexact Hp
  isplitl [Hs] <;> iassumption

theorem wp_waitL (h : Nat) (hh : h < 6) (ns : List Nat) (hlv : ∀ n ∈ ns, lvN (h + 11) < lvN n) (Q : PUnit → sProp 𝕄) :
    iprop(recs P K ∗ levAts L lv ∗ owedN c ns ∗ under c (h + 11) ∗ posL c h)
      ⊢ iprop(((owedN c ns ∗ shut c (h + 11) ∗ posL c (h + 2) ∗ pts P c (Fin.ofNat 16 (h + 9), none) fullShare.right.left ∗ slotF P c (h + 10)) -∗ Q ⟨⟩)
        -∗ wpc c (waitL kvM (Memref.isWhole_whole _) cc0_scratch3 cc0_scratch4 h hh) Q) := by
  obtain ⟨h1, h2, h3, h4, h5, h6, h7⟩ := left_facts ⟨h, hh⟩
  dsimp only at h1 h2 h3 h4 h5 h6 h7
  unfold waitL owedN under shut slotF
  rw [← posL_next]
  unfold posL
  rw [ls_eq, ls_eq, ← h4, ← h5, ← qs_L h1, ← h2, ← h3]
  simp only [wp_bind]
  iintro ⟨#HR, #HL, HO, ⟨Hc, HV⟩, Hp⟩ Hk
  iapply (wp_waitSlotSend P c K (lg (h + 11)) (ns.map lg) h6 h3 _) $$ [HO Hc Hp]
  · isplitr; · iexact HR
    isplitr; · iexact HL
    isplitl [Hc]; · iexact Hc
    isplitl [HO] <;> iassumption
  iintro ⟨HO, Hp, Hs⟩
  iapply (wp_waitSlotRecv P c K (lg (h + 11)) (ns.map lg) (map_lv hlv) h7 h3 _) $$ [HO HV]
  · isplitr; · iexact HR
    isplitr; · iexact HL
    isplitl [HV] <;> iassumption
  iintro ⟨HO, Hz, Hd⟩
  iapply Hk
  isplitl [HO]; · iexact HO
  isplitl [Hz]; · iexact Hz
  isplitl [Hp]; · iexact Hp
  isplitl [Hs] <;> iassumption

/-! ## A hop -/

/-- The state after the two slots of a hop. -/
def two (h : Nat) (q : Fin 2 → FVec F S256x256 .f32) (s : Fin 2 → Fin 4 → St F) : Fin 2 → Fin 4 → St F :=
  cons P c (Fin.ofNat 16 (h + 9)) q fun b t => some (cons P c (Fin.ofNat 16 (h + 1)) q (fun b t => some (s b t)) b t)

theorem wp_hop (h : Nat) (hh : h < 6) (ns : List Nat) (hlv : ∀ n ∈ ns, lvN (h + 2) < lvN n ∧ lvN (h + 11) < lvN n)
    (q : Fin 2 → FVec F S256x256 .f32) (s : Fin 2 → Fin 4 → St F) (Q : (Fin 2 → Fin 4 → St F) → sProp 𝕄) :
    iprop(recs P K ∗ levAts L lv ∗ owedN c ((h + 2) :: (h + 11) :: ns) ∗ ready c (h + 2) ∗ ready c (h + 11) ∗ posR c h ∗ posL c h
        ∗ slotF P c (h + 1) ∗ slotF P c (h + 9))
      ⊢ iprop(((owedN c ns ∗ posR c (h + 2) ∗ posL c (h + 2) ∗ shut c (h + 2) ∗ shut c (h + 11)
            ∗ slotF P c (h + 1) ∗ slotF P c (h + 9) ∗ slotF P c (h + 2) ∗ slotF P c (h + 10)) -∗ Q (two P c h q s))
        -∗ wpc c (hop kvM (Memref.isWhole_whole _) cc0_scratch1 cc0_scratch2 cc0_scratch3 cc0_scratch4 c q h hh s) Q) := by
  unfold hop two
  simp only [wp_bind, Prog.pure_eq_ret, wp_ret]
  iintro ⟨#HR, #HL, HO, HgR, HgL, HpR, HpL, Hs1, Hs9⟩ Hk
  unfold slotF
  ihave H1 := (share3 P c _).1 $$ Hs1
  icases H1 with ⟨H1a, H1b, H1c⟩
  ihave H9 := (share3 P c _).1 $$ Hs9
  icases H9 with ⟨H9a, H9b, H9c⟩
  iapply (wp_sendR P c K h (Nat.lt_trans hh (by decide)) _ _) $$ [HO HgR HpR H1a]
  · isplitr; · iexact HR
    isplitl [HO]; · iexact HO
    isplitl [HgR]; · iexact HgR
    isplitl [HpR] <;> iassumption
  iintro ⟨HO, HuR, HpR⟩
  iapply (wp_sendL P c K h hh _ _) $$ [HO HgL HpL H9b]
  · isplitr; · iexact HR
    isplitl [HO]; · iexact HO
    isplitl [HgL]; · iexact HgL
    isplitl [HpL] <;> iassumption
  iintro ⟨HO, HuL, HpL⟩
  rw [rs_eq, ls_eq]
  iapply (wp_consume P c _ q _ _ _) $$ H1c
  iintro H1c
  iapply (wp_consume P c _ q _ _ _) $$ H9c
  iintro H9c
  iapply (wp_waitR P c K h (Nat.lt_trans hh (by decide)) ns (fun n hn => (hlv n hn).1) _) $$ [HO HuR HpR]
  · isplitr; · iexact HR
    isplitr; · iexact HL
    isplitl [HO]; · iexact HO
    isplitl [HuR] <;> iassumption
  iintro ⟨HO, HzR, HpR, H1a, H2⟩
  iapply (wp_waitL P c K h hh ns (fun n hn => (hlv n hn).2) _) $$ [HO HuL HpL]
  · isplitr; · iexact HR
    isplitr; · iexact HL
    isplitl [HO]; · iexact HO
    isplitl [HuL] <;> iassumption
  iintro ⟨HO, HzL, HpL, H9b, H10⟩
  imodintro
  iapply Hk
  isplitl [HO]; · iexact HO
  isplitl [HpR]; · iexact HpR
  isplitl [HpL]; · iexact HpL
  isplitl [HzR]; · iexact HzR
  isplitl [HzL]; · iexact HzL
  isplitl [H1a H1b H1c]
  · iapply (share3 P c _).2
    isplitl [H1a]; · iexact H1a
    isplitl [H1b] <;> iassumption
  isplitl [H9a H9b H9c]
  · iapply (share3 P c _).2
    isplitl [H9a]; · iexact H9a
    isplitl [H9b] <;> iassumption
  isplitl [H2] <;> (unfold slotF; iassumption)

/-- The state after the last three slots. -/
def last (q : Fin 2 → FVec F S256x256 .f32) (s : Fin 2 → Fin 4 → St F) : Fin 2 → Fin 4 → St F :=
  cons P c (Fin.ofNat 16 8) q fun b t => some (two P c 6 q s b t)

theorem wp_lastHop (q : Fin 2 → FVec F S256x256 .f32) (s : Fin 2 → Fin 4 → St F) (Q : (Fin 2 → Fin 4 → St F) → sProp 𝕄) :
    iprop(recs P K ∗ levAts L lv ∗ owedN c [8] ∗ ready c 8 ∗ posR c 6 ∗ slotF P c 7 ∗ slotF P c 15)
      ⊢ iprop(((owedN c [] ∗ posR c 8 ∗ shut c 8 ∗ slotF P c 7 ∗ slotF P c 15 ∗ slotF P c 8) -∗ Q (last P c q s))
        -∗ wpc c (lastHop kvM (Memref.isWhole_whole _) cc0_scratch1 cc0_scratch2 c q s) Q) := by
  unfold lastHop last two
  simp only [wp_bind]
  iintro ⟨#HR, #HL, HO, HgR, HpR, Hs1, Hs9⟩ Hk
  unfold slotF
  ihave H1 := (share3 P c _).1 $$ Hs1
  icases H1 with ⟨H1a, H1b, H1c⟩
  iapply (wp_sendR P c K 6 (Nat.lt_of_lt_of_le (by decide : 6 < 7) (Nat.le_refl 7)) [] _) $$ [HO HgR HpR H1a]
  · isplitr; · iexact HR
    isplitl [HO]; · iexact HO
    isplitl [HgR]; · iexact HgR
    isplitl [HpR] <;> iassumption
  iintro ⟨HO, HuR, HpR⟩
  rw [rs_eq, ls_eq, rs_eq]
  iapply (wp_consume P c _ q _ _ _) $$ H1c
  iintro H1c
  iapply (wp_consume P c _ q _ _ _) $$ Hs9
  iintro Hs9
  iapply (wp_waitR P c K 6 (Nat.lt_of_lt_of_le (by decide : 6 < 7) (Nat.le_refl 7)) [] (fun n hn => absurd hn List.not_mem_nil) _) $$ [HO HuR HpR]
  · isplitr; · iexact HR
    isplitr; · iexact HL
    isplitl [HO]; · iexact HO
    isplitl [HuR] <;> iassumption
  iintro ⟨HO, HzR, HpR, H1a, H2⟩
  unfold slotF
  iapply (wp_consume P c _ q _ _ _) $$ H2
  iintro H2
  iapply Hk
  isplitl [HO]; · iexact HO
  isplitl [HpR]; · iexact HpR
  isplitl [HzR]; · iexact HzR
  isplitl [H1a H1b H1c]
  · iapply (share3 P c _).2
    isplitl [H1a]; · iexact H1a
    isplitl [H1b] <;> iassumption
  isplitl [Hs9] <;> iassumption

end Cert.Att
-- ==== Proof.Ends.lean ====
/-
The two ends of the body: the handshake and the first hop, a batch at a time, and the stores of the result.
-/
module

public import proofs.«01_k».proof.Proof.Hop

@[expose] public section

noncomputable section

namespace Cert.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F) (c : Dev nD) (K : Dev nD × Fin 22 → ℕ)

/-! ## The first hop -/

theorem first_facts : ∀ b : Fin 2, toR (lg b.val) ∧ ¬ toR (lg (b.val + 9)) ∧ srcReg (lg b.val) = (0, some b) ∧ srcReg (lg (b.val + 9)) = (0, some b)
    ∧ dstReg (lg b.val) = (1, some b) ∧ dstReg (lg (b.val + 9)) = (9, some b) := by decide
theorem first_cells : ∀ b : Fin 2, SemLoc.dma (sem2 cc0_scratch1 b) = csem (sendIx (lg b.val)) ∧ SemLoc.dma (sem9 cc0_scratch2 (r0 b)) = csem (recvIx (lg b.val))
    ∧ SemLoc.dma (sem2 cc0_scratch3 b) = csem (sendIx (lg (b.val + 9))) ∧ SemLoc.dma (sem8 cc0_scratch4 (l0 b)) = csem (recvIx (lg (b.val + 9))) := by decide
theorem first_pos : ∀ b : Fin 2, sendIx (lg b.val) = (if (1 - b.val) % 2 = 0 then 2 else 1) ∧ sendRd (lg b.val) + 1 = (1 - b.val + 2) / 2
    ∧ sendIx (lg (b.val + 9)) = (if (1 - b.val) % 2 = 0 then 13 else 12) ∧ sendRd (lg (b.val + 9)) + 1 = (1 - b.val + 2) / 2 := by decide

/-- The position at a leg's send cell when it leaves. -/
def pos0 (n : Nat) : sProp 𝕄 := pos c (sendIx (lg n)) (sendRd (lg n))

theorem pos0_R (b : Fin 2) : (pos c (sendIx (lg b.val)) (sendRd (lg b.val) + 1) : sProp 𝕄) = posR c (1 - b.val) := by
  unfold posR; rw [(first_pos b).1, (first_pos b).2.1]
theorem pos0_L (b : Fin 2) : (pos c (sendIx (lg (b.val + 9))) (sendRd (lg (b.val + 9)) + 1) : sProp 𝕄) = posL c (1 - b.val) := by
  unfold posL; rw [(first_pos b).2.2.1, (first_pos b).2.2.2]

theorem wp_sendFirst (b : Fin 2) (ns : List Nat) (Q : PUnit → sProp 𝕄) :
    iprop(recs P K ∗ owedN c (b.val :: (b.val + 9) :: ns) ∗ ready c b.val ∗ ready c (b.val + 9) ∗ pos0 c b.val ∗ pos0 c (b.val + 9)
        ∗ pts P c (0, some b) fullShare.left ∗ pts P c (0, some b) fullShare.right.left)
      ⊢ iprop(((owedN c ns ∗ under c b.val ∗ under c (b.val + 9) ∗ pos0 c b.val ∗ pos0 c (b.val + 9)) -∗ Q ⟨⟩)
        -∗ wpc c (sendFirst kvM (Memref.isWhole_whole _) cc0_scratch1 cc0_scratch2 cc0_scratch3 cc0_scratch4 c b) Q) := by
  obtain ⟨h1, h2, h3, h4, h5, h6⟩ := first_facts b
  obtain ⟨e1, e2, e3, e4⟩ := first_cells b
  unfold sendFirst owedN ready pos0 under
  rw [← qs_R h1, ← qs_L h2]
  simp only [wp_bind]
  iintro ⟨#HR, HO, ⟨HT, HV, Hraw⟩, ⟨HT', HV', Hraw'⟩, Hp, Hp', Hs, Hs'⟩ Hk
  iapply (wp_sendHalf P c K (lg b.val) (((b.val + 9) :: ns).map lg) h3 h5 ((rightDev_eq c).trans (dst_R c h1).symm) e1 e2 _) $$ [HO HT Hraw Hp Hs]
  · isplitr; · iexact HR
    isplitl [Hs]; · iexact Hs
    isplitl [Hraw]; · rw [h5]; iexact Hraw
    isplitl [HO]; · iexact HO
    isplitl [HT] <;> iassumption
  iintro ⟨Hc, HO, Hp⟩
  iapply (wp_sendHalf P c K (lg (b.val + 9)) (ns.map lg) h4 h6 ((leftDev_eq c).trans (dst_L c h2).symm) e3 e4 _) $$ [HO HT' Hraw' Hp' Hs']
  · isplitr; · iexact HR
    isplitl [Hs']; · iexact Hs'
    isplitl [Hraw']; · rw [h6]; iexact Hraw'
    isplitl [HO]; · iexact HO
    isplitl [HT'] <;> iassumption
  iintro ⟨Hc', HO, Hp'⟩
  iapply Hk
  isplitl [HO]; · iexact HO
  isplitl [Hc HV]; · isplitl [Hc] <;> iassumption
  isplitl [Hc' HV']; · isplitl [Hc'] <;> iassumption
  isplitl [Hp] <;> iassumption

theorem wp_waitFirst (b : Fin 2) (ns : List Nat) (hlv : ∀ n ∈ ns, lvN b.val < lvN n ∧ lvN (b.val + 9) < lvN n) (Q : PUnit → sProp 𝕄) :
    iprop(recs P K ∗ levAts L lv ∗ owedN c ns ∗ under c b.val ∗ under c (b.val + 9) ∗ pos0 c b.val ∗ pos0 c (b.val + 9))
      ⊢ iprop(((owedN c ns ∗ shut c b.val ∗ shut c (b.val + 9) ∗ posR c (1 - b.val) ∗ posL c (1 - b.val)
          ∗ pts P c (0, some b) fullShare.left ∗ pts P c (0, some b) fullShare.right.left
          ∗ pts P c (1, some b) fullShare ∗ pts P c (9, some b) fullShare) -∗ Q ⟨⟩)
        -∗ wpc c (waitFirst kvM (Memref.isWhole_whole _) cc0_scratch1 cc0_scratch2 cc0_scratch3 cc0_scratch4 b) Q) := by
  obtain ⟨h1, h2, h3, h4, h5, h6⟩ := first_facts b
  obtain ⟨e1, e2, e3, e4⟩ := first_cells b
  unfold waitFirst owedN under shut
  rw [← pos0_R, ← pos0_L]
  unfold pos0
  simp only [wp_bind]
  iintro ⟨#HR, #HL, HO, ⟨Hc, HV⟩, ⟨Hc', HV'⟩, Hp, Hp'⟩ Hk
  iapply (wp_waitHalfSend P c K (lg b.val) (ns.map lg) e1 h5 _) $$ [HO Hc Hp]
  · isplitr; · iexact HR
    isplitr; · iexact HL
    isplitl [Hc]; · iexact Hc
    isplitl [HO] <;> iassumption
  iintro ⟨HO, Hp, Hs⟩
  iapply (wp_waitHalfRecv P c K (lg b.val) (ns.map lg) (map_lv fun n hn => (hlv n hn).1) e2 h5 _) $$ [HO HV]
  · isplitr; · iexact HR
    isplitr; · iexact HL
    isplitl [HV] <;> iassumption
  iintro ⟨HO, Hz, Hd⟩
  iapply (wp_waitHalfSend P c K (lg (b.val + 9)) (ns.map lg) e3 h6 _) $$ [HO Hc' Hp']
  · isplitr; · iexact HR
    isplitr; · iexact HL
    isplitl [Hc']; · iexact Hc'
    isplitl [HO] <;> iassumption
  iintro ⟨HO, Hp', Hs'⟩
  iapply (wp_waitHalfRecv P c K (lg (b.val + 9)) (ns.map lg) (map_lv fun n hn => (hlv n hn).2) e4 h6 _) $$ [HO HV']
  · isplitr; · iexact HR
    isplitr; · iexact HL
    isplitl [HV'] <;> iassumption
  iintro ⟨HO, Hz', Hd'⟩
  rw [h3, h4, h5, h6, qs_R h1, qs_L h2]
  iapply Hk
  isplitl [HO]; · iexact HO
  isplitl [Hz]; · iexact Hz
  isplitl [Hz']; · iexact Hz'
  isplitl [Hp]; · iexact Hp
  isplitl [Hp']; · iexact Hp'
  isplitl [Hs]; · iexact Hs
  isplitl [Hs']; · iexact Hs'
  isplitl [Hd] <;> iassumption

/-! ## The handshake -/

theorem handshake_eq : (handshake c : Pg F PUnit) = (do
    semSignalWord (prv c) barS 1#32
    semSignalWord (nxt c) barS 1#32
    semWaitWord barS 2#32) := by
  rw [← leftDev_eq, ← rightDev_eq]; rfl

/-- The barrier cell, its semaphore written out. -/
abbrev bc (d : Dev nD) : GSem nD τ sig := ((d : Thread nD τ), SemLoc.reg barS)

theorem wp_handshake' (Q : PUnit → sProp 𝕄) :
    iprop(recs P K ∗ levAts L lv ∗ owed c (owl c legOrder + tallyAt (bc (nxt c)) () 1 + tallyAt (bc (prv c)) () 1) ∗ dutyTok ER (bc (prv c)) 0 true ∗ dutyTok ER (bc (nxt c)) 0 false
        ∗ (bigSep legsR fun g => raw (F := F) c (dstReg g)) ∗ (bigSep legsL fun g => raw (F := F) c (dstReg g))
        ∗ cred (tallyAt (bc c) () 2) ∗ atPos ER (bc c) 0 ∅ 0)
      ⊢ iprop(((owed c (owl c legOrder) ∗ semVal (bc c) 0 ∗ (bigSep legsL fun g => raw (F := F) (prv c) (dstReg g))
          ∗ (bigSep legsR fun g => raw (F := F) (nxt c) (dstReg g))) -∗ Q ⟨⟩)
        -∗ wpc c (handshake c) Q) := by
  rw [handshake_eq]
  unfold owed
  simp only [semSignalWord, semWaitWord, Prog.lift, Prog.bind_op, Prog.bind_ret, Prog.pure_eq_ret]
  iintro ⟨#HR, #HL, ⟨%W, HO⟩, HtP, HtN, HrR, HrL, Hc, Hat⟩ Hk
  ihave #HIP := (show recs P K ⊢ cellInv ER (Rd P) (K (prv c, 0)) (bc (prv c)) from recs_inv P K (prv c) 0) $$ HR
  ihave #HIN := (show recs P K ⊢ cellInv ER (Rd P) (K (nxt c, 0)) (bc (nxt c)) from recs_inv P K (nxt c) 0) $$ HR
  ihave #HI := (show recs P K ⊢ cellInv ER (Rd P) (K (c, 0)) (bc c) from recs_inv P K c 0) $$ HR
  ihave #HrP := (show recs P K ⊢ reached ER (bc (prv c)) 0 from recs_reached P K (prv c) 0) $$ HR
  ihave #HrN := (show recs P K ⊢ reached ER (bc (nxt c)) 0 from recs_reached P K (nxt c) 0) $$ HR
  iapply (Rounds.wp_signal 𝒱₀ ER (Rd P) (c : Thread nD τ) none (dst := (prv c : Thread nD τ)) (κ := K (prv c, 0))
      (d := true) (show _ ∈ (Rd P).duties (barCell (prv c)) 0 from by rw [duties_bar]; exact Finset.mem_univ _) ((show (Rd P).amount (bc (prv c)) 0 true = 1 from amount_bar P (prv c) true).trans (by decide)) () (owl c legOrder + tallyAt (bc (nxt c)) () 1) rfl)
    $$ [HO HtP HrR]
  · isplitr; · iexact HIP
    isplitl [HO]; · iexact HO
    isplitl [HtP]; · iexact HtP
    isplitl [HrR]
    · iapply (Entails.of_eq (show (bigSep legsR fun g => raw (F := F) c (dstReg g)) = (Rd P).payload (bc (prv c)) 0 true from by
        rw [show (Rd P).payload (bc (prv c)) 0 true = barPay (prv c) true from payload_bar P (prv c) true]; unfold barPay; rw [nxt_prv]))
      iexact HrR
    iexact HrP
  iintro HO
  iapply (Rounds.wp_signal 𝒱₀ ER (Rd P) (c : Thread nD τ) none (dst := (nxt c : Thread nD τ)) (κ := K (nxt c, 0))
      (d := false) (show _ ∈ (Rd P).duties (barCell (nxt c)) 0 from by rw [duties_bar]; exact Finset.mem_univ _) ((show (Rd P).amount (bc (nxt c)) 0 false = 1 from amount_bar P (nxt c) false).trans (by decide)) () (owl c legOrder) rfl)
    $$ [HO HtN HrL]
  · isplitr; · iexact HIN
    isplitl [HO]; · iexact HO
    isplitl [HtN]; · iexact HtN
    isplitl [HrL]
    · iapply (Entails.of_eq (show (bigSep legsL fun g => raw (F := F) c (dstReg g)) = (Rd P).payload (bc (nxt c)) 0 false from by
        rw [show (Rd P).payload (bc (nxt c)) 0 false = barPay (nxt c) false from payload_bar P (nxt c) false]; unfold barPay; rw [prv_nxt]))
      iexact HrL
    iexact HrN
  iintro HO
  iapply (Rounds.wp_wait_rest_token 𝒱₀ ER (Rd P) (c : Thread nD τ) none (κ := K (c, 0))
      (wpE_semWait_eq 𝒱₀ (c : Thread nD τ) none Set.univ) (Set.mem_univ _) () (O := owl c legOrder) (W := W) (R := 0) (m := 0) (T := ∅)
      (show 0 + (2#32).toNat = (Rd P).expect (barCell c) 0 by rw [expect_bar]; decide)) $$ [Hc HO Hat]
  · isplitr; · iexact HI
    isplitl [Hc]; · iexact Hc
    isplitl [HO]; · iexact HO
    isplitr
    · iapply (show (levAts L lv : sProp 𝕄) ⊢ MayWait (c : Thread nD τ) (SemLoc.reg barS) () (owl c legOrder) from mayWait_cell c 0 legOrder (by decide)); iexact HL
    iexact Hat
  iintro ⟨HO, Hat, -, Hpay⟩
  ihave Hp := (Entails.of_eq (show bigSep ((Rd P).duties (bc c) 0 \ ∅) (fun d => (Rd P).payload (bc c) 0 d) = iprop(barPay (F := F) c false ∗ barPay c true) from rest_bar P c)) $$ Hpay
  unfold barPay
  icases Hp with ⟨HpL, HpR⟩
  imod (show iprop(recs P K ∗ atPos ER (bc c) (0 + 1) ∅ 0) ⊢ |={Set.univ}=> (semVal (bc c) 0 : sProp 𝕄) from close_cell P c K 0 1 rfl) $$ [Hat] with Hz
  · isplitr; · iexact HR
    iexact Hat
  rw [wp_ret]; imodintro
  iapply Hk
  isplitl [HO]; · iexists _; iexact HO
  isplitl [Hz]; · iexact Hz
  isplitl [HpL] <;> iassumption

theorem wp_handshake (Q : PUnit → sProp 𝕄) :
    iprop(recs P K ∗ levAts L lv ∗ owed c (O₀ c) ∗ dutyTok ER (barCell (prv c)) 0 true ∗ dutyTok ER (barCell (nxt c)) 0 false
        ∗ (bigSep legsR fun g => raw (F := F) c (dstReg g)) ∗ (bigSep legsL fun g => raw (F := F) c (dstReg g))
        ∗ cred (tallyAt (barCell c) () 2) ∗ atPos ER (barCell c) 0 ∅ 0)
      ⊢ iprop(((owed c (owl c legOrder) ∗ semVal (barCell c) 0 ∗ (bigSep legsL fun g => raw (F := F) (prv c) (dstReg g))
          ∗ (bigSep legsR fun g => raw (F := F) (nxt c) (dstReg g))) -∗ Q ⟨⟩)
        -∗ wpc c (handshake c) Q) := wp_handshake' P c K Q

/-! ## The result -/

/-- The output block after both stores. -/
def outF (v : Fin 2 → FVec F S256x768 .f32) : (cc0_stg5_0 : Ref sig .tc).ty.Contents (Elt F) :=
  fun i : S2x256x768.Idx => v (i 0) (ix2 (i 1) (i 2))

/-- The store of a batch of the result. -/
def outW (b : Fin 2) (f : (cc0_stg5_0 : Ref sig .tc).ty.Contents (Elt F)) (v : FVec F S256x768 .f32) :
    (cc0_stg5_0 : Ref sig .tc).ty.Contents (Elt F) :=
  ((Memref.whole cc0_stg5_0 : Memref sig .tc .vmem S2x256x768 .f32).access (batchRect b)).write (Elt F) f
    (shapeCast S1x256x768 v shapeCasts_S256x768_S1x256x768) Finset.univ

theorem batch_emb (b : Fin 2) {i : S2x256x768.Idx} (h : (i 0 : Nat) = b.val) : (batchRect b).emb (ix3 0 (i 1) (i 2)) = i := by
  funext a
  refine Fin.ext ?_
  show (![b.val, 0, 0] : Fin 3 → Nat) a + 1 * _ = _
  fin_cases a
  · show b.val + 1 * 0 = (i 0 : Nat); omega
  · show 0 + 1 * (i 1 : Nat) = (i 1 : Nat); omega
  · show 0 + 1 * (i 2 : Nat) = (i 2 : Nat); omega

theorem not_mem_batch (b : Fin 2) {i : S2x256x768.Idx} (h : (i 0 : Nat) ≠ b.val) : i ∉ (batchRect b).set := fun hi => by
  rw [Rect.mem_set_unit] at hi
  have h0 := hi 0
  simp at h0
  omega

theorem outW_apply (b : Fin 2) (f : (cc0_stg5_0 : Ref sig .tc).ty.Contents (Elt F)) (v : FVec F S256x768 .f32) (i : S2x256x768.Idx) :
    outW b f v i = if (i 0 : Nat) = b.val then v (ix2 (i 1) (i 2)) else f i := by
  unfold outW
  split
  · rename_i h
    have e := batch_emb b h
    rw [← shapeCast_ab_1ab_apply v shapeCasts_S256x768_S1x256x768 0 (i 1) (i 2)]
    revert e
    generalize (shapeCast S1x256x768 v shapeCasts_S256x768_S1x256x768) = w
    generalize (ix3 0 (i 1) (i 2) : S1x256x768.Idx) = x
    intro e
    rw [← e]
    show ((Memref.whole cc0_stg5_0 : Memref sig .tc .vmem S2x256x768 .f32).access (batchRect b)).write (Elt F) f w Finset.univ
      (((Memref.whole cc0_stg5_0 : Memref sig .tc .vmem S2x256x768 .f32).access (batchRect b)).emb x) = w x
    rw [View.write_emb]
    exact if_pos (Finset.mem_univ x)
  · rename_i h
    rw [View.write_of_not_mem]
    rw [View.setOn_univ]
    exact fun hi => not_mem_batch b h ((View.set_slice_whole cc0_stg5_0 (batchRect b)) ▸ hi)

theorem outW_both (f : (cc0_stg5_0 : Ref sig .tc).ty.Contents (Elt F)) (v : Fin 2 → FVec F S256x768 .f32) : outW 1 (outW 0 f (v 0)) (v 1) = outF v := by
  funext i
  rw [outW_apply, outW_apply]
  unfold outF
  rcases (show ∀ x : Fin 2, x = 0 ∨ x = 1 by decide) (i 0) with h | h
  · have h' : (i 0 : Nat) = 0 := congrArg Fin.val h
    rw [h', if_neg (by decide), if_pos (show (0 : Nat) = ((0 : Fin 2) : Nat) from rfl)]
    exact congrArg (fun b => v b (ix2 (i 1) (i 2))) h.symm
  · have h' : (i 0 : Nat) = 1 := congrArg Fin.val h
    rw [h', if_pos (show (1 : Nat) = ((1 : Fin 2) : Nat) from rfl)]
    exact congrArg (fun b => v b (ix2 (i 1) (i 2))) h.symm

theorem wp_finish (b : Fin 2) (s : Fin 4 → St F) (fo) (f) (Q : PUnit → sProp 𝕄) :
    iprop(stgPts c cc0_stg4_0 fo ∗ stgPts c cc0_stg5_0 f)
      ⊢ iprop(((stgPts c cc0_stg4_0 fo ∗ stgPts c cc0_stg5_0 (outW b f (outV (s 0) (s 1) (s 2) (s 3) fo))) -∗ Q ⟨⟩)
        -∗ wpc c (finish (Memref.whole cc0_stg4_0) (Memref.whole cc0_stg5_0) b s) Q) := by
  unfold finish stgPts outW
  simp only [Prog.lift, Prog.bind_op, Prog.bind_ret]
  iintro ⟨Ho, H⟩ Hk
  iapply (wp_load 𝒱₀ (c : Thread nD τ) none Set.univ (m := (Memref.whole cc0_stg4_0 : Memref sig .tc .vmem S256x768 .f32)) (Finset.subset_univ _)) $$ Ho
  iintro Ho
  rw [show (Memref.whole cc0_stg4_0 : Memref sig .tc .vmem S256x768 .f32).view.readAt (Elt F) (Rect.unit (s := S256x768) ![0, 0] ![256, 768] inb_S256x768_S256x768_0_0).toLoadRect fo = fo from
    Memref.readAt_unit_zero (Elt F) cc0_stg4_0 hz2 _ fo]
  iapply (wp_load 𝒱₀ (c : Thread nD τ) none Set.univ (m := (Memref.whole cc0_stg5_0 : Memref sig .tc .vmem S2x256x768 .f32)) (Finset.subset_univ _)) $$ H
  iintro H
  iapply (wp_store 𝒱₀ (c : Thread nD τ) none Set.univ (m := (Memref.whole cc0_stg5_0 : Memref sig .tc .vmem S2x256x768 .f32)) (r := batchRect b) (Mk := Finset.univ) (Finset.subset_univ _)) $$ H
  iintro H
  rw [wp_ret]; imodintro
  iapply Hk
  isplitl [Ho] <;> iassumption

end Cert.Att
-- ==== Proof.Split.lean ====
/-
The body, from what a device starts with to what it ends with.
-/
module

public import proofs.«01_k».proof.Proof.Ends

@[expose] public section

noncomputable section

namespace Cert.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F) (c : Dev nD) (K : Dev nD × Fin 22 → ℕ)

theorem cells_split (Φ : Fin 22 → sProp 𝕄) :
    bigSep Finset.univ Φ = iprop(Φ 0 ∗ Φ 1 ∗ Φ 2 ∗ Φ 12 ∗ Φ 13 ∗ bigSep Finset.univ fun g : Leg => Φ (recvIx g)) := by
  rw [bigSep_univ_eq_bigSepL [(0 : Fin 22), 1, 2, 12, 13, recvIx 0, recvIx 1, recvIx 2, recvIx 3, recvIx 4, recvIx 5, recvIx 6, recvIx 7, recvIx 8, recvIx 9, recvIx 10, recvIx 11, recvIx 12, recvIx 13, recvIx 14, recvIx 15, recvIx 16] (by decide) (by decide) Φ,
    bigSep_univ_eq_bigSepL [(0 : Leg), 1, 2, 3, 4, 5, 6, 7, 8, 9, 10, 11, 12, 13, 14, 15, 16] (by decide) (by decide) (fun g : Leg => Φ (recvIx g))]
  rfl

theorem ready_list : (bigSep Finset.univ fun g : Leg => iprop(legTok (F := F) c g ∗ legRcv c g ∗ raw (dst g c) (dstReg g)))
    = iprop(ready c 0 ∗ ready c 1 ∗ ready c 2 ∗ ready c 3 ∗ ready c 4 ∗ ready c 5 ∗ ready c 6 ∗ ready c 7 ∗ ready c 8 ∗ ready c 9 ∗ ready c 10 ∗ ready c 11 ∗ ready c 12 ∗ ready c 13 ∗ ready c 14 ∗ ready c 15 ∗ ready c 16) := by
  rw [bigSep_univ_eq_bigSepL [(0 : Leg), 1, 2, 3, 4, 5, 6, 7, 8, 9, 10, 11, 12, 13, 14, 15, 16] (by decide) (by decide)]
  rfl

theorem shut_list : (bigSep Finset.univ fun g : Leg => (semVal (kcell c (recvIx g)) 0 : sProp 𝕄))
    = iprop(shut c 0 ∗ shut c 1 ∗ shut c 2 ∗ shut c 3 ∗ shut c 4 ∗ shut c 5 ∗ shut c 6 ∗ shut c 7 ∗ shut c 8 ∗ shut c 9 ∗ shut c 10 ∗ shut c 11 ∗ shut c 12 ∗ shut c 13 ∗ shut c 14 ∗ shut c 15 ∗ shut c 16) := by
  rw [bigSep_univ_eq_bigSepL [(0 : Leg), 1, 2, 3, 4, 5, 6, 7, 8, 9, 10, 11, 12, 13, 14, 15, 16] (by decide) (by decide)]
  rfl

theorem slot_list : scr c Finset.univ fullShare (kvAll P c)
    = iprop(slotF P c 0 ∗ slotF P c 1 ∗ slotF P c 2 ∗ slotF P c 3 ∗ slotF P c 4 ∗ slotF P c 5 ∗ slotF P c 6 ∗ slotF P c 7 ∗ slotF P c 8 ∗ slotF P c 9 ∗ slotF P c 10 ∗ slotF P c 11 ∗ slotF P c 12 ∗ slotF P c 13 ∗ slotF P c 14 ∗ slotF P c 15) := by
  rw [scr_slots, bigSep_univ_eq_bigSepL [(0 : Fin 16), 1, 2, 3, 4, 5, 6, 7, 8, 9, 10, 11, 12, 13, 14, 15] (by decide) (by decide)]
  rfl

theorem list_L (Φ : Leg → sProp 𝕄) : bigSep legsL Φ = iprop(Φ 9 ∗ Φ 10 ∗ Φ 11 ∗ Φ 12 ∗ Φ 13 ∗ Φ 14 ∗ Φ 15 ∗ Φ 16) :=
  bigSep_eq_bigSepL_of_eq (S := legsL) [(9 : Leg), 10, 11, 12, 13, 14, 15, 16] (by decide) (by decide) Φ
theorem list_R (Φ : Leg → sProp 𝕄) : bigSep legsR Φ = iprop(Φ 0 ∗ Φ 1 ∗ Φ 2 ∗ Φ 3 ∗ Φ 4 ∗ Φ 5 ∗ Φ 6 ∗ Φ 7 ∗ Φ 8) :=
  bigSep_eq_bigSepL_of_eq (S := legsR) [(0 : Leg), 1, 2, 3, 4, 5, 6, 7, 8] (by decide) (by decide) Φ
theorem list_LR (Φ : Leg → sProp 𝕄) : bigSep Finset.univ Φ = iprop(Φ 9 ∗ Φ 10 ∗ Φ 11 ∗ Φ 12 ∗ Φ 13 ∗ Φ 14 ∗ Φ 15 ∗ Φ 16 ∗ Φ 0 ∗ Φ 1 ∗ Φ 2 ∗ Φ 3 ∗ Φ 4 ∗ Φ 5 ∗ Φ 6 ∗ Φ 7 ∗ Φ 8) :=
  bigSep_univ_eq_bigSepL [(9 : Leg), 10, 11, 12, 13, 14, 15, 16, 0, 1, 2, 3, 4, 5, 6, 7, 8] (by decide) (by decide) Φ
theorem list_slots (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ

theorem raws_join : iprop((bigSep legsL fun g => raw (F := F) (prv c) (dstReg g)) ∗ (bigSep legsR fun g => raw (F := F) (nxt c) (dstReg g)))
    ⊢ bigSep Finset.univ fun g : Leg => raw (F := F) (dst g c) (dstReg g) := by
  rw [bigSep_congr (s := legsL) (fun g hg => show raw (F := F) (prv c) (dstReg g) = raw (dst g c) (dstReg g) by rw [dst_L c (Finset.mem_filter.mp hg).2]),
    bigSep_congr (s := legsR) (fun g hg => show raw (F := F) (nxt c) (dstReg g) = raw (dst g c) (dstReg g) by rw [dst_R c (Finset.mem_filter.mp hg).2]),
    list_L, list_R, list_LR]
  iintro ⟨⟨H1, H2, H3, H4, H5, H6, H7, H8⟩, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem dst_tab : dstReg 0 = (1, some 0) ∧ dstReg 1 = (1, some 1) ∧ dstReg 2 = (2, none) ∧ dstReg 3 = (3, none) ∧ dstReg 4 = (4, none) ∧ dstReg 5 = (5, none) ∧ dstReg 6 = (6, none) ∧ dstReg 7 = (7, none) ∧ dstReg 8 = (8, none) ∧ dstReg 9 = (9, some 0) ∧ dstReg 10 = (9, some 1) ∧ dstReg 11 = (10, none) ∧ dstReg 12 = (11, none) ∧ dstReg 13 = (12, none) ∧ dstReg 14 = (13, none) ∧ dstReg 15 = (14, none) ∧ dstReg 16 = (15, none) := by decide

theorem raw_slot (k : Fin 16) (f) : scr (F := F) c (rset (k, none)) fullShare f ⊢ raw c (k, none) := by
  unfold raw; iintro H; iexists f; iexact H

theorem scratch_list (f) : scr (F := F) c Finset.univ fullShare f ⊢ iprop((raw (F := F) c (0, some 0) ∗ raw c (0, some 1)) ∗ (raw c (1, some 0) ∗ raw c (1, some 1)) ∗ raw c (2, none) ∗ raw c (3, none) ∗ raw c (4, none) ∗ raw c (5, none) ∗ raw c (6, none) ∗ raw c (7, none) ∗ raw c (8, none)
    ∗ (raw c (9, some 0) ∗ raw c (9, some 1)) ∗ raw c (10, none) ∗ raw c (11, none) ∗ raw c (12, none) ∗ raw c (13, none) ∗ raw c (14, none) ∗ raw c (15, none)) := by
  rw [scr_slots, list_slots]
  iintro ⟨H0, H1, H2, H3, H4, H5, H6, H7, H8, H9, H10, H11, H12, H13, H14, H15⟩
  isplitl [H0]; · iapply (raw_halves c 0 f); iexact H0
  isplitl [H1]; · iapply (raw_halves c 1 f); iexact H1
  isplitl [H2]; · iapply (raw_slot c 2 f); iexact H2
  isplitl [H3]; · iapply (raw_slot c 3 f); iexact H3
  isplitl [H4]; · iapply (raw_slot c 4 f); iexact H4
  isplitl [H5]; · iapply (raw_slot c 5 f); iexact H5
  isplitl [H6]; · iapply (raw_slot c 6 f); iexact H6
  isplitl [H7]; · iapply (raw_slot c 7 f); iexact H7
  isplitl [H8]; · iapply (raw_slot c 8 f); iexact H8
  isplitl [H9]; · iapply (raw_halves c 9 f); iexact H9
  isplitl [H10]; · iapply (raw_slot c 10 f); iexact H10
  isplitl [H11]; · iapply (raw_slot c 11 f); iexact H11
  isplitl [H12]; · iapply (raw_slot c 12 f); iexact H12
  isplitl [H13]; · iapply (raw_slot c 13 f); iexact H13
  isplitl [H14]; · iapply (raw_slot c 14 f); iexact H14
  iapply (raw_slot c 15 f); iexact H15

theorem scratch_split (f) : scr (F := F) c Finset.univ fullShare f
    ⊢ iprop((raw c (0, some 0) ∗ raw c (0, some 1)) ∗ (bigSep legsR fun g => raw (F := F) c (dstReg g)) ∗ (bigSep legsL fun g => raw (F := F) c (dstReg g))) := by
  rw [list_L, list_R]
  obtain ⟨e0, e1, e2, e3, e4, e5, e6, e7, e8, e9, e10, e11, e12, e13, e14, e15, e16⟩ := dst_tab
  rw [e0, e1, e2, e3, e4, e5, e6, e7, e8, e9, e10, e11, e12, e13, e14, e15, e16]
  refine (scratch_list c f).trans ?_
  iintro ⟨H0, ⟨H1, H1'⟩, H2, H3, H4, H5, H6, H7, H8, ⟨H9, H9'⟩, H10⟩
  isplitl [H0]; · iexact H0
  isplitl [H1 H1' H2 H3 H4 H5 H6 H7 H8]
  · isplitl [H1]; · iexact H1
    isplitl [H1']; · iexact H1'
    isplitl [H2]; · iexact H2
    isplitl [H3]; · iexact H3
    isplitl [H4]; · iexact H4
    isplitl [H5]; · iexact H5
    isplitl [H6]; · iexact H6
    isplitl [H7]; · iexact H7
    iexact H8
  isplitl [H9]; · iexact H9
  isplitl [H9']; · iexact H9'
  iexact H10

end Cert.Att
-- ==== Proof.Hops.lean ====
/-
The body, from what a device starts with to what it ends with.
-/
module

public import proofs.«01_k».proof.Proof.Split

@[expose] public section

noncomputable section

namespace Cert.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F) (c : Dev nD) (K : Dev nD × Fin 22 → ℕ)

/-! ## What a device starts with, leg by leg -/

theorem ready_intro :
    iprop((bigSep Finset.univ fun g : Leg => legTok (F := F) c g)
        ∗ (bigSep Finset.univ fun g : Leg => (cred (tallyAt (kcell c (recvIx g)) () (amt g)) : sProp 𝕄))
        ∗ (bigSep Finset.univ fun g : Leg => (atPos ER (kcell c (recvIx g)) 0 ∅ 0 : sProp 𝕄))
        ∗ (bigSep Finset.univ fun g : Leg => raw (F := F) (dst g c) (dstReg g)))
      ⊢ bigSep Finset.univ fun g : Leg => iprop(legTok (F := F) c g ∗ legRcv c g ∗ raw (dst g c) (dstReg g)) := by
  unfold legRcv
  simp only [bigSep_sep']
  iintro ⟨H1, H2, H3, H4⟩
  isplitl [H1]; · iexact H1
  isplitl [H2 H3]; · isplitl [H2] <;> iassumption
  iexact H4

theorem pos_start (k : Fin 22) : iprop(recs P K ∗ atPos ER (kcell c k) 0 ∅ 0) ⊢ pos c k 0 := by
  unfold pos
  iintro ⟨HR, Hat⟩
  isplitl [Hat]; · iexact Hat
  iapply (recs_reached P K c k); iexact HR

theorem close_pos (k : Fin 22) (r : Nat) (hr : r = lastRd k) :
    iprop(recs P K ∗ pos c k r) ⊢ |={Set.univ}=> (semVal (kcell c k) 0 : sProp 𝕄) := by
  unfold pos
  iintro ⟨HR, Hat, -⟩
  iapply (close_cell P c K k r hr)
  isplitl [HR] <;> iassumption

/-! ## The state at the end -/

/-- The queries of both batches. -/
def qV (fx : (cc0_stg0_0 : Ref sig .tc).ty.Contents (Elt F)) (fq : Vec F S768x256 .f32) : Fin 2 → FVec F S256x256 .f32 :=
  ![rope c (proj (xOf fx 0) fq), rope c (proj (xOf fx 1) fq)]

/-- The states after the device's own slot and `n` hops. -/
def after (q : Fin 2 → FVec F S256x256 .f32) : Nat → Fin 2 → Fin 4 → St F
  | 0 => cons P c 0 q fun _ _ => none
  | n + 1 => two P c n q (after q n)

/-- The result block. -/
def resV (q : Fin 2 → FVec F S256x256 .f32) (fo : Vec F S256x768 .f32) : (cc0_stg5_0 : Ref sig .tc).ty.Contents (Elt F) :=
  outF fun b => outV (last P c q (after P c q 6) b 0) (last P c q (after P c q 6) b 1) (last P c q (after P c q 6) b 2) (last P c q (after P c q 6) b 3) fo

/-- The hops one after the other, `n` of them to come. -/
def theHops (q : Fin 2 → FVec F S256x256 .f32) (s0 : Fin 2 → Fin 4 → St F) : Pg F (Fin 2 → Fin 4 → St F) := do
  let s1 ← hop kvM (Memref.isWhole_whole _) cc0_scratch1 cc0_scratch2 cc0_scratch3 cc0_scratch4 c q 0 (by omega) s0
  let s2 ← hop kvM (Memref.isWhole_whole _) cc0_scratch1 cc0_scratch2 cc0_scratch3 cc0_scratch4 c q 1 (by omega) s1
  let s3 ← hop kvM (Memref.isWhole_whole _) cc0_scratch1 cc0_scratch2 cc0_scratch3 cc0_scratch4 c q 2 (by omega) s2
  let s4 ← hop kvM (Memref.isWhole_whole _) cc0_scratch1 cc0_scratch2 cc0_scratch3 cc0_scratch4 c q 3 (by omega) s3
  let s5 ← hop kvM (Memref.isWhole_whole _) cc0_scratch1 cc0_scratch2 cc0_scratch3 cc0_scratch4 c q 4 (by omega) s4
  let s6 ← hop kvM (Memref.isWhole_whole _) cc0_scratch1 cc0_scratch2 cc0_scratch3 cc0_scratch4 c q 5 (by omega) s5
  lastHop kvM (Memref.isWhole_whole _) cc0_scratch1 cc0_scratch2 c q s6

theorem hop_lv : ∀ h : Fin 6, ∀ n : Fin 17, (h.val + 2 < n.val ∧ n.val < 9 ∨ h.val + 11 < n.val) → lvN (h.val + 2) < lvN n.val ∧ lvN (h.val + 11) < lvN n.val := by
  decide

theorem wp_theHops (q : Fin 2 → FVec F S256x256 .f32) (Q : (Fin 2 → Fin 4 → St F) → sProp 𝕄) :
    iprop(recs P K ∗ levAts L lv ∗ owedN c [2, 11, 3, 12, 4, 13, 5, 14, 6, 15, 7, 16, 8] ∗ (ready c 2 ∗ ready c 3 ∗ ready c 4 ∗ ready c 5 ∗ ready c 6 ∗ ready c 7 ∗ ready c 8 ∗ ready c 11 ∗ ready c 12 ∗ ready c 13 ∗ ready c 14 ∗ ready c 15 ∗ ready c 16) ∗ posR c 0 ∗ posR c 1 ∗ posL c 0 ∗ posL c 1 ∗ slotF P c 1 ∗ slotF P c 9)
      ⊢ iprop(((owedN c [] ∗ posR c 7 ∗ posR c 8 ∗ posL c 6 ∗ posL c 7 ∗ (shut c 2 ∗ shut c 3 ∗ shut c 4 ∗ shut c 5 ∗ shut c 6 ∗ shut c 7 ∗ shut c 8 ∗ shut c 11 ∗ shut c 12 ∗ shut c 13 ∗ shut c 14 ∗ shut c 15 ∗ shut c 16) ∗ (slotF P c 1 ∗ slotF P c 2 ∗ slotF P c 3 ∗ slotF P c 4 ∗ slotF P c 5 ∗ slotF P c 6 ∗ slotF P c 7 ∗ slotF P c 8 ∗ slotF P c 9 ∗ slotF P c 10 ∗ slotF P c 11 ∗ slotF P c 12 ∗ slotF P c 13 ∗ slotF P c 14 ∗ slotF P c 15)) -∗ Q (last P c q (after P c q 6)))
        -∗ wpc c (theHops c q (after P c q 0)) Q) := by
  unfold theHops
  simp only [wp_bind]
  iintro ⟨#HR, #HL, HO, ⟨G2, G3, G4, G5, G6, G7, G8, G11, G12, G13, G14, G15, G16⟩, R0, R1, L0, L1, S1, S9⟩ Hk
  iapply (wp_hop P c K 0 _ [3, 12, 4, 13, 5, 14, 6, 15, 7, 16, 8] (by decide) q (after P c q 0) _) $$ [HO G2 G11 R0 L0 S1 S9]
  · isplitr; · iexact HR
    isplitr; · iexact HL
    isplitl [HO]; · iexact HO
    isplitl [G2]; · iexact G2
    isplitl [G11]; · iexact G11
    isplitl [R0]; · iexact R0
    isplitl [L0]; · iexact L0
    isplitl [S1] <;> iassumption
  iintro ⟨HO, R2, L2, Z2, Z11, S1, S9, S2, S10⟩
  rw [show two P c 0 q (after P c q 0) = after P c q 1 from rfl]
  iapply (wp_hop P c K 1 _ [4, 13, 5, 14, 6, 15, 7, 16, 8] (by decide) q (after P c q 1) _) $$ [HO G3 G12 R1 L1 S2 S10]
  · isplitr; · iexact HR
    isplitr; · iexact HL
    isplitl [HO]; · iexact HO
    isplitl [G3]; · iexact G3
    isplitl [G12]; · iexact G12
    isplitl [R1]; · iexact R1
    isplitl [L1]; · iexact L1
    isplitl [S2] <;> iassumption
  iintro ⟨HO, R3, L3, Z3, Z12, S2, S10, S3, S11⟩
  rw [show two P c 1 q (after P c q 1) = after P c q 2 from rfl]
  iapply (wp_hop P c K 2 _ [5, 14, 6, 15, 7, 16, 8] (by decide) q (after P c q 2) _) $$ [HO G4 G13 R2 L2 S3 S11]
  · isplitr; · iexact HR
    isplitr; · iexact HL
    isplitl [HO]; · iexact HO
    isplitl [G4]; · iexact G4
    isplitl [G13]; · iexact G13
    isplitl [R2]; · iexact R2
    isplitl [L2]; · iexact L2
    isplitl [S3] <;> iassumption
  iintro ⟨HO, R4, L4, Z4, Z13, S3, S11, S4, S12⟩
  rw [show two P c 2 q (after P c q 2) = after P c q 3 from rfl]
  iapply (wp_hop P c K 3 _ [6, 15, 7, 16, 8] (by decide) q (after P c q 3) _) $$ [HO G5 G14 R3 L3 S4 S12]
  · isplitr; · iexact HR
    isplitr; · iexact HL
    isplitl [HO]; · iexact HO
    isplitl [G5]; · iexact G5
    isplitl [G14]; · iexact G14
    isplitl [R3]; · iexact R3
    isplitl [L3]; · iexact L3
    isplitl [S4] <;> iassumption
  iintro ⟨HO, R5, L5, Z5, Z14, S4, S12, S5, S13⟩
  rw [show two P c 3 q (after P c q 3) = after P c q 4 from rfl]
  iapply (wp_hop P c K 4 _ [7, 16, 8] (by decide) q (after P c q 4) _) $$ [HO G6 G15 R4 L4 S5 S13]
  · isplitr; · iexact HR
    isplitr; · iexact HL
    isplitl [HO]; · iexact HO
    isplitl [G6]; · iexact G6
    isplitl [G15]; · iexact G15
    isplitl [R4]; · iexact R4
    isplitl [L4]; · iexact L4
    isplitl [S5] <;> iassumption
  iintro ⟨HO, R6, L6, Z6, Z15, S5, S13, S6, S14⟩
  rw [show two P c 4 q (after P c q 4) = after P c q 5 from rfl]
  iapply (wp_hop P c K 5 _ [8] (by decide) q (after P c q 5) _) $$ [HO G7 G16 R5 L5 S6 S14]
  · isplitr; · iexact HR
    isplitr; · iexact HL
    isplitl [HO]; · iexact HO
    isplitl [G7]; · iexact G7
    isplitl [G16]; · iexact G16
    isplitl [R5]; · iexact R5
    isplitl [L5]; · iexact L5
    isplitl [S6] <;> iassumption
  iintro ⟨HO, R7, L7, Z7, Z16, S6, S14, S7, S15⟩
  rw [show two P c 5 q (after P c q 5) = after P c q 6 from rfl]
  iapply (wp_lastHop P c K q (after P c q 6) _) $$ [HO G8 R6 S7 S15]
  · isplitr; · iexact HR
    isplitr; · iexact HL
    isplitl [HO]; · iexact HO
    isplitl [G8]; · iexact G8
    isplitl [R6]; · iexact R6
    isplitl [S7] <;> iassumption
  iintro ⟨HO, R8, Z8, S7, S15, S8⟩
  iapply Hk
  isplitl [HO]; · iexact HO
  isplitl [R7]; · iexact R7
  isplitl [R8]; · iexact R8
  isplitl [L6]; · iexact L6
  isplitl [L7]; · iexact L7
  isplitl [Z2 Z3 Z4 Z5 Z6 Z7 Z8 Z11 Z12 Z13 Z14 Z15 Z16]
  · isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z11]; · iexact Z11
    isplitl [Z12]; · iexact Z12
    isplitl [Z13]; · iexact Z13
    isplitl [Z14]; · iexact Z14
    isplitl [Z15]; · iexact Z15
    iexact Z16
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iexact S15

end Cert.Att
-- ==== Proof.Run.lean ====
/-
The body, from what a device starts with to what it ends with.
-/
module

public import proofs.«01_k».proof.Proof.Hops

@[expose] public section

noncomputable section

namespace Cert.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Parts F) (c : Dev nD) (K : Dev nD × Fin 22 → ℕ)

theorem wp_sendFirst0 (ns : List Nat) (Q : PUnit → sProp 𝕄) :
    iprop(recs P K ∗ owedN c (0 :: 9 :: ns) ∗ ready c 0 ∗ ready c 9 ∗ pos0 c 0 ∗ pos0 c 9
        ∗ pts P c (0, some 0) fullShare.left ∗ pts P c (0, some 0) fullShare.right.left)
      ⊢ iprop(((owedN c ns ∗ under c 0 ∗ under c 9 ∗ pos0 c 0 ∗ pos0 c 9) -∗ Q ⟨⟩)
        -∗ wpc c (sendFirst kvM (Memref.isWhole_whole _) cc0_scratch1 cc0_scratch2 cc0_scratch3 cc0_scratch4 c 0) Q) := wp_sendFirst P c K 0 ns Q

theorem wp_waitFirst0 (ns : List Nat) (hlv : ∀ n ∈ ns, lvN 0 < lvN n ∧ lvN 9 < lvN n) (Q : PUnit → sProp 𝕄) :
    iprop(recs P K ∗ levAts L lv ∗ owedN c ns ∗ under c 0 ∗ under c 9 ∗ pos0 c 0 ∗ pos0 c 9)
      ⊢ iprop(((owedN c ns ∗ shut c 0 ∗ shut c 9 ∗ posR c 1 ∗ posL c 1
          ∗ pts P c (0, some 0) fullShare.left ∗ pts P c (0, some 0) fullShare.right.left
          ∗ pts P c (1, some 0) fullShare ∗ pts P c (9, some 0) fullShare) -∗ Q ⟨⟩)
        -∗ wpc c (waitFirst kvM (Memref.isWhole_whole _) cc0_scratch1 cc0_scratch2 cc0_scratch3 cc0_scratch4 0) Q) := wp_waitFirst P c K 0 ns hlv Q

theorem wp_sendFirst1 (ns : List Nat) (Q : PUnit → sProp 𝕄) :
    iprop(recs P K ∗ owedN c (1 :: 10 :: ns) ∗ ready c 1 ∗ ready c 10 ∗ pos0 c 1 ∗ pos0 c 10
        ∗ pts P c (0, some 1) fullShare.left ∗ pts P c (0, some 1) fullShare.right.left)
      ⊢ iprop(((owedN c ns ∗ under c 1 ∗ under c 10 ∗ pos0 c 1 ∗ pos0 c 10) -∗ Q ⟨⟩)
        -∗ wpc c (sendFirst kvM (Memref.isWhole_whole _) cc0_scratch1 cc0_scratch2 cc0_scratch3 cc0_scratch4 c 1) Q) := wp_sendFirst P c K 1 ns Q

theorem wp_waitFirst1 (ns : List Nat) (hlv : ∀ n ∈ ns, lvN 1 < lvN n ∧ lvN 10 < lvN n) (Q : PUnit → sProp 𝕄) :
    iprop(recs P K ∗ levAts L lv ∗ owedN c ns ∗ under c 1 ∗ under c 10 ∗ pos0 c 1 ∗ pos0 c 10)
      ⊢ iprop(((owedN c ns ∗ shut c 1 ∗ shut c 10 ∗ posR c 0 ∗ posL c 0
          ∗ pts P c (0, some 1) fullShare.left ∗ pts P c (0, some 1) fullShare.right.left
          ∗ pts P c (1, some 1) fullShare ∗ pts P c (9, some 1) fullShare) -∗ Q ⟨⟩)
        -∗ wpc c (waitFirst kvM (Memref.isWhole_whole _) cc0_scratch1 cc0_scratch2 cc0_scratch3 cc0_scratch4 1) Q) := wp_waitFirst P c K 1 ns hlv Q

theorem pos0_cells : (pos0 c 0 : sProp 𝕄) = pos c 1 0 ∧ (pos0 c 1 : sProp 𝕄) = pos c 2 0 ∧ (pos0 c 9 : sProp 𝕄) = pos c 12 0 ∧ (pos0 c 10 : sProp 𝕄) = pos c 13 0 := ⟨rfl, rfl, rfl, rfl⟩
theorem pos_ends : (posR c 7 : sProp 𝕄) = pos c 1 4 ∧ (posR c 8 : sProp 𝕄) = pos c 2 5 ∧ (posL c 6 : sProp 𝕄) = pos c 13 4 ∧ (posL c 7 : sProp 𝕄) = pos c 12 4 := ⟨rfl, rfl, rfl, rfl⟩

theorem wp_hops_eq (q : Fin 2 → FVec F S256x256 .f32) (s0 : Fin 2 → Fin 4 → St F) (Q : (Fin 2 → Fin 4 → St F) → sProp 𝕄) :
    wpc c (hop kvM (Memref.isWhole_whole _) cc0_scratch1 cc0_scratch2 cc0_scratch3 cc0_scratch4 c q 0 (by omega) s0) (fun s1 =>
    wpc c (hop kvM (Memref.isWhole_whole _) cc0_scratch1 cc0_scratch2 cc0_scratch3 cc0_scratch4 c q 1 (by omega) s1) (fun s2 =>
    wpc c (hop kvM (Memref.isWhole_whole _) cc0_scratch1 cc0_scratch2 cc0_scratch3 cc0_scratch4 c q 2 (by omega) s2) (fun s3 =>
    wpc c (hop kvM (Memref.isWhole_whole _) cc0_scratch1 cc0_scratch2 cc0_scratch3 cc0_scratch4 c q 3 (by omega) s3) (fun s4 =>
    wpc c (hop kvM (Memref.isWhole_whole _) cc0_scratch1 cc0_scratch2 cc0_scratch3 cc0_scratch4 c q 4 (by omega) s4) (fun s5 =>
    wpc c (hop kvM (Memref.isWhole_whole _) cc0_scratch1 cc0_scratch2 cc0_scratch3 cc0_scratch4 c q 5 (by omega) s5) (fun s6 =>
    wpc c (lastHop kvM (Memref.isWhole_whole _) cc0_scratch1 cc0_scratch2 c q s6) Q)))))) = wpc c (theHops c q s0) Q := by
  unfold theHops; simp only [wp_bind]

/-- What a device holds of the launch at the start of the body. -/
def begins : sProp 𝕄 :=
  iprop(recs P K ∗ levAts L lv ∗ dutyTok ER (barCell (prv c)) 0 true ∗ dutyTok ER (barCell (nxt c)) 0 false
    ∗ cred (tallyAt (barCell c) () 2)
    ∗ (bigSep Finset.univ fun k : Fin 22 => atPos ER (kcell c k) 0 ∅ 0)
    ∗ (bigSep Finset.univ fun g : Leg => legTok (F := F) c g)
    ∗ (bigSep Finset.univ fun g : Leg => cred (tallyAt (kcell c (recvIx g)) () (amt g)))
    ∗ ∃ f, scr (F := F) c Finset.univ fullShare f)

/-- The staged blocks of the five arguments and the result's block. -/
def staged (fx : (cc0_stg0_0 : Ref sig .tc).ty.Contents (Elt F)) (fq : (cc0_stg1_0 : Ref sig .tc).ty.Contents (Elt F))
    (fk : (cc0_stg2_0 : Ref sig .tc).ty.Contents (Elt F)) (fv : (cc0_stg3_0 : Ref sig .tc).ty.Contents (Elt F))
    (fo : (cc0_stg4_0 : Ref sig .tc).ty.Contents (Elt F)) (f : (cc0_stg5_0 : Ref sig .tc).ty.Contents (Elt F)) : sProp 𝕄 :=
  iprop(stgPts c cc0_stg0_0 fx ∗ stgPts c cc0_stg1_0 fq ∗ stgPts c cc0_stg2_0 fk ∗ stgPts c cc0_stg3_0 fv ∗ stgPts c cc0_stg4_0 fo ∗ stgPts c cc0_stg5_0 f)

/-- What it holds at the end. -/
def ends : sProp 𝕄 :=
  iprop((bigSep Finset.univ fun k : Fin 22 => semVal (kcell c k) 0) ∗ scr c Finset.univ fullShare (kvAll P c))

/-- The first slot's halves, each with its three shares, are the slot. -/
theorem slot0_join : iprop((pts P c (0, some 0) fullShare.left ∗ pts P c (0, some 0) fullShare.right.left)
      ∗ (pts P c (0, some 1) fullShare.left ∗ pts P c (0, some 1) fullShare.right.left) ∗ pts P c (0, none) fullShare.right.right)
    ⊢ slotF P c 0 := by
  iintro ⟨⟨A0, B0⟩, ⟨A1, B1⟩, C⟩
  ihave C := (halves P c 0 fullShare.right.right).1 $$ C
  icases C with ⟨C0, C1⟩
  iapply (Entails.of_eq (show pts P c (0, none) fullShare = slotF P c 0 from rfl))
  iapply (halves P c 0 fullShare).2
  isplitl [A0 B0 C0]
  · iapply (share3 P c (0, some 0)).2
    isplitl [A0]; · iexact A0
    isplitl [B0] <;> iassumption
  · iapply (share3 P c (0, some 1)).2
    isplitl [A1]; · iexact A1
    isplitl [B1] <;> iassumption

theorem slot_join (k : Fin 16) (n : Nat) (h : Fin.ofNat 16 n = k) : iprop(pts P c (k, some 0) fullShare ∗ pts P c (k, some 1) fullShare) ⊢ slotF P c n := by
  subst h; unfold slotF; exact (halves P c _ fullShare).2

set_option maxHeartbeats 1000000 in
/-- The body. -/
theorem wp_body (fx fq fk fv fo f)
    (hk : ∀ b, P c b 0 = shapeCast S1x1x256x256 (keysV c (xOf fx b) fk) shapeCasts_S256x256_S1x1x256x256)
    (hv : ∀ b, P c b 1 = shapeCast S1x1x256x256 (valsV (xOf fx b) fv) shapeCasts_S256x256_S1x1x256x256) (Q : PUnit → sProp 𝕄) :
    iprop(begins P c K ∗ owed c (O₀ c) ∗ staged c fx fq fk fv fo f)
      ⊢ iprop(((ends P c ∗ owed c 0 ∗ staged c fx fq fk fv fo (resV P c (qV c fx fq) fo)) -∗ Q ⟨⟩)
        -∗ wpc c (body (Memref.whole cc0_stg0_0) (Memref.whole cc0_stg1_0) (Memref.whole cc0_stg2_0) (Memref.whole cc0_stg3_0) (Memref.whole cc0_stg4_0)
          (Memref.whole cc0_stg5_0) kvM (Memref.isWhole_whole _) cc0_scratch1 cc0_scratch2 cc0_scratch3 cc0_scratch4) Q) := by
  unfold body begins staged
  simp only [Prog.lift, Prog.bind_op, Prog.bind_ret, wp_deviceId, wp_bind]
  iintro ⟨⟨#HR, #HL, Ht1, Ht2, Hcb, Hat, HT, HC, ⟨%f0, Hscr⟩⟩, HO, X, Wq, Wk, Wv, Wo, Out⟩ Hk
  ihave Hs := (scratch_split c f0) $$ Hscr
  icases Hs with ⟨⟨Y0, Y1⟩, HrR, HrL⟩
  ihave Hat := (Entails.of_eq (cells_split (fun k => (atPos ER (kcell c k) 0 ∅ 0 : sProp 𝕄)))) $$ Hat
  icases Hat with ⟨Pb, P1, P2, P12, P13, Hrecv⟩
  iapply (wp_handshake P c K _) $$ [HO Ht1 Ht2 HrR HrL Hcb Pb]
  · isplitr; · iexact HR
    isplitr; · iexact HL
    isplitl [HO]; · iexact HO
    isplitl [Ht1]; · iexact Ht1
    isplitl [Ht2]; · iexact Ht2
    isplitl [HrR]; · iexact HrR
    isplitl [HrL]; · iexact HrL
    isplitl [Hcb] <;> iassumption
  iintro ⟨HO, Zb, HrL, HrR⟩
  ihave Hraw := (raws_join c) $$ [HrL HrR]
  · isplitl [HrL] <;> iassumption
  ihave HG := (ready_intro c) $$ [HT HC Hrecv Hraw]
  · isplitl [HT]; · iexact HT
    isplitl [HC]; · iexact HC
    isplitl [Hrecv] <;> iassumption
  ihave HG := (Entails.of_eq (ready_list c)) $$ HG
  icases HG with ⟨G0, G1, G2, G3, G4, G5, G6, G7, G8, G9, G10, G11, G12, G13, G14, G15, G16⟩
  ihave HO := (Entails.of_eq (show owed c (owl c legOrder) = owedN (F := F) c (0 :: 9 :: 1 :: 10 :: [2, 11, 3, 12, 4, 13, 5, 14, 6, 15, 7, 16, 8]) from rfl)) $$ HO
  ihave P1 := (pos_start P c K 1) $$ [P1]
  · isplitr; · iexact HR
    iexact P1
  ihave P2 := (pos_start P c K 2) $$ [P2]
  · isplitr; · iexact HR
    iexact P2
  ihave P12 := (pos_start P c K 12) $$ [P12]
  · isplitr; · iexact HR
    iexact P12
  ihave P13 := (pos_start P c K 13) $$ [P13]
  · isplitr; · iexact HR
    iexact P13
  ihave P1 := (Entails.of_eq (pos0_cells c |>.1).symm) $$ P1
  ihave P2 := (Entails.of_eq (pos0_cells c |>.2.1).symm) $$ P2
  ihave P12 := (Entails.of_eq (pos0_cells c |>.2.2.1).symm) $$ P12
  ihave P13 := (Entails.of_eq (pos0_cells c |>.2.2.2).symm) $$ P13
  iapply (wp_fill P c 0 fx fk fv (hk 0) (hv 0) _) $$ [X Wk Wv Y0]
  · isplitl [X]; · iexact X
    isplitl [Wk]; · iexact Wk
    isplitl [Wv] <;> iassumption
  iintro ⟨X, Wk, Wv, Y0⟩
  ihave Y0 := (share3 P c _).1 $$ Y0
  icases Y0 with ⟨A0, B0, C0⟩
  iapply (wp_sendFirst0 P c K _ _) $$ [HO G0 G9 P1 P12 A0 B0]
  · isplitr; · iexact HR
    isplitl [HO]; · iexact HO
    isplitl [G0]; · iexact G0
    isplitl [G9]; · iexact G9
    isplitl [P1]; · iexact P1
    isplitl [P12]; · iexact P12
    isplitl [A0] <;> iassumption
  iintro ⟨HO, U0, U9, P1, P12⟩
  iapply (wp_fill P c 1 fx fk fv (hk 1) (hv 1) _) $$ [X Wk Wv Y1]
  · isplitl [X]; · iexact X
    isplitl [Wk]; · iexact Wk
    isplitl [Wv] <;> iassumption
  iintro ⟨X, Wk, Wv, Y1⟩
  ihave Y1 := (share3 P c _).1 $$ Y1
  icases Y1 with ⟨A1, B1, C1⟩
  iapply (wp_sendFirst1 P c K _ _) $$ [HO G1 G10 P2 P13 A1 B1]
  · isplitr; · iexact HR
    isplitl [HO]; · iexact HO
    isplitl [G1]; · iexact G1
    isplitl [G10]; · iexact G10
    isplitl [P2]; · iexact P2
    isplitl [P13]; · iexact P13
    isplitl [A1] <;> iassumption
  iintro ⟨HO, U1, U10, P2, P13⟩
  iapply (wp_query c 0 fx fq _) $$ [X Wq]
  · isplitl [X] <;> iassumption
  iintro ⟨X, Wq⟩
  iapply (wp_query c 1 fx fq _) $$ [X Wq]
  · isplitl [X] <;> iassumption
  iintro ⟨X, Wq⟩
  rw [show (![rope c (proj (xOf fx 0) fq), rope c (proj (xOf fx 1) fq)] : Fin 2 → FVec F S256x256 .f32) = qV c fx fq from rfl]
  ihave C := (halves P c 0 fullShare.right.right).2 $$ [C0 C1]
  · isplitl [C0] <;> iassumption
  iapply (wp_consume P c 0 (qV c fx fq) _ _ _) $$ C
  iintro C
  rw [show cons P c 0 (qV c fx fq) (fun _ _ => none) = after P c (qV c fx fq) 0 from rfl]
  iapply (wp_waitFirst0 P c K [2, 11, 3, 12, 4, 13, 5, 14, 6, 15, 7, 16, 8] (by decide) _) $$ [HO U0 U9 P1 P12]
  · isplitr; · iexact HR
    isplitr; · iexact HL
    isplitl [HO]; · iexact HO
    isplitl [U0]; · iexact U0
    isplitl [U9]; · iexact U9
    isplitl [P1] <;> iassumption
  iintro ⟨HO, Z0, Z9, R1, L1, A0, B0, D0, E0⟩
  iapply (wp_waitFirst1 P c K [2, 11, 3, 12, 4, 13, 5, 14, 6, 15, 7, 16, 8] (by decide) _) $$ [HO U1 U10 P2 P13]
  · isplitr; · iexact HR
    isplitr; · iexact HL
    isplitl [HO]; · iexact HO
    isplitl [U1]; · iexact U1
    isplitl [U10]; · iexact U10
    isplitl [P2] <;> iassumption
  iintro ⟨HO, Z1, Z10, R0, L0, A1, B1, D1, E1⟩
  ihave S0 := (slot0_join P c) $$ [A0 B0 A1 B1 C]
  · isplitl [A0 B0]; · isplitl [A0] <;> iassumption
    isplitl [A1 B1]; · isplitl [A1] <;> iassumption
    iexact C
  ihave S1 := (slot_join P c 1 1 rfl) $$ [D0 D1]
  · isplitl [D0] <;> iassumption
  ihave S9 := (slot_join P c 9 9 rfl) $$ [E0 E1]
  · isplitl [E0] <;> iassumption
  iapply (Entails.of_eq (wp_hops_eq c (qV c fx fq) (after P c (qV c fx fq) 0) _).symm)
  iapply (wp_theHops P c K (qV c fx fq) _) $$ [HO G2 G3 G4 G5 G6 G7 G8 G11 G12 G13 G14 G15 G16 R0 R1 L0 L1 S1 S9]
  · isplitr; · iexact HR
    isplitr; · iexact HL
    isplitl [HO]; · iexact HO
    isplitl [G2 G3 G4 G5 G6 G7 G8 G11 G12 G13 G14 G15 G16]
    · isplitl [G2]; · iexact G2
      isplitl [G3]; · iexact G3
      isplitl [G4]; · iexact G4
      isplitl [G5]; · iexact G5
      isplitl [G6]; · iexact G6
      isplitl [G7]; · iexact G7
      isplitl [G8]; · iexact G8
      isplitl [G11]; · iexact G11
      isplitl [G12]; · iexact G12
      isplitl [G13]; · iexact G13
      isplitl [G14]; · iexact G14
      isplitl [G15]; · iexact G15
      iexact G16
    isplitl [R0]; · iexact R0
    isplitl [R1]; · iexact R1
    isplitl [L0]; · iexact L0
    isplitl [L1]; · iexact L1
    isplitl [S1] <;> iassumption
  iintro ⟨HO, R7, R8, L6, L7, ⟨Z2, Z3, Z4, Z5, Z6, Z7, Z8, Z11, Z12, Z13, Z14, Z15, Z16⟩, S1, S2, S3, S4, S5, S6, S7, S8, S9, S10, S11, S12, S13, S14, S15⟩
  iapply (wp_finish c 0 _ fo f _) $$ [Wo Out]
  · isplitl [Wo] <;> iassumption
  iintro ⟨Wo, Out⟩
  iapply wp_fupd
  iapply (wp_finish c 1 _ fo _ _) $$ [Wo Out]
  · isplitl [Wo] <;> iassumption
  iintro ⟨Wo, Out⟩
  ihave R7 := (Entails.of_eq (pos_ends c).1) $$ R7
  imod (close_pos P c K 1 4 (by decide)) $$ [R7] with V1
  · isplitr; · iexact HR
    iexact R7
  ihave R8 := (Entails.of_eq (pos_ends c).2.1) $$ R8
  imod (close_pos P c K 2 5 (by decide)) $$ [R8] with V2
  · isplitr; · iexact HR
    iexact R8
  ihave L6 := (Entails.of_eq (pos_ends c).2.2.1) $$ L6
  imod (close_pos P c K 13 4 (by decide)) $$ [L6] with V13
  · isplitr; · iexact HR
    iexact L6
  ihave L7 := (Entails.of_eq (pos_ends c).2.2.2) $$ L7
  imod (close_pos P c K 12 4 (by decide)) $$ [L7] with V12
  · isplitr; · iexact HR
    iexact L7
  imodintro
  iapply Hk
  unfold ends
  isplitl [Zb V1 V2 V12 V13 Z0 Z1 Z2 Z3 Z4 Z5 Z6 Z7 Z8 Z9 Z10 Z11 Z12 Z13 Z14 Z15 Z16 S0 S1 S2 S3 S4 S5 S6 S7 S8 S9 S10 S11 S12 S13 S14 S15]
  · isplitl [Zb V1 V2 V12 V13 Z0 Z1 Z2 Z3 Z4 Z5 Z6 Z7 Z8 Z9 Z10 Z11 Z12 Z13 Z14 Z15 Z16]
    · iapply (Entails.of_eq (cells_split (fun k => (semVal (kcell c k) 0 : sProp 𝕄))).symm)
      isplitl [Zb]; · iexact Zb
      isplitl [V1]; · iexact V1
      isplitl [V2]; · iexact V2
      isplitl [V12]; · iexact V12
      isplitl [V13]; · iexact V13
      iapply (Entails.of_eq (shut_list (F := F) c).symm)
      isplitl [Z0]; · iexact Z0
      isplitl [Z1]; · iexact Z1
      isplitl [Z2]; · iexact Z2
      isplitl [Z3]; · iexact Z3
      isplitl [Z4]; · iexact Z4
      isplitl [Z5]; · iexact Z5
      isplitl [Z6]; · iexact Z6
      isplitl [Z7]; · iexact Z7
      isplitl [Z8]; · iexact Z8
      isplitl [Z9]; · iexact Z9
      isplitl [Z10]; · iexact Z10
      isplitl [Z11]; · iexact Z11
      isplitl [Z12]; · iexact Z12
      isplitl [Z13]; · iexact Z13
      isplitl [Z14]; · iexact Z14
      isplitl [Z15]; · iexact Z15
      iexact Z16
    · iapply (Entails.of_eq (slot_list P c).symm)
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      iexact S15
  isplitl [HO]; · iapply (Entails.of_eq (show owedN (F := F) c [] = owed c 0 from rfl)); iexact HO
  isplitl [X]; · iexact X
  isplitl [Wq]; · iexact Wq
  isplitl [Wk]; · iexact Wk
  isplitl [Wv]; · iexact Wv
  isplitl [Wo]; · iexact Wo
  iapply (Entails.of_eq (congrArg (stgPts c cc0_stg5_0) (outW_both f fun b => outV (last P c (qV c fx fq) (after P c (qV c fx fq) 6) b 0) (last P c (qV c fx fq) (after P c (qV c fx fq) 6) b 1)
    (last P c (qV c fx fq) (after P c (qV c fx fq) 6) b 2) (last P c (qV c fx fq) (after P c (qV c fx fq) 6) b 3) fo)))
  iexact Out

end Cert.Att
-- ==== Proof.Launch.lean ====
/-
The launch: what each device is dealt, and the run of the whole program.
-/
module

public import proofs.«01_k».proof.Proof.Run
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs

@[expose] public section

noncomputable section

namespace Cert.Att

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI Idealize.SL.RA.PCS
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

open Idealize.ShloMosaic.Pipeline (Dat Cfg Window BodyObligation cellOf)

variable (m : (ℓ : Loc nD τ sig) → Buf (Elt F) ℓ) (ρ : Dev nD → PrngReg)

/-- The launch state: every counter at zero. -/
abbrev s₀ : MemSt nD τ sig (Elt F) := ⟨m, fun _ => 0, ρ⟩

/-! ## The staged blocks, the scratch contents and the result -/

/-- Device `c`'s rows of `x`, as staged, -/
def xB (c : Dev nD) : (cc0_stg0_0 : Ref sig .tc).ty.Contents (Elt F) := (win0_0.blk t0_0).view.read (Elt F) (m ((c : Thread nD τ).loc main_arg0))
/-- and the four weights. -/
def wqB (c : Dev nD) : (cc0_stg1_0 : Ref sig .tc).ty.Contents (Elt F) := (win0_1.blk t0_0).view.read (Elt F) (m ((c : Thread nD τ).loc main_arg1))
def wkB (c : Dev nD) : (cc0_stg2_0 : Ref sig .tc).ty.Contents (Elt F) := (win0_2.blk t0_0).view.read (Elt F) (m ((c : Thread nD τ).loc main_arg2))
def wvB (c : Dev nD) : (cc0_stg3_0 : Ref sig .tc).ty.Contents (Elt F) := (win0_3.blk t0_0).view.read (Elt F) (m ((c : Thread nD τ).loc main_arg3))
def woB (c : Dev nD) : (cc0_stg4_0 : Ref sig .tc).ty.Contents (Elt F) := (win0_4.blk t0_0).view.read (Elt F) (m ((c : Thread nD τ).loc main_arg4))

/-- The keys and values each device computes. -/
def PM : Parts F := fun d b t => if t = 0 then shapeCast S1x1x256x256 (keysV d (xOf (xB m d) b) (wkB m d)) shapeCasts_S256x256_S1x1x256x256
  else shapeCast S1x1x256x256 (valsV (xOf (xB m d) b) (wvB m d)) shapeCasts_S256x256_S1x1x256x256

/-- Device `c`'s result. -/
def outAt (c : Dev nD) : (cc0_stg5_0 : Ref sig .tc).ty.Contents (Elt F) := resV (PM m) c (qV c (xB m c) (wqB m c)) (woB m c)

/-! ## The proof data -/

/-- What device `c`'s body starts from, the scratch array aside. -/
def start (c : Dev nD) : sProp 𝕄 :=
  iprop((∃ K, recs (PM m) K) ∗ levAts L lv ∗ dutyTok ER (barCell (prv c)) 0 true ∗ dutyTok ER (barCell (nxt c)) 0 false
    ∗ cred (tallyAt (barCell c) () 2)
    ∗ (bigSep Finset.univ fun k : Fin 22 => atPos ER (kcell c k) 0 ∅ 0)
    ∗ (bigSep Finset.univ fun g : Leg => legTok (F := F) c g)
    ∗ (bigSep Finset.univ fun g : Leg => cred (tallyAt (kcell c (recvIx g)) () (amt g))))

def Φ₀ (c : Dev nD) : sProp 𝕄 := iprop(start m c ∗ ∃ f, scr (F := F) c Finset.univ fullShare f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m c
    | ⟨1, _⟩ => wqB m c
    | ⟨2, _⟩ => wkB m c
    | ⟨3, _⟩ => wvB m c
    | ⟨4, _⟩ => woB m c
    | ⟨5, _⟩ => outAt m c
  Φ t := match t with
    | ⟨0, _⟩ => Φ₀ m c
    | ⟨_ + 1, _⟩ => ends (PM m) c
  q _ := fullShare
  owed t := match t with
    | ⟨0, _⟩ => O₀ c
    | ⟨_ + 1, _⟩ => 0

theorem bigSep_W (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

/-- A whole buffer's ownership as contents of it. -/
theorem owns_stg (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : b.ty.Contents (Elt F), ⌜f = X⌝ ∗ stgPts c b f) := by
  unfold owns stgPts; simp only [Memref.view_whole, View.read_whole, View.set_whole]

abbrev stg (c : Dev nD) (b : Ref sig .tc) (X : b.ty.Contents (Elt F)) : sProp 𝕄 := iprop(∃ f : b.ty.Contents (Elt F), ⌜f = X⌝ ∗ stgPts c b f)

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))

def bodyPost (c : Dev nD) : sProp 𝕄 :=
  iprop(ends (PM m) c ∗ (dats m ρ 0 c).owesAt () t0_0.succ ∗ stg c cc0_stg0_0 (xB m c) ∗ stg c cc0_stg1_0 (wqB m c) ∗ stg c cc0_stg2_0 (wkB m c)
    ∗ stg c cc0_stg3_0 (wvB m c) ∗ stg c cc0_stg4_0 (woB m c) ∗ stg c cc0_stg5_0 (outAt m c))

theorem before_x (c : Dev nD) (d) : (dats m ρ 0 c).before (0 : Fin 6) t0_0 d = xB m c := by unfold Dat.before; rw [if_pos (fetch0_0 t0_0)]; rfl
theorem before_wq (c : Dev nD) (d) : (dats m ρ 0 c).before (1 : Fin 6) t0_0 d = wqB m c := by unfold Dat.before; rw [if_pos (fetch0_1 t0_0)]; rfl
theorem before_wk (c : Dev nD) (d) : (dats m ρ 0 c).before (2 : Fin 6) t0_0 d = wkB m c := by unfold Dat.before; rw [if_pos (fetch0_2 t0_0)]; rfl
theorem before_wv (c : Dev nD) (d) : (dats m ρ 0 c).before (3 : Fin 6) t0_0 d = wvB m c := by unfold Dat.before; rw [if_pos (fetch0_3 t0_0)]; rfl
theorem before_wo (c : Dev nD) (d) : (dats m ρ 0 c).before (4 : Fin 6) t0_0 d = woB m c := by unfold Dat.before; rw [if_pos (fetch0_4 t0_0)]; rfl

theorem wp_point (c : Dev nD) :
    bodyPre m ρ c ⊢ wpc c (body (Memref.whole cc0_stg0_0) (Memref.whole cc0_stg1_0) (Memref.whole cc0_stg2_0) (Memref.whole cc0_stg3_0) (Memref.whole cc0_stg4_0)
          (Memref.whole cc0_stg5_0) kvM (Memref.isWhole_whole _) cc0_scratch1 cc0_scratch2 cc0_scratch3 cc0_scratch4) (fun _ => bodyPost m ρ c) := by
  unfold bodyPre Φ₀ start stg
  simp only [before_x, before_wq, before_wk, before_wv, before_wo]
  unfold Dat.owesAt Pipeline.owesWithin
  iintro ⟨⟨⟨⟨%K, HR⟩, HL, Ht1, Ht2, Hcb, Hat, HT, HC⟩, Hscr⟩, ⟨%W, %hW, HO⟩, ⟨%d0, %f0, %h0, X⟩, ⟨%d1, %f1, %h1, Wq⟩, ⟨%d2, %f2, %h2, Wk⟩,
    ⟨%d3, %f3, %h3, Wv⟩, ⟨%d4, %f4, %h4, Wo⟩, ⟨%d5, %f5, %h5, Out⟩⟩
  subst h0 h1 h2 h3 h4
  iapply (wp_body (PM m) c K (xB m c) (wqB m c) (wkB m c) (wvB m c) (woB m c) f5 (fun b => if_pos rfl) (fun b => if_neg (by decide)) _)
    $$ [HR HL Ht1 Ht2 Hcb Hat HT HC Hscr HO X Wq Wk Wv Wo Out]
  · isplitl [HR HL Ht1 Ht2 Hcb Hat HT HC Hscr]
    · unfold begins
      isplitl [HR]; · iexact HR
      isplitl [HL]; · iexact HL
      isplitl [Ht1]; · iexact Ht1
      isplitl [Ht2]; · iexact Ht2
      isplitl [Hcb]; · iexact Hcb
      isplitl [Hat]; · iexact Hat
      isplitl [HT]; · iexact HT
      isplitl [HC] <;> iassumption
    isplitl [HO]
    · unfold owed; iexists W; iexact HO
    unfold staged
    isplitl [X]; · iexact X
    isplitl [Wq]; · iexact Wq
    isplitl [Wk]; · iexact Wk
    isplitl [Wv]; · iexact Wv
    isplitl [Wo] <;> iassumption
  unfold bodyPost staged owed Dat.owesAt Pipeline.owesWithin
  iintro ⟨HE, ⟨%W', HO⟩, X, Wq, Wk, Wv, Wo, Out⟩
  isplitl [HE]; · iexact HE
  isplitl [HO]
  · iexists W'; isplitr; · (ipureintro; exact fun _ _ => Or.inl trivial)
    iexact HO
  isplitl [X]
  · iexists _; isplitr; · (ipureintro; rfl)
    iexact X
  isplitl [Wq]
  · iexists _; isplitr; · (ipureintro; rfl)
    iexact Wq
  isplitl [Wk]
  · iexists _; isplitr; · (ipureintro; rfl)
    iexact Wk
  isplitl [Wv]
  · iexists _; isplitr; · (ipureintro; rfl)
    iexact Wv
  isplitl [Wo]
  · iexists _; isplitr; · (ipureintro; rfl)
    iexact Wo
  iexists _; isplitr; · (ipureintro; rfl)
  unfold outAt
  iexact Out

set_option maxRecDepth 40000 in
/-- The body obligation on core `c`. -/
theorem body_obligation (c : Dev nD) : BodyObligation (dats (F := F) m ρ 0 c) (defs₀ (F := F)) 𝒱₀ () Set.univ := fun t => by
  rw [show t = t0_0 from fin_N0 t]
  rw [bigSep_W, bigSep_W]
  simp only [owns_stg]
  show bodyPre m ρ c ⊢ wpc c (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _) (Memref.whole cc0_stg4_0) (Memref.isWhole_whole _)
      (Memref.whole cc0_stg5_0) (Memref.isWhole_whole _) kvM (Memref.isWhole_whole _) cc0_scratch1 cc0_scratch2 cc0_scratch3 cc0_scratch4)
      (fun _ => bodyPost m ρ c)
  rw [body_eq]
  exact wp_point m ρ c

/-! ## The launch -/

/-- The body's own semaphores. -/
def osem : Fin 21 → SemLoc sig := fun k => csem k.succ

theorem ownSemFacts : Pipeline.OwnSemFacts cfg0.spec osem := by decide

theorem share_eq (c : Dev nD) (w : Fin cfg0.W) : (dats m ρ 0 c).share w = fullShare := by unfold Dat.share; split <;> rfl

/-- Every device's cells. -/
abbrev cellAt (ck : Dev nD × Fin 22) : GSem nD τ sig := kcell ck.1 ck.2
theorem cellAt_injective : Function.Injective cellAt := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨cellAt, cellAt_injective⟩

/-- A device's own cells' tokens: the barrier's two, a send cell's and a receive cell's for each leg. -/
abbrev Tok := Bool ⊕ (Leg ⊕ Leg)
def tokIx : Tok → Fin 22 × ℕ × Bool
  | .inl d => (0, 0, d)
  | .inr (.inl g) => (sendIx g, sendRd g, false)
  | .inr (.inr g) => (recvIx g, 0, false)
theorem tokIx_injective : Function.Injective tokIx := by decide
def tokOf (cj : Dev nD × Tok) : GSem nD τ sig × ℕ × Bool := (kcell cj.1 (tokIx cj.2).1, (tokIx cj.2).2)
theorem tokOf_injective : Function.Injective tokOf := by
  rintro ⟨c, j⟩ ⟨c', j'⟩ h
  have h1 : c = c' := congrArg (fun x : GSem nD τ sig × ℕ × Bool => x.1.1.1) h
  have h2 : (tokIx j).1 = (tokIx j').1 := csem_injective (congrArg (fun x : GSem nD τ sig × ℕ × Bool => x.1.2) h)
  have h3 : (tokIx j).2 = (tokIx j').2 := congrArg (fun x : GSem nD τ sig × ℕ × Bool => x.2) h
  rw [h1, tokIx_injective (Prod.ext h2 h3)]
def allToks : Finset (GSem nD τ sig × ℕ × Bool) := Finset.univ.map ⟨tokOf, tokOf_injective⟩

def u₀ : UU := (initOf (Pipeline.cells cfgs cellOf_inj) (Pipeline.launchToks cfgs cellOf_inj), initOf allCells allToks)

/-- The tokens of device `c`'s own cells. -/
def toks (c : Dev nD) : sProp 𝕄 :=
  iprop((dutyTok ER (barCell c) 0 false ∗ dutyTok ER (barCell c) 0 true)
    ∗ (bigSep Finset.univ fun g : Leg => dutyTok ER (kcell c (sendIx g)) (sendRd g) false)
    ∗ (bigSep Finset.univ fun g : Leg => dutyTok ER (kcell c (recvIx g)) 0 false))

def G (c : Dev nD) : sProp 𝕄 :=
  iprop((bigSep Finset.univ fun k : Fin 22 => roundState ER (Rd (PM m)) (kcell c k) 0)
    ∗ (bigSep Finset.univ fun k : Fin 22 => iprop(atPos ER (kcell c k) 0 ∅ 0 ∗ reached ER (kcell c k) 0)) ∗ toks c)

/-- The tokens device `c` pays with. -/
def payToks (c : Dev nD) : sProp 𝕄 :=
  iprop(dutyTok ER (barCell (prv c)) 0 true ∗ dutyTok ER (barCell (nxt c)) 0 false ∗ (bigSep Finset.univ fun g : Leg => legTok (F := F) c g))

def G' (c : Dev nD) : sProp 𝕄 :=
  iprop((∃ K, recs (PM m) K) ∗ (bigSep Finset.univ fun k : Fin 22 => atPos ER (kcell c k) 0 ∅ 0) ∗ payToks c)

theorem toks_split (c : Dev nD) : (bigSep Finset.univ fun j : Tok => (dutyTok ER (tokOf (c, j)).1 (tokOf (c, j)).2.1 (tokOf (c, j)).2.2 : sProp 𝕄)) = toks c := by
  rw [bigSep_univ_sum, bigSep_univ_sum, bigSep_univ_eq_bigSepL [false, true] (by decide) (by decide), bigSepL_cons_cons, bigSepL_singleton]
  rfl

theorem fund_cells : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 22 => Φ (kcell c k) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => toks_split c
  iintro HX
  imod (Rounds.fund ER (Rd (PM m)) allCells allToks) $$ HX with ⟨Hst, Hr, Hat, Htok⟩
  imodintro
  ihave Hst := (Entails.of_eq (hX fun g => roundState ER (Rd (PM m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells are its barrier's and its own. -/
theorem sems0_eq (c : Dev nD) :
    iprop(unscopedSems0 c ∗ Pipeline.ownSems0 (Ix := Unit) (Name := ℕ) (U := UU) (Lvl := ℕ) (Val := Elt F) (τ := τ) osem c)
      = (bigSep Finset.univ fun k : Fin 22 => semVal (kcell c k) 0 : sProp 𝕄) := by
  rw [unscopedSems0_eq, Fin.univ_succ, Finset.cons_eq_insert, bigSep_insert (by simp), bigSep_map]; rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (PM m)) κ (kcell c k)))
          ∗ (bigSep Finset.univ fun k => iprop(atPos ER (kcell c k) 0 ∅ 0 ∗ reached ER (kcell c k) 0)) ∗ toks c) := by
  unfold G
  iintro ⟨Hos, Hus, Hst, Hat, Htok⟩
  ihave Hv := (Entails.of_eq (sems0_eq (F := F) c)) $$ [Hos Hus]
  · isplitl [Hus] <;> iassumption
  imod (show iprop((bigSep Finset.univ fun k : Fin 22 => semVal (kcell c k) 0) ∗ bigSep Finset.univ fun k : Fin 22 => roundState ER (Rd (PM m)) (kcell c k) 0)
      ⊢ (|={Set.univ}=> bigSep Finset.univ fun k => iprop(∃ κ : ℕ, cellInv ER (Rd (PM m)) κ (kcell c k)) : sProp 𝕄) from by
        rw [← bigSep_sep']
        exact (bigSep_mono fun k _ => (Rounds.body_intro ER (Rd (PM m)) (kcell c k)).trans inv_alloc).trans (bigSep_fupd _ _)) $$ [Hv Hst] with Hinv
  · isplitl [Hv] <;> iassumption
  imodintro
  isplitl [Hinv]; · iexact Hinv
  isplitl [Hat]; · iexact Hat
  iexact Htok

/-- Two products over everything exchange. -/
theorem swap_univ {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), bigSep_univ_equiv (Equiv.prodComm B A), bigSep_univ_prod]
  rfl

/-- The tokens dealt to the devices that pay with them. -/
theorem toks_around : (bigSep Finset.univ fun c : Dev nD => (toks c : sProp 𝕄)) ⊢ bigSep Finset.univ fun c : Dev nD => payToks c := by
  unfold toks payToks legTok
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    swap_univ (fun (c : Dev nD) (g : Leg) => (dutyTok ER (kcell c (recvIx g)) 0 false : sProp 𝕄)),
    bigSep_congr (s := Finset.univ) (fun (g : Leg) _ => bigSep_univ_equiv (legEquiv g) (fun c : Dev nD => (dutyTok ER (kcell c (recvIx g)) 0 false : sProp 𝕄))),
    swap_univ (fun (g : Leg) (c : Dev nD) => (dutyTok ER (kcell (legEquiv g c) (recvIx g)) 0 false : sProp 𝕄))]
  iintro ⟨⟨H1, H2⟩, H3, H4⟩
  isplitl [H2]; · iexact H2
  isplitl [H1]; · iexact H1
  isplitl [H3]; · iexact H3
  iapply (Entails.of_eq (show (bigSep Finset.univ fun c : Dev nD => bigSep Finset.univ fun g : Leg => (dutyTok ER (kcell (legEquiv g c) (recvIx g)) 0 false : sProp 𝕄))
    = bigSep Finset.univ fun c : Dev nD => bigSep Finset.univ fun g : Leg => dutyTok ER (kcell (dst g c) (recvIx g)) 0 false from rfl))
  iexact H4

theorem spread {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd (PM m)) κ (kcell c k)))
          ∗ (bigSep Finset.univ fun k => iprop(atPos ER (kcell c k) 0 ∅ 0 ∗ reached ER (kcell c k) 0)) ∗ toks c) : sProp 𝕄)
      ⊢ bigSep Finset.univ (G' m) := by
  rw [bigSep_sep', bigSep_sep', ← bigSep_univ_prod (fun ck : Dev nD × Fin 22 => iprop(∃ κ : ℕ, cellInv ER (Rd (PM m)) κ (kcell ck.1 ck.2))),
    bigSep_congr (s := Finset.univ) (fun (c : Dev nD) _ => bigSep_sep' Finset.univ (fun k : Fin 22 => (atPos ER (kcell c k) 0 ∅ 0 : sProp 𝕄)) (fun k => reached ER (kcell c k) 0)),
    bigSep_sep', ← bigSep_univ_prod (fun ck : Dev nD × Fin 22 => (reached ER (kcell ck.1 ck.2) 0 : sProp 𝕄))]
  iintro ⟨HI, ⟨Hat, #HR⟩, Htok⟩
  ihave HK := (BI.bigSep_exists_pi Finset.univ (fun (ck : Dev nD × Fin 22) (κ : ℕ) => (cellInv ER (Rd (PM m)) κ (kcell ck.1 ck.2) : sProp 𝕄))) $$ HI
  icases HK with ⟨%K, #HI⟩
  ihave Htk := (toks_around (F := F)) $$ Htok
  iapply (spread (R := recs (PM m) K) (Φ := fun c => iprop((bigSep Finset.univ fun k : Fin 22 => atPos ER (kcell c k) 0 ∅ 0) ∗ payToks c))
    fun c _ => by
      unfold G'
      iintro ⟨H1, H2⟩
      isplitl [H1]; · iexists K; iexact H1
      iexact H2)
  isplitr
  · unfold recs; isplitl; · iexact HI
    iexact HR
  · iapply (Entails.of_eq (bigSep_sep' Finset.univ (fun c : Dev nD => bigSep Finset.univ fun k : Fin 22 => (atPos ER (kcell c k) 0 ∅ 0 : sProp 𝕄)) payToks).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

theorem creds_legs (c : Dev nD) : ∀ gs : List Leg, gs.Nodup →
    (Pipeline.launchCred (fun d => owl d gs) c : sProp 𝕄) ⊢ bigSep gs.toFinset fun g : Leg => cred (tallyAt (kcell c (recvIx g)) () (amt g))
  | [], _ => by
    rw [List.toFinset_nil, bigSep_empty]
    exact Entails.of_eq (Pipeline.launchCred_zero c)
  | g :: gs, h => by
    rw [List.toFinset_cons, bigSep_insert (by rw [List.mem_toFinset]; exact (List.nodup_cons.mp h).1)]
    show (Pipeline.launchCred (fun d => owl d gs + tallyAt (kcell (dst g d) (recvIx g)) () (amt g)) c : sProp 𝕄) ⊢ _
    rw [Pipeline.launchCred_add]
    show _ ⊢ iprop(cred (tallyAt (kcell c (recvIx g)) () (amt g)) ∗ bigSep gs.toFinset fun g : Leg => cred (tallyAt (kcell c (recvIx g)) () (amt g)))
    iintro ⟨H1, H2⟩
    isplitl [H2]
    · iapply (Pipeline.launchCred_tallyAt (csem (recvIx g)) (dst g) (org g) (dst_org g) (org_dst g) () (amt g) c); iexact H2
    · iapply (creds_legs c gs (List.nodup_cons.mp h).2); iexact H1

theorem legOrder_all : legOrder.toFinset = Finset.univ := by decide

theorem creds (c : Dev nD) :
    (Pipeline.launchCred O₀ c : sProp 𝕄) ⊢ iprop(cred (tallyAt (barCell c) () 2)
      ∗ (bigSep Finset.univ fun g : Leg => cred (tallyAt (kcell c (recvIx g)) () (amt g)))) := by
  show (Pipeline.launchCred (fun d => (owl d legOrder + tallyAt (barCell (nxt d)) () 1) + tallyAt (barCell (prv d)) () 1) c : sProp 𝕄) ⊢ _
  rw [Pipeline.launchCred_add, Pipeline.launchCred_add, ← legOrder_all]
  iintro ⟨⟨H1, H2⟩, H3⟩
  isplitl [H2 H3]
  · ihave H2 := (Pipeline.launchCred_tallyAt (csem 0) nxt prv nxt_prv prv_nxt () 1 c) $$ H2
    ihave H3 := (Pipeline.launchCred_tallyAt (csem 0) prv nxt prv_nxt nxt_prv () 1 c) $$ H3
    iapply (show iprop(cred (tallyAt (barCell c) () 1) ∗ cred (tallyAt (barCell c) () 1)) ⊢ (cred (tallyAt (barCell c) () 2) : sProp 𝕄) from
      ((cred_add _ _).2).trans (Entails.of_eq (congrArg cred (tallyAt_add _ _ _ _))))
    isplitl [H2] <;> iassumption
  · iapply (creds_legs c legOrder (by decide)); iexact H1

/-! ### The launch's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' payToks
  iintro ⟨-, Hlev, Hcr, -, HG, Hat, Ht1, Ht2, HT⟩
  ihave Hc := (creds (F := F) c) $$ Hcr
  icases Hc with ⟨H1, HN⟩
  imodintro
  isplitl
  · isplitl [HG]; · iexact HG
    isplitl [Hlev]; · iexact Hlev
    isplitl [Ht1]; · iexact Ht1
    isplitl [Ht2]; · iexact Ht2
    isplitl [H1]; · iexact H1
    isplitl [Hat]; · iexact Hat
    isplitl [HT] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, ⟨%f, Hr⟩⟩
  isplitl [Hs]; · iexact Hs
  iexists f; unfold scr; iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ends (PM m) c from rfl, scopedRest0_eq]
  unfold ends
  rw [← sems0_eq]
  iintro ⟨⟨H1, H2⟩, Hr⟩
  isplitl [H1]; · iexact H1
  isplitl [H2]; · iexact H2
  iexists (kvAll (PM m) c); unfold scr; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 80000 in
/-- Every run ends, with every counter at zero and each device's arrays at `finalA`. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument arrays end as they were. -/
theorem final_arg (c : Dev nD) : finalA m ρ c (0 : Fin 6) = m ((c : Thread nD τ).loc main_arg0) ∧ finalA m ρ c (1 : Fin 6) = m ((c : Thread nD τ).loc main_arg1)
    ∧ finalA m ρ c (2 : Fin 6) = m ((c : Thread nD τ).loc main_arg2) ∧ finalA m ρ c (3 : Fin 6) = m ((c : Thread nD τ).loc main_arg3)
    ∧ finalA m ρ c (4 : Fin 6) = m ((c : Thread nD τ).loc main_arg4) :=
  ⟨(dats (F := F) m ρ 0 c).arrAt_in (0 : Fin 6) rfl _, (dats (F := F) m ρ 0 c).arrAt_in (1 : Fin 6) rfl _, (dats (F := F) m ρ 0 c).arrAt_in (2 : Fin 6) rfl _,
    (dats (F := F) m ρ 0 c).arrAt_in (3 : Fin 6) rfl _, (dats (F := F) m ρ 0 c).arrAt_in (4 : Fin 6) rfl _⟩

end Cert.Att

end
-- ==== Proof.Frames.lean ====
/-
The frames: each program runs, leaves its arguments alone, and ends with every counter at zero. With them, where the
kernel's result ends.
-/
module

public import proofs.«01_k».proof.Defs
public import proofs.«01_k».proof.Proof.Launch
public import proofs.«01_k».proof.Proof.Gen.Kernel
public import Idealize.ShloMosaic.Lib.Tactic
public import proofs.«01_k».proof.Proof.Gen.ReferenceIdeal.Run

@[expose] public section

noncomputable section

namespace Cert.Att

open Cert.KernelIdeal Cert.KernelIdeal.Gen
open Idealize.ShloMosaic
open Idealize.ShloMosaic.TcCoe
open Idealize.SL.Sem

variable {F : FTy → Type} [FloatOps F]
variable (m : (ℓ : Loc nD τ sig) → Buf (Elt F) ℓ) (ρ : Dev nD → PrngReg)

theorem hz3 : (fun a : Fin 3 => 0 * (![2, 256, 768] : Fin 3 → Nat) a) = fun _ => 0 := funext fun a => Nat.zero_mul _

theorem final_out (c : Dev nD) : finalA m ρ c (5 : Fin 6) = outAt m c := by
  show (dats m ρ 0 c).arrAt (5 : Fin 6) (t0_0.val + 1) = _
  rw [Pipeline.Dat.arrAt]
  rw [dif_pos t0_0.isLt, if_pos (flush0_5 t0_0)]
  exact Memref.write_access_unit_zero_univ (Elt F) main_v1 hz3 _ _ (outAt m c)

/-- The run, read at the arrays. -/
theorem run_args : θ_run defs (onTc (τ := τ) (main (F := F))) ⟨m, fun _ => 0, ρ⟩ (fun r => (∀ c : Dev nD,
      (r.2.mem ((c.tc : Thread nD τ).loc main_v1) = outAt m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c (5 : Fin 6)).trans (final_out m ρ c), (h.1 c (0 : Fin 6)).trans (final_arg m ρ c).1,
    (h.1 c (1 : Fin 6)).trans (final_arg m ρ c).2.1, (h.1 c (2 : Fin 6)).trans (final_arg m ρ c).2.2.1,
    (h.1 c (3 : Fin 6)).trans (final_arg m ρ c).2.2.2.1, (h.1 c (4 : Fin 6)).trans (final_arg m ρ c).2.2.2.2⟩, h.2⟩) (run_main m ρ)

theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run_args m ρ)

theorem frame_ideal : Cert.quiescent_KernelIdeal := fun m ρ _ => run_frame (F := Ideal) m ρ

/-- The frame as a statement of the text that both programs print. -/
def frameBits : Prop := ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0)

theorem frame_text : frameBits = Cert.quiescent_Kernel (hKernel := Cert.Kernel.Gen.facts) := by sl_kernel_rfl

theorem frame_kernel : Cert.quiescent_Kernel (hKernel := Cert.Kernel.Gen.facts) :=
  Eq.mp frame_text fun m ρ _ => run_frame (F := Bits) m ρ

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Att

end
-- ==== Proof.Softmax.lean ====
/-
Softmax by blocks, over the extended reals: the scores are real numbers, the values that they weigh are any extended
reals. What the blocks gather, divided at the end, is the sum of the values times their weights' shares.
-/
module

public import Idealize.ShloMosaic.PureOps.Ideal.Laws

@[expose] public section

noncomputable section

namespace Cert.Att

open Idealize.ShloMosaic
open scoped BigOperators

/-- An extended real that is a real number. -/
def IsReal (x : EReal) : Prop := ∃ r : ℝ, x = (r : EReal)

theorem IsReal.coe (r : ℝ) : IsReal (r : EReal) := ⟨r, rfl⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.neg {x : EReal} : IsReal x → IsReal (-x) := by
  rintro ⟨a, rfl⟩; exact ⟨-a, (EReal.coe_neg a).symm⟩

theorem IsReal.max {x y : EReal} : IsReal x → IsReal y → IsReal (max x y) := by
  intro hx hy
  rcases max_choice x y with h | h <;> rw [h] <;> assumption

theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self _ _)).add (ih fun i hi => h i (Finset.mem_insert_of_mem hi))

theorem IsReal.of_ne {x : EReal} (h1 : x ≠ ⊤) (h2 : x ≠ ⊥) : IsReal x := ⟨x.toReal, (EReal.coe_toReal h1 h2).symm⟩

/-- The sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor goes into a sum of any extended reals. -/
theorem sum_mul_coe {ι : Type*} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg_of_ne_top (by exact_mod_cast hr) (EReal.coe_ne_top r) _ _

/-- The largest of real numbers, at least one, is a real number. -/
theorem fold_max_real {n : Nat} (f : Fin (n + 1) → EReal) (h : ∀ i, IsReal (f i)) : IsReal (Finset.univ.fold max ⊥ f) := by
  refine IsReal.of_ne ?_ ?_
  · have : Finset.univ.fold max ⊥ f < ⊤ := by
      rw [Finset.fold_max_lt]
      refine ⟨bot_lt_top, fun x _ => ?_⟩
      obtain ⟨r, hr⟩ := h x
      rw [hr]; exact EReal.coe_lt_top r
    exact this.ne
  · have : ⊥ < Finset.univ.fold max ⊥ f := by
      rw [Finset.lt_fold_max]
      refine Or.inr ⟨0, Finset.mem_univ _, ?_⟩
      obtain ⟨r, hr⟩ := h 0
      rw [hr]; exact EReal.bot_lt_coe r
    exact this.ne'

/-- The exponential of a difference of real numbers. -/
theorem exp_sub (a b : ℝ) : Ideal.exp ((a : EReal) - (b : EReal)) = ((Real.exp (a - b) : ℝ) : EReal) := by
  rw [← EReal.coe_sub]; rfl

/-- What has been gathered of the blocks `L`: a real reference point, the sum of the weights and the weighted sum
of the values, both against that point. -/
def Gathered {ι : Type*} {n : Nat} (s : ι → Fin n → ℝ) (v : ι → Fin n → EReal) (L : Finset ι) (m l a : EReal) : Prop :=
  ∃ M : ℝ, m = (M : EReal) ∧ l = ((∑ i ∈ L, ∑ j, Real.exp (s i j - M) : ℝ) : EReal) ∧
    a = ∑ i ∈ L, ∑ j, ((Real.exp (s i j - M) : ℝ) : EReal) * v i j

/-- The first block. -/
theorem gathered_first {ι : Type*} {n : Nat} (s : ι → Fin n → ℝ) (v : ι → Fin n → EReal) (i : ι) {m l a : EReal} (hm : IsReal m)
    (hl : l = ∑ j, Ideal.exp ((s i j : EReal) - m)) (ha : a = ∑ j, Ideal.exp ((s i j : EReal) - m) * v i j) :
    Gathered s v {i} m l a := by
  obtain ⟨M, rfl⟩ := hm
  refine ⟨M, rfl, ?_, ?_⟩
  · rw [Finset.sum_singleton, hl, coe_sum]
    exact Finset.sum_congr rfl fun j _ => exp_sub _ _
  · rw [Finset.sum_singleton, ha]
    exact Finset.sum_congr rfl fun j _ => by rw [exp_sub]

/-- One block more: what was gathered is moved to the new reference point and the block added. -/
theorem gathered_next {ι : Type*} [DecidableEq ι] {n : Nat} (s : ι → Fin n → ℝ) (v : ι → Fin n → EReal) (L : Finset ι) (i : ι)
    (hi : i ∉ L) {m l a m' l' a' : EReal} (g : Gathered s v L m l a) (hm : IsReal m')
    (hl : l' = l * Ideal.exp (m - m') + ∑ j, Ideal.exp ((s i j : EReal) - m'))
    (ha : a' = a * Ideal.exp (m - m') + ∑ j, Ideal.exp ((s i j : EReal) - m') * v i j) :
    Gathered s v (insert i L) m' l' a' := by
  obtain ⟨M, rfl, rfl, rfl⟩ := g
  obtain ⟨M', rfl⟩ := hm
  have hstep : ∀ k j, Real.exp (s k j - M) * Real.exp (M - M') = Real.exp (s k j - M') := fun k j => by
    rw [← Real.exp_add]; congr 1; ring
  refine ⟨M', rfl, ?_, ?_⟩
  · rw [hl, exp_sub, ← EReal.coe_mul, Finset.sum_insert hi, add_comm, EReal.coe_add, Finset.sum_mul]
    refine congrArg₂ (· + ·) ?_ ?_
    · rw [coe_sum]; exact Finset.sum_congr rfl fun j _ => exp_sub _ _
    · congr 1
      exact Finset.sum_congr rfl fun k _ => by
        rw [Finset.sum_mul]; exact Finset.sum_congr rfl fun j _ => hstep k j
  · rw [ha, exp_sub, Finset.sum_insert hi, add_comm, sum_mul_coe _ _ _ (Real.exp_pos _).le]
    refine congrArg₂ (· + ·) ?_ ?_
    · exact Finset.sum_congr rfl fun j _ => by rw [exp_sub]
    · refine Finset.sum_congr rfl fun k _ => ?_
      rw [sum_mul_coe _ _ _ (Real.exp_pos _).le]
      refine Finset.sum_congr rfl fun j _ => ?_
      rw [mul_right_comm, ← EReal.coe_mul, hstep]

/-- Division by a positive real number is multiplication by its inverse. -/
theorem div_coe_pos (x : EReal) (r : ℝ) (hr : 0 < r) : Ideal.div x (r : EReal) = x * ((r⁻¹ : ℝ) : EReal) := by
  have h0 : (r : EReal) ≠ 0 := by exact_mod_cast hr.ne'
  unfold Ideal.div
  rw [if_neg h0, EReal.coe_inv]

/-- All blocks gathered and divided: each value times its weight's share, whatever real reference point the shares are taken at. -/
theorem gathered_div {ι : Type*} [Nonempty ι] [Fintype ι] {n : Nat} (s : ι → Fin (n + 1) → ℝ) (v : ι → Fin (n + 1) → EReal) {m l a : EReal}
    (g : Gathered s v Finset.univ m l a) (z : EReal) (hz : IsReal z) :
    Ideal.div a l = ∑ i, ∑ j, v i j * Ideal.div (Ideal.exp ((s i j : EReal) - z)) (∑ i, ∑ j, Ideal.exp ((s i j : EReal) - z)) := by
  obtain ⟨M, rfl, rfl, rfl⟩ := g
  obtain ⟨Z, rfl⟩ := hz
  have hpos : ∀ R : ℝ, 0 < ∑ i, ∑ j, Real.exp (s i j - R) := fun R =>
    Finset.sum_pos (fun i _ => Finset.sum_pos (fun j _ => Real.exp_pos _) Finset.univ_nonempty) Finset.univ_nonempty
  have hsum : (∑ i, ∑ j, Ideal.exp ((s i j : EReal) - (Z : EReal))) = ((∑ i, ∑ j, Real.exp (s i j - Z) : ℝ) : EReal) := by
    rw [coe_sum]
    refine Finset.sum_congr rfl fun i _ => ?_
    rw [coe_sum]
    exact Finset.sum_congr rfl fun j _ => exp_sub _ _
  have hmove : (∑ i, ∑ j, Real.exp (s i j - Z)) = (∑ i, ∑ j, Real.exp (s i j - M)) * Real.exp (M - Z) := by
    rw [Finset.sum_mul]
    refine Finset.sum_congr rfl fun i _ => ?_
    rw [Finset.sum_mul]
    refine Finset.sum_congr rfl fun j _ => ?_
    rw [← Real.exp_add]; congr 1; ring
  rw [hsum, div_coe_pos _ _ (hpos M), sum_mul_coe _ _ _ (inv_nonneg.mpr (hpos M).le)]
  refine Finset.sum_congr rfl fun i _ => ?_
  rw [sum_mul_coe _ _ _ (inv_nonneg.mpr (hpos M).le)]
  refine Finset.sum_congr rfl fun j _ => ?_
  rw [exp_sub, div_coe_pos _ _ (hpos Z), mul_right_comm, mul_comm _ (v i j), ← EReal.coe_mul, ← EReal.coe_mul]
  congr 2
  rw [hmove, mul_inv]
  have h1 : Real.exp (s i j - Z) = Real.exp (s i j - M) * Real.exp (M - Z) := by rw [← Real.exp_add]; congr 1; ring
  rw [h1]
  have := (Real.exp_pos (M - Z)).ne'
  field_simp

end Cert.Att
-- ==== Proof.RefValue.lean ====
/-
The reference's result, stage by stage, each stage read at an index at the ideal numbers: the projections, the rotary
tables, the rotation, the scores, the exponentials, the shares, the result.
-/
module

public import proofs.«01_k».proof.Proof.Gen.ReferenceIdeal.Run
public import proofs.«01_k».proof.Proof.Softmax
public import Idealize.ShloMosaic.Lib.Pointwise

@[expose] public section

noncomputable section

namespace Cert.Att.Ref

open Cert.ReferenceIdeal Cert.ReferenceIdeal.Gen Idealize.ShloMosaic Idealize.ShloMosaic.TcCoe

/-- A projection of the tokens, its columns cut into heads. -/
def proj (x : FVec Ideal S2x4096x768 .f32) (w : FVec Ideal S768x256 .f32) : FVec Ideal S2x4096x4x64 .f32 :=
  shapeCast S2x4096x4x64 (Host.dotGeneral dot_S2x4096x768_S768x256_S2x4096x256_2_0_01_1_n_n none x w) shapeCasts_S2x4096x256_S2x4096x4x64

/-- The angles: position times inverse frequency. -/
def ang : FVec Ideal S4096x32 .f32 :=
  mulf (broadcastInDim S4096x32 ![0, 1] bcast_S4096x1_S4096x32_0_1 (sitofp .f32 (broadcastInDim S4096x1 ![0] bcast_S4096_S4096x1_0 (iotaInDim S4096 32 0))))
    (broadcastInDim S4096x32 ![0, 1] bcast_S1x32_S4096x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (addi (broadcastInDim S32 ![] bcast_S_S32 (constantI S_ 32 0#32))
              (muli (broadcastInDim S32 ![] bcast_S_S32 (constantI S_ 32 2#32)) (iotaInDim S32 32 0))))
            (broadcastInDim S32 ![] bcast_S_S32 (constant S_ .f32 0x42800000#32)))))))

/-- A table over the angles, each entry twice, spread over batches and heads. -/
def table (t : FVec Ideal S4096x32 .f32) : FVec Ideal S2x4096x4x64 .f32 :=
  broadcastInDim S2x4096x4x64 ![0, 1, 2, 3] bcast_S1x4096x1x64_S2x4096x4x64_0_1_2_3
    (broadcastInDim S1x4096x1x64 ![1, 3] bcast_S4096x64_S1x4096x1x64_1_3
      (shapeCast S4096x64 (broadcastInDim S4096x32x2 ![0, 1] bcast_S4096x32_S4096x32x2_0_1 t) shapeCasts_S4096x32x2_S4096x64))

/-- The pairs' members exchanged, the first with its sign turned. -/
def swap (t : FVec Ideal S2x4096x4x64 .f32) : FVec Ideal S2x4096x4x64 .f32 :=
  shapeCast S2x4096x4x64 (concatenate S2x4096x4x32x2 4
    [⟨S2x4096x4x32x1, broadcastInDim S2x4096x4x32x1 ![0, 1, 2, 3] bcast_S2x4096x4x32_S2x4096x4x32x1_0_1_2_3
        (Host.negf (shapeCast S2x4096x4x32 (extractStridedSlice S2x4096x4x32x1 ![0, 0, 0, 0, 1]
          (shapeCast S2x4096x4x32x2 t shapeCasts_S2x4096x4x64_S2x4096x4x32x2) slices_S2x4096x4x32x2_S2x4096x4x32x1_0_0_0_0_1)
          shapeCasts_S2x4096x4x32x1_S2x4096x4x32))⟩,
     ⟨S2x4096x4x32x1, broadcastInDim S2x4096x4x32x1 ![0, 1, 2, 3] bcast_S2x4096x4x32_S2x4096x4x32x1_0_1_2_3
        (shapeCast S2x4096x4x32 (extractStridedSlice S2x4096x4x32x1 ![0, 0, 0, 0, 0]
          (shapeCast S2x4096x4x32x2 t shapeCasts_S2x4096x4x64_S2x4096x4x32x2) slices_S2x4096x4x32x2_S2x4096x4x32x1_0_0_0_0_0)
          shapeCasts_S2x4096x4x32x1_S2x4096x4x32)⟩]
    concatenates_S2x4096x4x32x1_S2x4096x4x32x1_S2x4096x4x32x2_d4) shapeCasts_S2x4096x4x32x2_S2x4096x4x64

/-- The rotary embedding. -/
def rot (t : FVec Ideal S2x4096x4x64 .f32) : FVec Ideal S2x4096x4x64 .f32 :=
  addf (mulf t (table (Host.cos ang))) (mulf (swap t) (table (Host.sin ang)))

/-- The scores. -/
def scores (q k : FVec Ideal S2x4096x4x64 .f32) : FVec Ideal S2x4x4096x4096 .f32 :=
  mulf (Host.dotGeneral dot_S2x4096x4x64_S2x4096x4x64_S2x4x4096x4096_3_3_1_1_02_02 none q k)
    (broadcastInDim S2x4x4096x4096 ![] bcast_S_S2x4x4096x4096 (constant S_ .f32 0x3E000000#32))

/-- The rows' largest scores. -/
def top (s : FVec Ideal S2x4x4096x4096 .f32) : FVec Ideal S2x4x4096 .f32 :=
  Host.reduce FloatOps.maximumf s (constant S_ .f32 0xFF800000#32) reducesTo_S2x4x4096x4096_S2x4x4096_d3 h_S_

/-- A value for each row, spread along the row. -/
def spread (t : FVec Ideal S2x4x4096 .f32) : FVec Ideal S2x4x4096x4096 .f32 :=
  broadcastInDim S2x4x4096x4096 ![0, 1, 2, 3] bcast_S2x4x4096x1_S2x4x4096x4096_0_1_2_3
    (broadcastInDim S2x4x4096x1 ![0, 1, 2] bcast_S2x4x4096_S2x4x4096x1_0_1_2 t)

/-- The exponentials against the rows' largest scores. -/
def expo (s : FVec Ideal S2x4x4096x4096 .f32) : FVec Ideal S2x4x4096x4096 .f32 := Host.exp (subf s (spread (top s)))

/-- The exponentials' shares in their rows. -/
def share (e : FVec Ideal S2x4x4096x4096 .f32) : FVec Ideal S2x4x4096x4096 .f32 :=
  Host.divf e (spread (Host.reduceAdd e (constant S_ .f32 0x00000000#32) reducesTo_S2x4x4096x4096_S2x4x4096_d3 h_S_))

/-- The values weighed, the heads joined. -/
def ctx (v : FVec Ideal S2x4096x4x64 .f32) (w : FVec Ideal S2x4x4096x4096 .f32) : FVec Ideal S2x4096x256 .f32 :=
  shapeCast S2x4096x256 (transpose S2x4096x4x64 [0, 3, 1, 2]
    (Host.dotGeneral dot_S2x4096x4x64_S2x4x4096x4096_S2x4x64x4096_1_3_3_2_02_01 none v w) transposes_S2x4x64x4096_S2x4096x4x64_0_3_1_2)
    shapeCasts_S2x4096x4x64_S2x4096x256

/-- The result. -/
def result (x : FVec Ideal S2x4096x768 .f32) (wq wk wv : FVec Ideal S768x256 .f32) (wo : FVec Ideal S256x768 .f32) :
    FVec Ideal S2x4096x768 .f32 :=
  Host.dotGeneral dot_S2x4096x256_S256x768_S2x4096x768_2_0_01_1_n_n none
    (ctx (proj x wv) (share (expo (scores (rot (proj x wq)) (rot (proj x wk)))))) wo

/-- The program's result is that one. -/
theorem res_eq (m : (ℓ : Loc nD τ sig) → Buf (Elt Ideal) ℓ) (c : Dev nD) :
    Cert.ReferenceIdeal.Value.res_main_v80 m c =
      result (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := by
  unfold Cert.ReferenceIdeal.Value.res_main_v80
  rfl

/-! ## The stages at an index -/

theorem proj_apply (x : FVec Ideal S2x4096x768 .f32) (w : FVec Ideal S768x256 .f32) (b : Fin 2) (n : Fin 4096) (h : Fin 4) (e : Fin 64) :
    proj x w (ix4 b n h e) = ∑ d : Fin 768, x (ix3 b n d) * w (ix2 d ⟨h.val * 64 + e.val, by omega⟩) := by
  pointwise [proj]

/-- The frequency's base. -/
theorem ofBits_base : Ideal.ofBits .f32 0x461C4000#32 = ((10000 : ℝ) : EReal) := by
  simp [Ideal.ofBits, Ideal.ieee, -EReal.coe_mul]; norm_num

/-- The width of a head. -/
theorem ofBits_width : Ideal.ofBits .f32 0x42800000#32 = ((64 : ℝ) : EReal) := by
  simp [Ideal.ofBits, Ideal.ieee, -EReal.coe_mul]; norm_num

/-- The angle of pair `j` at position `n`. -/
def angle (n j : ℕ) : ℝ := n * (Real.rpow 10000 (2 * j * 64⁻¹))⁻¹

theorem toInt_small (k : ℕ) (h : k < 2 ^ 31) : (BitVec.ofNat 32 k).toInt = k := by
  rw [BitVec.toInt_eq_toNat_of_lt] <;> rw [BitVec.toNat_ofNat] <;> omega

theorem ang_apply (n : Fin 4096) (j : Fin 32) : ang (ix2 n j) = (angle n.val j.val : EReal) := by
  pointwise [ang]
  have h1 : (FloatOps.sitofp (F := Ideal) FTy.f32 (BitVec.ofNat 32 n.val) : Ideal .f32) = ((n.val : ℝ) : EReal) := by
    show (((BitVec.ofNat 32 n.val).toInt : ℝ) : EReal) = _
    rw [toInt_small _ (by omega)]; norm_cast
  have h2 : (FloatOps.sitofp (F := Ideal) FTy.f32 (IntOp.addi (0#32) (IntOp.muli (2#32) (BitVec.ofNat 32 j.val))) : Ideal .f32) = ((2 * j.val : ℝ) : EReal) := by
    have e : IntOp.addi (0#32) (IntOp.muli (2#32) (BitVec.ofNat 32 j.val)) = BitVec.ofNat 32 (2 * j.val) := by
      apply BitVec.eq_of_toNat_eq
      simp [IntOp.addi, IntOp.muli]
    show (((IntOp.addi (0#32) (IntOp.muli (2#32) (BitVec.ofNat 32 j.val))).toInt : ℝ) : EReal) = _
    rw [e, toInt_small _ (by omega)]; norm_cast
  rw [h1, h2, ofBits_base, ofBits_width, div_coe_pos _ _ (by norm_num : (0 : ℝ) < 64), ← EReal.coe_mul]
  have h3 : Ideal.pow ((10000 : ℝ) : EReal) ((2 * (j.val : ℝ) * 64⁻¹ : ℝ) : EReal) = ((Real.rpow 10000 (2 * (j.val : ℝ) * 64⁻¹) : ℝ) : EReal) := rfl
  rw [h3, div_coe_pos 1 (Real.rpow 10000 (2 * (j.val : ℝ) * 64⁻¹)) (Real.rpow_pos_of_pos (by norm_num) _), one_mul, ← EReal.coe_mul]
  rfl

theorem table_apply (t : FVec Ideal S4096x32 .f32) (b : Fin 2) (n : Fin 4096) (h : Fin 4) (e : Fin 64) :
    table t (ix4 b n h e) = t (ix2 n ⟨e.val / 2, by omega⟩) := by
  pointwise [table]

theorem swap_apply (t : FVec Ideal S2x4096x4x64 .f32) (b : Fin 2) (n : Fin 4096) (h : Fin 4) (e : Fin 64) :
    swap t (ix4 b n h e) = if h0 : e.val % 2 = 0 then - t (ix4 b n h ⟨e.val + 1, by omega⟩) else t (ix4 b n h ⟨e.val - 1, by omega⟩) := by
  pointwise [swap]
  by_cases h0 : e.val % 2 = 0
  · rw [dif_pos (by omega), dif_pos h0]
    congr 3
    exact Fin.ext (by show e.val / 2 * 2 + 1 = e.val + 1; omega)
  · rw [dif_neg (by omega), dif_neg h0]
    congr 2
    exact Fin.ext (by show e.val / 2 * 2 = e.val - 1; omega)

theorem scores_apply (q k : FVec Ideal S2x4096x4x64 .f32) (b : Fin 2) (h : Fin 4) (i j : Fin 4096) :
    scores q k (ix4 b h i j) = (∑ e : Fin 64, q (ix4 b i h e) * k (ix4 b j h e)) * Ideal.ofBits .f32 0x3E000000#32 := by
  pointwise [scores]

theorem top_apply (s : FVec Ideal S2x4x4096x4096 .f32) (b : Fin 2) (h : Fin 4) (i : Fin 4096) :
    top s (ix3 b h i) = Finset.univ.fold max (Ideal.ofBits .f32 0xFF800000#32) fun j : Fin 4096 => s (ix4 b h i j) := by
  pointwise [top]

theorem expo_apply (s : FVec Ideal S2x4x4096x4096 .f32) (b : Fin 2) (h : Fin 4) (i j : Fin 4096) :
    expo s (ix4 b h i j) = Ideal.exp (s (ix4 b h i j) - top s (ix3 b h i)) := by
  pointwise [expo, spread]

theorem share_apply (e : FVec Ideal S2x4x4096x4096 .f32) (b : Fin 2) (h : Fin 4) (i j : Fin 4096) :
    share e (ix4 b h i j) = Ideal.div (e (ix4 b h i j)) (∑ k : Fin 4096, e (ix4 b h i k)) := by
  pointwise [share, spread]

theorem ctx_apply (v : FVec Ideal S2x4096x4x64 .f32) (w : FVec Ideal S2x4x4096x4096 .f32) (b : Fin 2) (i : Fin 4096) (c : Fin 256) :
    ctx v w (ix3 b i c) = ∑ j : Fin 4096, v (ix4 b j ⟨c.val / 64, by omega⟩ ⟨c.val % 64, by omega⟩) * w (ix4 b ⟨c.val / 64, by omega⟩ i j) := by
  pointwise [ctx]

theorem result_apply (x : FVec Ideal S2x4096x768 .f32) (wq wk wv : FVec Ideal S768x256 .f32) (wo : FVec Ideal S256x768 .f32)
    (b : Fin 2) (i : Fin 4096) (d : Fin 768) :
    result x wq wk wv wo (ix3 b i d) = ∑ c : Fin 256, ctx (proj x wv) (share (expo (scores (rot (proj x wq)) (rot (proj x wk))))) (ix3 b i c) * wo (ix2 c d) := by
  pointwise [result]

end Cert.Att.Ref
-- ==== Proof.KernelValue.lean ====
/-
The kernel's values read at an index at the ideal numbers: the rotary tables, the rotation, the projections, the scores,
the state of a head and its part of the context.
-/
module

public import proofs.«01_k».proof.Proof.Body
public import proofs.«01_k».proof.Proof.RefValue
public import Idealize.ShloMosaic.Lib.Pointwise

@[expose] public section

noncomputable section

namespace Cert.Att

open Cert.KernelIdeal Cert.KernelIdeal.Gen Idealize.ShloMosaic Idealize.ShloMosaic.TcCoe

theorem ofBits_neg_two : Ideal.ofBits .f32 0xC0000000#32 = ((-2 : ℝ) : EReal) := by
  simp [Ideal.ofBits, Ideal.ieee, -EReal.coe_mul]; norm_num

theorem ofBits_rows : Ideal.ofBits .f32 0x43800000#32 = ((256 : ℝ) : EReal) := by
  simp [Ideal.ofBits, Ideal.ieee, -EReal.coe_mul]; norm_num

theorem ofBits_neg_one : Ideal.ofBits .f32 0xBF800000#32 = -1 := by
  simp [Ideal.ofBits, Ideal.ieee, -EReal.coe_mul]; norm_num

theorem ofBits_bot : Ideal.ofBits .f32 0xFF800000#32 = ⊥ := by
  simp [Ideal.ofBits, Ideal.ieee, -EReal.coe_mul]

theorem ofBits_eighth : Ideal.ofBits .f32 0x3E000000#32 = ((1 / 8 : ℝ) : EReal) := by
  simp [Ideal.ofBits, Ideal.ieee, -EReal.coe_mul]; norm_num

theorem devWord_val : ∀ d : Dev nD, (devWord d).toInt = d.val := by decide

/-- The pair of a column, as the body computes it. -/
abbrev pairWord (c : Fin 256) : BitVec 32 :=
  Scalar.select
    (IntOp.andi
      (IntOp.cmpi CmpIPredicate.ne
        (IntOp.subi
          (BitVec.setWidth 32 (IntOp.cmpi CmpIPredicate.sgt (IntOp.remsi ArithUnit.vector (BitVec.ofNat 32 c.val) 64#32) 0#32))
          (BitVec.setWidth 32 (IntOp.cmpi CmpIPredicate.slt (IntOp.remsi ArithUnit.vector (BitVec.ofNat 32 c.val) 64#32) 0#32)))
        (Scalar.subi (Scalar.extui (Scalar.cmpi CmpIPredicate.sgt 2#32 0#32)) (Scalar.extui (Scalar.cmpi CmpIPredicate.slt 2#32 0#32))))
      (IntOp.cmpi CmpIPredicate.ne
        (IntOp.remsi ArithUnit.vector (IntOp.remsi ArithUnit.vector (BitVec.ofNat 32 c.val) 64#32) 2#32) 0#32))
    (IntOp.subi (IntOp.divsi ArithUnit.vector (IntOp.remsi ArithUnit.vector (BitVec.ofNat 32 c.val) 64#32) 2#32) 1#32)
    (IntOp.divsi ArithUnit.vector (IntOp.remsi ArithUnit.vector (BitVec.ofNat 32 c.val) 64#32) 2#32)

theorem pairWord_val : ∀ c : Fin 256, (pairWord c).toInt = (c.val % 64 / 2 : ℕ) := by decide +kernel

/-- The body's angle is the reference's: the exponential of the logarithm is the power. -/
theorem angle_eq (d : Dev nD) (r c : Fin 256) :
    (FloatOps.sitofp (F := Ideal) FTy.f32 (BitVec.ofNat 32 r.val) + (((devWord d).toInt : ℝ) : EReal) * Ideal.ofBits FTy.f32 1132462080#32) *
        Ideal.exp (FloatOps.sitofp (F := Ideal) FTy.f32 (pairWord c) *
          Ideal.div (Ideal.ofBits FTy.f32 3221225472#32 * Scalar.log (F := Ideal) (φ := .f32) (Ideal.ofBits FTy.f32 1176256512#32)) (Ideal.ofBits FTy.f32 1115684864#32))
      = ((Ref.angle (256 * d.val + r.val) (c.val % 64 / 2) : ℝ) : EReal) := by
  have h1 : (FloatOps.sitofp (F := Ideal) FTy.f32 (BitVec.ofNat 32 r.val) : EReal) = ((r.val : ℝ) : EReal) := by
    show (((BitVec.ofNat 32 r.val).toInt : ℝ) : EReal) = _
    rw [Ref.toInt_small _ (by omega)]; norm_cast
  have h2 : (FloatOps.sitofp (F := Ideal) FTy.f32 (pairWord c) : EReal) = (((c.val % 64 / 2 : ℕ) : ℝ) : EReal) := by
    show (((pairWord c).toInt : ℝ) : EReal) = _
    rw [pairWord_val]; norm_cast
  have h3 : Scalar.log (F := Ideal) (φ := .f32) (Ideal.ofBits FTy.f32 1176256512#32) = ((Real.log 10000 : ℝ) : EReal) := by
    rw [Ref.ofBits_base]
    show Ideal.log ((10000 : ℝ) : EReal) = _
    rw [show Ideal.log ((10000 : ℝ) : EReal) = if (10000 : ℝ) ≤ 0 then ⊥ else ((Real.log 10000 : ℝ) : EReal) from rfl, if_neg (by norm_num)]
  rw [h1, h2, h3, devWord_val, ofBits_neg_two, ofBits_rows, Ref.ofBits_width, ← EReal.coe_mul, ← EReal.coe_mul,
    div_coe_pos _ _ (by norm_num : (0 : ℝ) < 64), ← EReal.coe_mul, ← EReal.coe_mul, ← EReal.coe_add]
  have h4 : ∀ x : ℝ, Ideal.exp (x : EReal) = ((Real.exp x : ℝ) : EReal) := fun _ => rfl
  rw [h4, ← EReal.coe_mul]
  congr 1
  have h5 : Real.rpow 10000 (2 * ((c.val % 64 / 2 : ℕ) : ℝ) * 64⁻¹) = Real.exp (Real.log 10000 * (2 * ((c.val % 64 / 2 : ℕ) : ℝ) * 64⁻¹)) :=
    Real.rpow_def_of_pos (by norm_num) _
  unfold Ref.angle
  rw [h5, ← Real.exp_neg]
  congr 1
  · push_cast; ring
  · congr 1; ring

theorem cosT_apply (d : Dev nD) (r c : Fin 256) :
    cosT (F := Ideal) d (ix2 r c) = ((Real.cos (Ref.angle (256 * d.val + r.val) (c.val % 64 / 2)) : ℝ) : EReal) := by
  pointwise [cosT, k0_pay1, k0_pay2, k0_pay3, k0_pay4, k0_pay5, k0_pay6, k0_pay7]
  exact (congrArg Ideal.cos (angle_eq d r c)).trans rfl

theorem sinT_apply (d : Dev nD) (r c : Fin 256) :
    sinT (F := Ideal) d (ix2 r c) = ((Real.sin (Ref.angle (256 * d.val + r.val) (c.val % 64 / 2)) : ℝ) : EReal) := by
  pointwise [sinT, k0_pay1, k0_pay2, k0_pay3, k0_pay4, k0_pay5, k0_pay6, k0_pay8]
  exact (congrArg Ideal.sin (angle_eq d r c)).trans rfl

theorem even_word : ∀ c : Fin 256, IntOp.cmpi CmpIPredicate.eq (IntOp.remsi ArithUnit.vector (BitVec.ofNat 32 c.val) 2#32) 0#32
    = BitVec.ofBool (decide (c.val % 2 = 0)) := by decide +kernel

theorem below_word (r c : Fin 256) : IntOp.cmpi CmpIPredicate.eq (BitVec.ofNat 32 r.val) (IntOp.addi (BitVec.ofNat 32 c.val) 1#32)
    = BitVec.ofBool (decide (r.val = c.val + 1)) := by
  show BitVec.ofBool (BitVec.ofNat 32 r.val == BitVec.ofNat 32 c.val + 1#32) = _
  congr 1
  rw [Bool.eq_iff_iff, beq_iff_eq, decide_eq_true_iff, ← BitVec.toNat_inj, BitVec.toNat_add, BitVec.toNat_ofNat, BitVec.toNat_ofNat]
  have := r.isLt; have := c.isLt
  simp
  omega

theorem above_word (r c : Fin 256) : IntOp.cmpi CmpIPredicate.eq (BitVec.ofNat 32 r.val) (IntOp.subi (BitVec.ofNat 32 c.val) 1#32)
    = BitVec.ofBool (decide (r.val + 1 = c.val)) := by
  show BitVec.ofBool (BitVec.ofNat 32 r.val == BitVec.ofNat 32 c.val - 1#32) = _
  congr 1
  rw [Bool.eq_iff_iff, beq_iff_eq, decide_eq_true_iff, ← BitVec.toNat_inj, BitVec.toNat_sub, BitVec.toNat_ofNat, BitVec.toNat_ofNat]
  have := r.isLt; have := c.isLt
  simp
  omega

theorem select_pair (p q u : Prop) [Decidable p] [Decidable q] [Decidable u] (A B C : EReal) :
    Scalar.select (IntOp.andi (BitVec.ofBool (decide p)) (BitVec.ofBool (decide q))) A
      (Scalar.select (IntOp.andi (IntOp.xori (BitVec.ofBool (decide p)) 1#1) (BitVec.ofBool (decide u))) B C)
      = if p then (if q then A else C) else (if u then B else C) := by
  by_cases hp : p <;> by_cases hq : q <;> by_cases hu : u <;> simp [hp, hq, hu, IntOp.andi, IntOp.xori, Scalar.select]

theorem rotM_apply (r c : Fin 256) : rotM (F := Ideal) (ix2 r c) =
    if c.val % 2 = 0 then (if r.val = c.val + 1 then -1 else 0) else (if r.val + 1 = c.val then 1 else 0) := by
  pointwise [rotM, k0_pay9]
  rw [even_word, below_word, above_word, ofBits_neg_one]
  exact select_pair _ _ _ _ _ _

theorem proj_apply (x : Vec Ideal S1x256x768 .f32) (w : Vec Ideal S768x256 .f32) (r c : Fin 256) :
    proj x w (ix2 r c) = ∑ d : Fin 768, x (ix3 0 r d) * w (ix2 d c) := by
  pointwise [proj]

theorem rope_apply (d : Dev nD) (a : FVec Ideal S256x256 .f32) (r c : Fin 256) :
    rope d a (ix2 r c) = a (ix2 r c) * cosT d (ix2 r c) + (∑ k : Fin 256, a (ix2 r k) * rotM (ix2 k c)) * sinT d (ix2 r c) := by
  pointwise [rope]

theorem keysV_apply (d : Dev nD) (x : Vec Ideal S1x256x768 .f32) (w : Vec Ideal S768x256 .f32) (r c : Fin 256) :
    keysV d x w (ix2 r c) = rope d (proj x w) (ix2 r c) := by
  pointwise [keysV]

theorem valsV_apply (x : Vec Ideal S1x256x768 .f32) (w : Vec Ideal S768x256 .f32) (r c : Fin 256) :
    valsV x w (ix2 r c) = proj x w (ix2 r c) := by
  pointwise [valsV]

theorem headQ_apply (t : Fin 4) (q : FVec Ideal S256x256 .f32) (r : Fin 256) (e : Fin 64) :
    headQ t q (ix2 r e) = q (ix2 r ⟨64 * t.val + e.val, by omega⟩) := by
  pointwise [headQ]

theorem wide_apply (k : Vec Ideal S1x1x256x64 .bf16) (r : Fin 256) (e : Fin 64) : wide k (ix2 r e) = k (ix4 0 0 r e) := by
  pointwise [wide]

theorem scores_apply (q : FVec Ideal S256x64 .f32) (k : Vec Ideal S1x1x256x64 .bf16) (r c : Fin 256) :
    scores q k (ix2 r c) = (∑ e : Fin 64, q (ix2 r e) * k (ix4 0 0 c e)) * Ideal.ofBits .f32 0x3E000000#32 := by
  pointwise [scores, wide]

theorem rowMax_apply (s : FVec Ideal S256x256 .f32) (r : Fin 256) :
    rowMax s (ix2 r 0) = Finset.univ.fold max (Ideal.ofBits .f32 0xFF800000#32) fun c : Fin 256 => s (ix2 r c) := by
  pointwise [rowMax]

theorem rowSum_apply (s : FVec Ideal S256x256 .f32) (r : Fin 256) : rowSum s (ix2 r 0) = ∑ c : Fin 256, s (ix2 r c) := by
  pointwise [rowSum]

theorem expo_apply (s : FVec Ideal S256x256 .f32) (m : FVec Ideal S256x1 .f32) (r c : Fin 256) :
    expo s m (ix2 r c) = Ideal.exp (s (ix2 r c) - m (ix2 r 0)) := by
  pointwise [expo]

theorem weigh_apply (p : FVec Ideal S256x256 .f32) (v : Vec Ideal S1x1x256x64 .bf16) (r : Fin 256) (e : Fin 64) :
    weigh p v (ix2 r e) = ∑ c : Fin 256, p (ix2 r c) * v (ix4 0 0 c e) := by
  pointwise [weigh, wide]

theorem scale_apply (m m' : FVec Ideal S256x1 .f32) (r : Fin 256) :
    scale m m' (ix2 r 0) = Ideal.exp (m (ix2 r 0) - m' (ix2 r 0)) := by
  pointwise [scale]

theorem next_a_apply (s : St Ideal) (q : FVec Ideal S256x64 .f32) (k v : Vec Ideal S1x1x256x64 .bf16) (r : Fin 256) (e : Fin 64) :
    (next s q k v).a (ix2 r e) = s.a (ix2 r e) * scale s.m (newM s.m q k) (ix2 r 0) + weigh (expo (scores q k) (newM s.m q k)) v (ix2 r e) := by
  pointwise [next]

theorem next_l_apply (s : St Ideal) (q : FVec Ideal S256x64 .f32) (k v : Vec Ideal S1x1x256x64 .bf16) (r : Fin 256) :
    (next s q k v).l (ix2 r 0) = s.l (ix2 r 0) * scale s.m (newM s.m q k) (ix2 r 0) + rowSum (expo (scores q k) (newM s.m q k)) (ix2 r 0) := by
  pointwise [next]

theorem newM_apply (m : FVec Ideal S256x1 .f32) (q : FVec Ideal S256x64 .f32) (k : Vec Ideal S1x1x256x64 .bf16) (r : Fin 256) :
    newM m q k (ix2 r 0) = max (m (ix2 r 0)) (rowMax (scores q k) (ix2 r 0)) := by
  pointwise [newM]

theorem ctxHead_apply (s : St Ideal) (r : Fin 256) (e : Fin 64) :
    ctxHead s (ix2 r e) = Ideal.div (s.a (ix2 r e)) (s.l (ix2 r 0)) := by
  pointwise [ctxHead]

theorem outV_apply (s0 s1 s2 s3 : St Ideal) (w : Vec Ideal S256x768 .f32) (r : Fin 256) (d : Fin 768) :
    outV s0 s1 s2 s3 w (ix2 r d) = ∑ c : Fin 256, ctxHead ((![s0, s1, s2, s3] : Fin 4 → St Ideal) ⟨c.val / 64, by omega⟩) (ix2 r ⟨c.val % 64, by omega⟩) * w (ix2 c d) := by
  pointwise [outV]
  refine Finset.sum_congr rfl fun x _ => congrArg (· * w (ix2 x d)) ?_
  have hx := x.isLt
  by_cases h1 : x.val < 64
  · rw [dif_pos h1]
    have e : (⟨x.val / 64, by omega⟩ : Fin 4) = 0 := Fin.ext (by show x.val / 64 = 0; omega)
    rw [e]; show ctxHead s0 _ = ctxHead s0 _; congr 2; exact Fin.ext (by show x.val = x.val % 64; omega)
  · rw [dif_neg h1]
    by_cases h2 : x.val - 64 < 64
    · rw [dif_pos h2]
      have e : (⟨x.val / 64, by omega⟩ : Fin 4) = 1 := Fin.ext (by show x.val / 64 = 1; omega)
      rw [e]; show ctxHead s1 _ = ctxHead s1 _; congr 2; exact Fin.ext (by show x.val - 64 = x.val % 64; omega)
    · rw [dif_neg h2]
      by_cases h3 : x.val - 64 - 64 < 64
      · rw [dif_pos h3]
        have e : (⟨x.val / 64, by omega⟩ : Fin 4) = 2 := Fin.ext (by show x.val / 64 = 2; omega)
        rw [e]; show ctxHead s2 _ = ctxHead s2 _; congr 2; exact Fin.ext (by show x.val - 64 - 64 = x.val % 64; omega)
      · rw [dif_neg h3]
        have e : (⟨x.val / 64, by omega⟩ : Fin 4) = 3 := Fin.ext (by show x.val / 64 = 3; omega)
        rw [e]; show ctxHead s3 _ = ctxHead s3 _; congr 2; exact Fin.ext (by show x.val - 64 - 64 - 64 = x.val % 64; omega)

/-- The matrix exchanges the members of a pair, the first with its sign turned. -/
theorem sum_rotM (a : Fin 256 → EReal) (c : Fin 256) : (∑ k : Fin 256, a k * rotM (F := Ideal) (ix2 k c)) =
    if h0 : c.val % 2 = 0 then -a ⟨c.val + 1, by omega⟩ else a ⟨c.val - 1, by omega⟩ := by
  by_cases h0 : c.val % 2 = 0
  · rw [dif_pos h0, Finset.sum_eq_single (⟨c.val + 1, by omega⟩ : Fin 256)]
    · rw [rotM_apply, if_pos h0, if_pos rfl, mul_neg, mul_one]
    · intro k _ hk
      rw [rotM_apply, if_pos h0, if_neg (fun h => hk (Fin.ext h)), mul_zero]
    · intro h; exact absurd (Finset.mem_univ _) h
  · rw [dif_neg h0, Finset.sum_eq_single (⟨c.val - 1, by omega⟩ : Fin 256)]
    · rw [rotM_apply, if_neg h0, if_pos (by show c.val - 1 + 1 = c.val; omega), mul_one]
    · intro k _ hk
      rw [rotM_apply, if_neg h0, if_neg (fun h => hk (Fin.ext (by show k.val = c.val - 1; omega))), mul_zero]
    · intro h; exact absurd (Finset.mem_univ _) h

end Cert.Att
-- ==== Proof.Meet.lean ====
/-
Where the kernel and the reference meet: the kernel's projections, rotated queries, keys and values, and its scores, at a
device's row, are the reference's at the row's place in the whole sequence.
-/
module

public import proofs.«01_k».proof.Proof.KernelValue
public import proofs.«01_k».proof.Proof.Launch

@[expose] public section

noncomputable section

namespace Cert.Att

open Cert.KernelIdeal Cert.KernelIdeal.Gen Idealize.ShloMosaic Idealize.ShloMosaic.TcCoe

/-- The place of row `r` of device `d` in the whole sequence. -/
def place (d : Dev nD) (r : Fin 256) : Fin 4096 := ⟨256 * d.val + r.val, by have := d.isLt; have : d.val < 16 := this; omega⟩

theorem host_cos {s : Shape} (a : FVec Ideal s .f32) (i : s.Idx) : Host.cos a i = Ideal.cos (a i) := rfl
theorem host_sin {s : Shape} (a : FVec Ideal s .f32) (i : s.Idx) : Host.sin a i = Ideal.sin (a i) := rfl
theorem cos_coe (a : ℝ) : Ideal.cos (a : EReal) = ((Real.cos a : ℝ) : EReal) := rfl
theorem sin_coe (a : ℝ) : Ideal.sin (a : EReal) = ((Real.sin a : ℝ) : EReal) := rfl

theorem addf_mulf_apply {s : Shape} (t u w v : FVec Ideal s .f32) (i : s.Idx) :
    addf (mulf t u) (mulf w v) i = (t i * u i + w i * v i : EReal) := rfl

theorem rot_stage (t : FVec Ideal Cert.ReferenceIdeal.S2x4096x4x64 .f32) (i : Cert.ReferenceIdeal.S2x4096x4x64.Idx) :
    Ref.rot t i = t i * Ref.table (Host.cos Ref.ang) i + Ref.swap t i * Ref.table (Host.sin Ref.ang) i :=
  addf_mulf_apply t (Ref.table (Host.cos Ref.ang)) (Ref.swap t) (Ref.table (Host.sin Ref.ang)) i

theorem rot_apply (t : FVec Ideal Cert.ReferenceIdeal.S2x4096x4x64 .f32) (b : Fin 2) (n : Fin 4096) (h : Fin 4) (e : Fin 64) :
    Ref.rot t (ix4 b n h e) = t (ix4 b n h e) * ((Real.cos (Ref.angle n.val (e.val / 2)) : ℝ) : EReal)
      + (if h0 : e.val % 2 = 0 then - t (ix4 b n h ⟨e.val + 1, by omega⟩) else t (ix4 b n h ⟨e.val - 1, by omega⟩))
        * ((Real.sin (Ref.angle n.val (e.val / 2)) : ℝ) : EReal) := by
  have hc : Ref.table (Host.cos Ref.ang) (ix4 b n h e) = ((Real.cos (Ref.angle n.val (e.val / 2)) : ℝ) : EReal) := by
    rw [Ref.table_apply]
    rw [host_cos, Ref.ang_apply, cos_coe]
  have hs : Ref.table (Host.sin Ref.ang) (ix4 b n h e) = ((Real.sin (Ref.angle n.val (e.val / 2)) : ℝ) : EReal) := by
    rw [Ref.table_apply]
    rw [host_sin, Ref.ang_apply, sin_coe]
  rw [rot_stage, hc, hs, Ref.swap_apply]

/-- The rotation at a device's row. -/
theorem rope_meet (t : FVec Ideal Cert.ReferenceIdeal.S2x4096x4x64 .f32) (d : Dev nD) (b : Fin 2) (a : FVec Ideal S256x256 .f32) (r : Fin 256)
    (ha : ∀ (h : Fin 4) (e : Fin 64), a (ix2 r ⟨64 * h.val + e.val, by omega⟩) = t (ix4 b (place d r) h e)) (h : Fin 4) (e : Fin 64) :
    rope d a (ix2 r ⟨64 * h.val + e.val, by omega⟩) = Ref.rot t (ix4 b (place d r) h e) := by
  have hm : (64 * h.val + e.val) % 64 / 2 = e.val / 2 := by omega
  rw [rope_apply, cosT_apply, sinT_apply, rot_apply, ha, sum_rotM fun k => a (ix2 r k)]
  dsimp only
  rw [hm]
  refine congrArg (fun u : EReal => t (ix4 b (place d r) h e) * ((Real.cos (Ref.angle (256 * d.val + r.val) (e.val / 2)) : ℝ) : EReal)
    + u * ((Real.sin (Ref.angle (256 * d.val + r.val) (e.val / 2)) : ℝ) : EReal)) ?_
  by_cases h0 : e.val % 2 = 0
  · rw [dif_pos (by omega : (64 * h.val + e.val) % 2 = 0), dif_pos h0, ← ha]
    rfl
  · rw [dif_neg (by omega : ¬ (64 * h.val + e.val) % 2 = 0), dif_neg h0, ← ha]
    congr 2
    exact Fin.ext (by show 64 * h.val + e.val - 1 = 64 * h.val + (e.val - 1); omega)

variable (x : FVec Ideal Cert.ReferenceIdeal.S2x4096x768 .f32)

/-- A projection at a device's row. -/
theorem proj_meet (w : FVec Ideal S768x256 .f32) (d : Dev nD) (b : Fin 2) (xd : Vec Ideal S1x256x768 .f32)
    (hx : ∀ (r : Fin 256) (k : Fin 768), xd (ix3 0 r k) = x (ix3 b (place d r) k)) (r : Fin 256) (h : Fin 4) (e : Fin 64) :
    proj xd w (ix2 r ⟨64 * h.val + e.val, by omega⟩) = Ref.proj x w (ix4 b (place d r) h e) := by
  rw [proj_apply, Ref.proj_apply]
  refine Finset.sum_congr rfl fun k _ => ?_
  rw [hx]
  congr 3
  exact Fin.ext (by show 64 * h.val + e.val = h.val * 64 + e.val; omega)

/-! ## Real scores -/

theorem proj_real (w : FVec Ideal S768x256 .f32) (hx : ∀ i, IsReal (x i)) (hw : ∀ i, IsReal (w i)) (b : Fin 2) (n : Fin 4096) (h : Fin 4)
    (e : Fin 64) : IsReal (Ref.proj x w (ix4 b n h e)) := by
  rw [Ref.proj_apply]
  exact IsReal.sum _ _ fun k _ => (hx _).mul (hw _)

theorem rot_real (t : FVec Ideal Cert.ReferenceIdeal.S2x4096x4x64 .f32) (ht : ∀ b n h e, IsReal (t (ix4 b n h e))) (b : Fin 2) (n : Fin 4096)
    (h : Fin 4) (e : Fin 64) : IsReal (Ref.rot t (ix4 b n h e)) := by
  rw [rot_apply]
  refine ((ht _ _ _ _).mul (IsReal.coe _)).add (IsReal.mul ?_ (IsReal.coe _))
  split
  · exact (ht _ _ _ _).neg
  · exact ht _ _ _ _

theorem scores_real (q k : FVec Ideal Cert.ReferenceIdeal.S2x4096x4x64 .f32) (hq : ∀ b n h e, IsReal (q (ix4 b n h e)))
    (hk : ∀ b n h e, IsReal (k (ix4 b n h e))) (b : Fin 2) (h : Fin 4) (i j : Fin 4096) : IsReal (Ref.scores q k (ix4 b h i j)) := by
  rw [Ref.scores_apply, ofBits_eighth]
  exact (IsReal.sum _ _ fun e _ => (hq _ _ _ _).mul (hk _ _ _ _)).mul (IsReal.coe _)

theorem top_real (s : FVec Ideal Cert.ReferenceIdeal.S2x4x4096x4096 .f32) (b : Fin 2) (h : Fin 4) (i : Fin 4096)
    (hs : ∀ j, IsReal (s (ix4 b h i j))) : IsReal (Ref.top s (ix3 b h i)) := by
  rw [Ref.top_apply, ofBits_bot]
  exact fold_max_real (n := 4095) _ hs

/-! ## The sum over the slots -/

theorem src_bijective : ∀ c : Dev nD, Function.Bijective (src c) := by
  intro c
  have : ∀ c : Dev nD, Function.Injective (src c) := by decide +kernel
  exact Finite.injective_iff_bijective.mp (this c)

/-- A sum over the slots and their rows is the sum over the whole sequence. -/
theorem sum_slots (c : Dev nD) (f : Fin 4096 → EReal) : (∑ k : Fin 16, ∑ j : Fin 256, f (place (src c k) j)) = ∑ n, f n := by
  rw [(src_bijective c).sum_comp fun d => ∑ j : Fin 256, f (place d j), ← Fintype.sum_prod_type']
  refine Fintype.sum_bijective (fun p : Fin 16 × Fin 256 => place p.1 p.2) ?_ _ _ fun _ => rfl
  have h : (fun p : Fin 16 × Fin 256 => place p.1 p.2) = (finProdFinEquiv (m := 16) (n := 256)) :=
    funext fun p => Fin.ext (by show 256 * p.1.val + p.2.val = p.2.val + 256 * p.1.val; omega)
  rw [h]
  exact Equiv.bijective _

end Cert.Att
-- ==== Proof.Equation.lean ====
/-
The kernel's result at a device is the device's block of the reference's: the slots gathered one after the other are the
whole sequence, and their division at the end is the reference's weighing by shares.
-/
module

public import proofs.«01_k».proof.Proof.Meet

@[expose] public section

noncomputable section

namespace Cert.Att

open Cert.KernelIdeal Cert.KernelIdeal.Gen Idealize.ShloMosaic Idealize.ShloMosaic.TcCoe

/-! ## What a slot holds -/

theorem kvEl_congr (P : Parts Ideal) {d d' : Dev nD} {b b' : Fin 2} {i i' : Fin 256} {j j' : Fin 512} (h0 : d = d') (h1 : b = b') (h2 : i = i')
    (h3 : j = j') : kvEl P d b i j = kvEl P d' b' i' j' := by rw [h0, h1, h2, h3]

theorem headAt_apply (P : Parts Ideal) (c : Dev nD) (k : Fin 16) (b : Fin 2) (t : Fin 8) (r : Fin 256) (e : Fin 64) :
    headAt P c k b t (ix4 0 0 r e) = kvEl P (src c k) b r ⟨64 * t.val + e.val, by omega⟩ := by
  unfold headAt
  show kvEl P (src c ((headRect k b t).idx (ix4 0 0 r e) 0)) ((headRect k b t).idx (ix4 0 0 r e) 1) ((headRect k b t).idx (ix4 0 0 r e) 2)
    ((headRect k b t).idx (ix4 0 0 r e) 3) = _
  have e0 : (headRect k b t).idx (ix4 0 0 r e) 0 = k := Fin.ext (by show k.val + 1 * 0 = k.val; omega)
  have e1 : (headRect k b t).idx (ix4 0 0 r e) 1 = b := Fin.ext (by show b.val + 1 * 0 = b.val; omega)
  have e2 : (headRect k b t).idx (ix4 0 0 r e) 2 = r := Fin.ext (by show 0 + 1 * r.val = r.val; omega)
  have e3 : (headRect k b t).idx (ix4 0 0 r e) 3 = (⟨64 * t.val + e.val, by omega⟩ : Fin 512) :=
    Fin.ext (by show 64 * t.val + 1 * e.val = 64 * t.val + e.val; omega)
  exact kvEl_congr P (congrArg (src c) e0) e1 e2 e3

/-! ## One slot -/

theorem upd_none (q : FVec Ideal S256x64 .f32) (k v : Vec Ideal S1x1x256x64 .bf16) : upd none q k v = first q k v := by unfold upd; dsimp only
theorem first_m (q : FVec Ideal S256x64 .f32) (k v : Vec Ideal S1x1x256x64 .bf16) : (first q k v).m = rowMax (scores q k) := by unfold first; dsimp only
theorem first_l (q : FVec Ideal S256x64 .f32) (k v : Vec Ideal S1x1x256x64 .bf16) :
    (first q k v).l = rowSum (expo (scores q k) (rowMax (scores q k))) := by unfold first; dsimp only
theorem first_a (q : FVec Ideal S256x64 .f32) (k v : Vec Ideal S1x1x256x64 .bf16) :
    (first q k v).a = weigh (expo (scores q k) (rowMax (scores q k))) v := by unfold first; dsimp only

section
variable (P : Parts Ideal) (c : Dev nD) (q : Fin 2 → FVec Ideal S256x256 .f32) (b : Fin 2) (t : Fin 4) (r : Fin 256) (e : Fin 64)
variable (s : Fin 16 → Fin 256 → ℝ) (v : Fin 16 → Fin 256 → EReal)

/-- The state of the head has gathered the slots of `L` in row `r` and column `e`. -/
def Good (L : Finset (Fin 16)) (st : St Ideal) : Prop := Gathered s v L (st.m (ix2 r 0)) (st.l (ix2 r 0)) (st.a (ix2 r e))

variable (hs : ∀ k j, scores (headQ t (q b)) (headAt P c k b (kIx t)) (ix2 r j) = (s k j : EReal))
  (hv : ∀ k j, headAt P c k b (vIx t) (ix4 0 0 j e) = v k j)

include hs in
theorem rowMax_real (k : Fin 16) : IsReal (rowMax (scores (headQ t (q b)) (headAt P c k b (kIx t))) (ix2 r 0)) := by
  rw [rowMax_apply, ofBits_bot]
  exact fold_max_real (n := 255) _ fun j => ⟨s k j, hs k j⟩

include hs hv in
theorem good_first (k : Fin 16) (s0 : Fin 2 → Fin 4 → Option (St Ideal)) (h0 : s0 b t = none) : Good r e s v {k} (cons P c k q s0 b t) := by
  unfold cons Good
  rw [h0, upd_none, first_m, first_l, first_a]
  refine gathered_first s v k (rowMax_real P c q b t r s hs k) ?_ ?_
  · rw [rowSum_apply]
    exact Finset.sum_congr rfl fun j _ => by rw [expo_apply, hs]
  · rw [weigh_apply]
    exact Finset.sum_congr rfl fun j _ => by rw [expo_apply, hs, hv]

include hs hv in
theorem good_next (k : Fin 16) (L : Finset (Fin 16)) (hk : k ∉ L) (st : St Ideal) (g : Good r e s v L st)
    (s0 : Fin 2 → Fin 4 → Option (St Ideal)) (h0 : s0 b t = some st) : Good r e s v (insert k L) (cons P c k q s0 b t) := by
  unfold cons Good
  rw [h0]
  refine gathered_next s v L k hk g ?_ ?_ ?_
  · obtain ⟨M, hM, -⟩ := g
    show IsReal (newM st.m _ _ (ix2 r 0))
    rw [newM_apply]
    exact IsReal.max ⟨M, hM⟩ (rowMax_real P c q b t r s hs k)
  · show (next _ _ _ _).l _ = _
    rw [next_l_apply, scale_apply, rowSum_apply]
    refine congrArg₂ (· + ·) rfl ?_
    exact Finset.sum_congr rfl fun j _ => by rw [expo_apply, hs]; rfl
  · show (next _ _ _ _).a _ = _
    rw [next_a_apply, scale_apply, weigh_apply]
    refine congrArg₂ (· + ·) rfl ?_
    exact Finset.sum_congr rfl fun j _ => by rw [expo_apply, hs, hv]; rfl

include hs hv in
theorem good_two (h : ℕ) (L : Finset (Fin 16)) (h1 : Fin.ofNat 16 (h + 1) ∉ L) (h9 : Fin.ofNat 16 (h + 9) ∉ insert (Fin.ofNat 16 (h + 1)) L)
    (st : Fin 2 → Fin 4 → St Ideal) (g : Good r e s v L (st b t)) :
    Good r e s v (insert (Fin.ofNat 16 (h + 9)) (insert (Fin.ofNat 16 (h + 1)) L)) (two P c h q st b t) := by
  unfold two
  exact good_next P c q b t r e s v hs hv _ _ h9 _ (good_next P c q b t r e s v hs hv _ _ h1 _ g _ rfl) _ rfl

/-- The slots gathered after `n` hops. -/
def slots : ℕ → Finset (Fin 16)
  | 0 => {0}
  | n + 1 => insert (Fin.ofNat 16 (n + 9)) (insert (Fin.ofNat 16 (n + 1)) (slots n))

theorem slots_new : ∀ n < 7, Fin.ofNat 16 (n + 1) ∉ slots n ∧ Fin.ofNat 16 (n + 9) ∉ insert (Fin.ofNat 16 (n + 1)) (slots n) := by decide

theorem slots_all : Fin.ofNat 16 8 ∉ slots 7 ∧ insert (Fin.ofNat 16 8) (slots 7) = Finset.univ := by decide

include hs hv in
theorem good_after : ∀ n ≤ 6, Good r e s v (slots n) (after P c q n b t)
  | 0, _ => good_first P c q b t r e s v hs hv 0 _ rfl
  | n + 1, hn => good_two P c q b t r e s v hs hv n _ (slots_new n (by omega)).1 (slots_new n (by omega)).2 _ (good_after n (by omega))

include hs hv in
theorem good_last : Good r e s v Finset.univ (last P c q (after P c q 6) b t) := by
  have h7 : Good r e s v (slots 7) (two P c 6 q (after P c q 6) b t) :=
    good_two P c q b t r e s v hs hv 6 _ (slots_new 6 (by omega)).1 (slots_new 6 (by omega)).2 _
      (good_after P c q b t r e s v hs hv 6 (by omega))
  rw [← slots_all.2]
  unfold last
  exact good_next P c q b t r e s v hs hv _ _ slots_all.1 _ h7 _ rfl
end

/-! ## The context -/

section
variable (P : Parts Ideal) (c : Dev nD) (q : Fin 2 → FVec Ideal S256x256 .f32)
variable (Q K V : FVec Ideal Cert.ReferenceIdeal.S2x4096x4x64 .f32)

/-- A head's part of the kernel's context is the reference's. -/
theorem ctx_meet
    (hQ : ∀ b n h e, IsReal (Q (ix4 b n h e))) (hK : ∀ b n h e, IsReal (K (ix4 b n h e)))
    (hq : ∀ (b : Fin 2) (r : Fin 256) (h : Fin 4) (e : Fin 64), q b (ix2 r ⟨64 * h.val + e.val, by omega⟩) = Q (ix4 b (place c r) h e))
    (hk : ∀ (k : Fin 16) (b : Fin 2) (h : Fin 4) (r : Fin 256) (e : Fin 64), headAt P c k b (kIx h) (ix4 0 0 r e) = K (ix4 b (place (src c k) r) h e))
    (hv : ∀ (k : Fin 16) (b : Fin 2) (h : Fin 4) (r : Fin 256) (e : Fin 64), headAt P c k b (vIx h) (ix4 0 0 r e) = V (ix4 b (place (src c k) r) h e))
    (b : Fin 2) (t : Fin 4) (r : Fin 256) (e : Fin 64) :
    ctxHead (last P c q (after P c q 6) b t) (ix2 r e)
      = ∑ n : Fin 4096, V (ix4 b n t e) * Ref.share (Ref.expo (Ref.scores Q K)) (ix4 b t (place c r) n) := by
  choose S hS using fun n : Fin 4096 => scores_real Q K hQ hK b t (place c r) n
  have hs : ∀ k j, scores (headQ t (q b)) (headAt P c k b (kIx t)) (ix2 r j) = (S (place (src c k) j) : EReal) := fun k j => by
    rw [scores_apply, ← hS, Ref.scores_apply]
    refine congrArg (· * Ideal.ofBits .f32 0x3E000000#32) ?_
    refine Finset.sum_congr rfl fun e _ => ?_
    rw [headQ_apply, hq, hk]
  have g := good_last P c q b t r e (fun k j => S (place (src c k) j)) (fun k j => V (ix4 b (place (src c k) j) t e)) hs (fun k j => hv k b t j e)
  have hz : IsReal (Ref.top (Ref.scores Q K) (ix3 b t (place c r))) := top_real _ _ _ _ fun j => ⟨S j, hS j⟩
  rw [ctxHead_apply, gathered_div (n := 255) _ _ g _ hz,
    sum_slots c fun n => Ideal.exp ((S n : EReal) - Ref.top (Ref.scores Q K) (ix3 b t (place c r))),
    sum_slots c fun n => V (ix4 b n t e) * Ideal.div (Ideal.exp ((S n : EReal) - Ref.top (Ref.scores Q K) (ix3 b t (place c r))))
      (∑ n, Ideal.exp ((S n : EReal) - Ref.top (Ref.scores Q K) (ix3 b t (place c r))))]
  refine Finset.sum_congr rfl fun n _ => ?_
  rw [Ref.share_apply, Ref.expo_apply, hS]
  have hsum : (∑ n', Ideal.exp ((S n' : EReal) - Ref.top (Ref.scores Q K) (ix3 b t (place c r))))
      = ∑ n' : Fin 4096, Ref.expo (Ref.scores Q K) (ix4 b t (place c r) n') :=
    Finset.sum_congr rfl fun n' _ => by rw [Ref.expo_apply, hS]
  rw [hsum]

end

end Cert.Att
-- ==== Proof.Blocks.lean ====
/-
The kernel's result at a device, on arrays that are the device's part of the whole ones, is the device's part of the
reference's result.
-/
module

public import proofs.«01_k».proof.Proof.Equation
public import proofs.«01_k».proof.Proof.Frames

@[expose] public section

noncomputable section

namespace Cert.Att

open Cert.KernelIdeal Cert.KernelIdeal.Gen Idealize.ShloMosaic Idealize.ShloMosaic.TcCoe

/-! ## What the kernel reads -/

theorem hzIn : (fun a : Fin 2 => 0 * (![768, 256] : Fin 2 → Nat) a) = fun _ => 0 := funext fun a => Nat.zero_mul _
theorem hzOut : (fun a : Fin 2 => 0 * (![256, 768] : Fin 2 → Nat) a) = fun _ => 0 := funext fun a => Nat.zero_mul _

section
variable (m : (ℓ : Loc nD τ sig) → Buf (Elt Ideal) ℓ)

theorem xB_eq (c : Dev nD) : xB m c = m ((c : Thread nD τ).loc main_arg0) := Memref.read_access_unit_zero (Elt Ideal) main_arg0 hz3 _ _
theorem wqB_eq (c : Dev nD) : wqB m c = m ((c : Thread nD τ).loc main_arg1) := Memref.read_access_unit_zero (Elt Ideal) main_arg1 hzIn _ _
theorem wkB_eq (c : Dev nD) : wkB m c = m ((c : Thread nD τ).loc main_arg2) := Memref.read_access_unit_zero (Elt Ideal) main_arg2 hzIn _ _
theorem wvB_eq (c : Dev nD) : wvB m c = m ((c : Thread nD τ).loc main_arg3) := Memref.read_access_unit_zero (Elt Ideal) main_arg3 hzIn _ _
theorem woB_eq (c : Dev nD) : woB m c = m ((c : Thread nD τ).loc main_arg4) := Memref.read_access_unit_zero (Elt Ideal) main_arg4 hzOut _ _
end

theorem xOf_apply (f : (cc0_stg0_0 : Ref sig .tc).ty.Contents (Elt Ideal)) (b : Fin 2) (r : Fin 256) (k : Fin 768) :
    xOf f b (ix3 0 r k) = f (ix3 b r k) := by
  unfold xOf
  show f ((batchRect b).idx (ix3 0 r k)) = _
  have e0 : (batchRect b).idx (ix3 0 r k) 0 = b := Fin.ext (by show b.val + 1 * 0 = b.val; omega)
  have e1 : (batchRect b).idx (ix3 0 r k) 1 = r := Fin.ext (by show 0 + 1 * r.val = r.val; omega)
  have e2 : (batchRect b).idx (ix3 0 r k) 2 = k := Fin.ext (by show 0 + 1 * k.val = k.val; omega)
  refine congrArg f (funext fun a => ?_)
  match a with
  | 0 => exact e0
  | 1 => exact e1
  | 2 => exact e2

theorem part_apply (v : FVec Ideal S256x256 .bf16) (i j : Fin 256) :
    shapeCast S1x1x256x256 v shapeCasts_S256x256_S1x1x256x256 (ix4 0 0 i j) = v (ix2 i j) := by
  pointwise

/-! ## The parts that meet -/

section
variable (m : (ℓ : Loc nD τ sig) → Buf (Elt Ideal) ℓ)
variable (x : FVec Ideal Cert.ReferenceIdeal.S2x4096x768 .f32) (wq wk wv : FVec Ideal S768x256 .f32) (wo : FVec Ideal S256x768 .f32)
  (hx : ∀ (d : Dev nD) (b : Fin 2) (r : Fin 256) (k : Fin 768), xB m d (ix3 b r k) = x (ix3 b (place d r) k))
  (hwq : ∀ d, wqB m d = wq) (hwk : ∀ d, wkB m d = wk) (hwv : ∀ d, wvB m d = wv) (hwo : ∀ d, woB m d = wo)

include hx in
theorem part_meet (w : FVec Ideal S768x256 .f32) (d : Dev nD) (b : Fin 2) (r : Fin 256) (h : Fin 4) (e : Fin 64) :
    proj (xOf (xB m d) b) w (ix2 r ⟨64 * h.val + e.val, by omega⟩) = Ref.proj x w (ix4 b (place d r) h e) :=
  proj_meet x w d b _ (fun r k => by rw [xOf_apply, hx]) r h e

include hx hwq in
/-- The rotated queries. -/
theorem query_meet (c : Dev nD) (b : Fin 2) (r : Fin 256) (h : Fin 4) (e : Fin 64) :
    qV c (xB m c) (wqB m c) b (ix2 r ⟨64 * h.val + e.val, by omega⟩) = Ref.rot (Ref.proj x wq) (ix4 b (place c r) h e) := by
  have hb : qV c (xB m c) (wqB m c) b = rope c (proj (xOf (xB m c) b) (wqB m c)) := by
    unfold qV
    match b with
    | 0 => rfl
    | 1 => rfl
  rw [hb, hwq]
  exact rope_meet (Ref.proj x wq) c b _ r (part_meet m x hx wq c b r) h e

theorem PM_key (d : Dev nD) (b : Fin 2) (i j : Fin 256) : PM m d b 0 (ix4 0 0 i j) = keysV d (xOf (xB m d) b) (wkB m d) (ix2 i j) := by
  unfold PM
  rw [if_pos rfl, part_apply]

theorem PM_val (d : Dev nD) (b : Fin 2) (i j : Fin 256) : PM m d b 1 (ix4 0 0 i j) = valsV (xOf (xB m d) b) (wvB m d) (ix2 i j) := by
  unfold PM
  rw [if_neg (by decide), part_apply]

theorem kvEl_part (P : Parts Ideal) (d : Dev nD) (b : Fin 2) (i : Fin 256) (t : Fin 2) (j : Fin 256) :
    kvEl P d b i ⟨256 * t.val + j.val, by omega⟩ = P d b t (ix4 0 0 i j) := by
  have ht : (⟨(256 * t.val + j.val) / 256, by omega⟩ : Fin 2) = t := Fin.ext (by show (256 * t.val + j.val) / 256 = t.val; omega)
  have hj : (⟨(256 * t.val + j.val) % 256, Nat.mod_lt _ (by omega)⟩ : Fin 256) = j :=
    Fin.ext (by show (256 * t.val + j.val) % 256 = j.val; omega)
  show P d b ⟨(256 * t.val + j.val) / 256, _⟩ (ix4 0 0 i ⟨(256 * t.val + j.val) % 256, _⟩) = _
  rw [ht, hj]

include hx hwk in
/-- The keys, where they are read. -/
theorem key_meet (c : Dev nD) (k : Fin 16) (b : Fin 2) (h : Fin 4) (r : Fin 256) (e : Fin 64) :
    headAt (PM m) c k b (kIx h) (ix4 0 0 r e) = Ref.rot (Ref.proj x wk) (ix4 b (place (src c k) r) h e) := by
  have hi : (⟨64 * (kIx h).val + e.val, by omega⟩ : Fin 512) = ⟨256 * (0 : Fin 2).val + (⟨64 * h.val + e.val, by omega⟩ : Fin 256).val, by omega⟩ :=
    Fin.ext (by show 64 * h.val + e.val = 256 * 0 + (64 * h.val + e.val); omega)
  rw [headAt_apply, hi, kvEl_part, PM_key, keysV_apply, hwk]
  exact rope_meet (Ref.proj x wk) (src c k) b _ r (part_meet m x hx wk (src c k) b r) h e

include hx hwv in
/-- The values, where they are read. -/
theorem val_meet (c : Dev nD) (k : Fin 16) (b : Fin 2) (h : Fin 4) (r : Fin 256) (e : Fin 64) :
    headAt (PM m) c k b (vIx h) (ix4 0 0 r e) = Ref.proj x wv (ix4 b (place (src c k) r) h e) := by
  have hi : (⟨64 * (vIx h).val + e.val, by have := (vIx h).isLt; omega⟩ : Fin 512) = ⟨256 * (1 : Fin 2).val + (⟨64 * h.val + e.val, by omega⟩ : Fin 256).val, by show 256 * 1 + (64 * h.val + e.val) < 512; omega⟩ :=
    Fin.ext (by show 64 * (h.val + 4) + e.val = 256 * 1 + (64 * h.val + e.val); omega)
  rw [headAt_apply, hi, kvEl_part, PM_val, valsV_apply, hwv]
  exact part_meet m x hx wv (src c k) b r h e

/-! ## The result -/

theorem four {α : Type} (f : Fin 4 → α) : (![f 0, f 1, f 2, f 3] : Fin 4 → α) = f := funext fun t => by
  match t with
  | 0 => rfl
  | 1 => rfl
  | 2 => rfl
  | 3 => rfl

include hx hwq hwk hwv hwo in
/-- The result at a device, with real inputs to the scores. -/
theorem out_meet (hxr : ∀ i, IsReal (x i)) (hqr : ∀ i, IsReal (wq i)) (hkr : ∀ i, IsReal (wk i)) (c : Dev nD) (b : Fin 2) (r : Fin 256) (d : Fin 768) :
    outAt m c (ix3 b r d) = Ref.result x wq wk wv wo (ix3 b (place c r) d) := by
  have hQ := rot_real (Ref.proj x wq) (proj_real x wq hxr hqr)
  have hK := rot_real (Ref.proj x wk) (proj_real x wk hxr hkr)
  have ho : outAt m c (ix3 b r d) = outV (last (PM m) c (qV c (xB m c) (wqB m c)) (after (PM m) c (qV c (xB m c) (wqB m c)) 6) b 0)
      (last (PM m) c (qV c (xB m c) (wqB m c)) (after (PM m) c (qV c (xB m c) (wqB m c)) 6) b 1)
      (last (PM m) c (qV c (xB m c) (wqB m c)) (after (PM m) c (qV c (xB m c) (wqB m c)) 6) b 2)
      (last (PM m) c (qV c (xB m c) (wqB m c)) (after (PM m) c (qV c (xB m c) (wqB m c)) 6) b 3) (woB m c) (ix2 r d) := by
    unfold outAt resV outF
    rfl
  refine ho.trans ((outV_apply _ _ _ _ (woB m c) r d).trans (Eq.trans ?_ (Ref.result_apply x wq wk wv wo b (place c r) d).symm))
  rw [four (last (PM m) c (qV c (xB m c) (wqB m c)) (after (PM m) c (qV c (xB m c) (wqB m c)) 6) b), hwo]
  refine Finset.sum_congr rfl fun j _ => congrArg (· * wo (ix2 j d)) ?_
  rw [Ref.ctx_apply]
  exact ctx_meet (PM m) c (qV c (xB m c) (wqB m c)) _ _ _ hQ hK (query_meet m x wq hx hwq c) (key_meet m x wk hx hwk c) (val_meet m x wv hx hwv c) b _ r _
end

end Cert.Att

end
-- ==== Proof.Algebraic.lean ====
/-
The algebraic claim: what the precondition says, and the two runs side by side.
-/
module

public import proofs.«01_k».proof.Defs
public import proofs.«01_k».proof.Proof.Blocks

@[expose] public section

noncomputable section

namespace Cert.Att

open Cert.KernelIdeal Cert.KernelIdeal.Gen Idealize.ShloMosaic Idealize.ShloMosaic.TcCoe Idealize.SL.Sem

/-! ## The precondition -/

theorem facts_kernel : Cert.Pre_finite_scores_KernelIdeal.Facts := ⟨by decide, by decide⟩
theorem facts_reference : Cert.Pre_finite_scores_ReferenceIdeal.Facts := ⟨by decide, by decide⟩

theorem ofBits_top : Ideal.ofBits .f32 0x7F800000#32 = ⊤ := by
  simp [Ideal.ofBits, Ideal.ieee, -EReal.coe_mul]

/-- An extended real whose absolute value is below the top is a real number. -/
theorem real_of_abs {x : EReal} (h : max x (-x) < ⊤) : IsReal x := by
  refine IsReal.of_ne (ne_of_lt (lt_of_le_of_lt (le_max_left _ _) h)) fun hb => ?_
  rw [hb] at h
  exact absurd h (by simp)

theorem real_of_check {s : Shape} (x : FVec Ideal s .f32) (top : FVec Ideal s .f32) (ht : ∀ i, top i = (⊤ : EReal))
    (h : cmpf .olt (Host.absf x) top = fun _ => 1#1) (i : s.Idx) : IsReal (x i) := by
  have h1 : BitVec.ofBool (decide (max (x i) (- x i) < top i)) = 1#1 := congrFun h i
  rw [ht] at h1
  refine real_of_abs ?_
  by_contra hc
  rw [decide_eq_false hc] at h1
  exact absurd h1 (by decide)

theorem spread_top {s : Shape} (hb : (⟨0, ![]⟩ : Shape).BroadcastsInDim s (![] : Fin 0 → Fin s.rank)) (i : s.Idx) :
    broadcastInDim s ![] hb (constant (F := Ideal) ⟨0, ![]⟩ .f32 0x7F800000#32) i = (⊤ : EReal) := ofBits_top

section
variable (m : (ℓ : Loc nD τ sig) → Buf (Elt Ideal) ℓ)

theorem real_inputs (hp : Cert.Pre_KernelIdeal_finite_scores_KernelIdeal (hPre_finite_scores_KernelIdeal := facts_kernel) m) (c : Dev nD) :
    (∀ i, IsReal ((m ((c.tc : Thread nD τ).loc main_arg0) : FVec Ideal S2x256x768 .f32) i))
    ∧ (∀ i, IsReal ((m ((c.tc : Thread nD τ).loc main_arg1) : FVec Ideal S768x256 .f32) i))
    ∧ (∀ i, IsReal ((m ((c.tc : Thread nD τ).loc main_arg2) : FVec Ideal S768x256 .f32) i)) :=
  ⟨real_of_check _ _ (spread_top _) (hp c).1, real_of_check _ _ (spread_top _) (hp c).2.1, real_of_check _ _ (spread_top _) (hp c).2.2⟩
end

/-! ## A device's part of an array -/

theorem block_place (v : FVec Ideal Cert.ReferenceIdeal.S2x4096x768 .f32) (c : Dev nD) (b : Fin 2) (r : Fin 256) (k : Fin 768) :
    Layout.block ⟨3, ![2, 256, 768]⟩ ⟨3, ![2, 4096, 768]⟩ 1 16 c v (by decide) (ix3 b r k) = v (ix3 b (place c r) k) := by
  rw [Layout.block_apply]
  refine congrArg v (funext fun a => ?_)
  match a with
  | 0 => exact Fin.ext rfl
  | 1 => exact Fin.ext (by show c.val * 256 + r.val = 256 * c.val + r.val; omega)
  | 2 => exact Fin.ext rfl

theorem ix3_self (i : S2x256x768.Idx) : (ix3 (i 0) (i 1) (i 2) : S2x256x768.Idx) = i := funext fun a => by
  match a with
  | 0 => rfl
  | 1 => rfl
  | 2 => rfl

/-- Every entry of the whole array is an entry of some device's part. -/
theorem real_whole (v : FVec Ideal Cert.ReferenceIdeal.S2x4096x768 .f32)
    (h : ∀ (c : Dev nD) (b : Fin 2) (r : Fin 256) (k : Fin 768), IsReal (v (ix3 b (place c r) k))) (i : Cert.ReferenceIdeal.S2x4096x768.Idx) :
    IsReal (v i) := by
  have hlt : (i 1).val < 4096 := (i 1).isLt
  have hi : i = ix3 (i 0) (place ⟨(i 1).val / 256, by show (i 1).val / 256 < 16; omega⟩ ⟨(i 1).val % 256, by omega⟩) (i 2) := funext fun a => by
    match a with
    | 0 => rfl
    | 1 => exact Fin.ext (by show (i 1).val = 256 * ((i 1).val / 256) + (i 1).val % 256; omega)
    | 2 => rfl
  rw [hi]
  exact h _ _ _ _

/-! ## The two runs -/

theorem algebraic : Cert.algebraic_KernelIdeal_ReferenceIdeal_pre_finite_scores_KernelIdeal
    (hPre_finite_scores_KernelIdeal := facts_kernel) := by
  intro m g m' g' hp hm
  refine ⟨Cert.ReferenceIdeal.Value.res_main_v80 (F := Ideal) m' 0, ?_, ?_⟩
  · refine (θ_run defs _ _).mono (fun r h c => ⟨(h.1 c).1.trans ?_, (h.1 c).2⟩) (run_args (F := Ideal) m g)
    rw [Ref.res_eq]
    have hx : ∀ (d : Dev nD) (b : Fin 2) (r : Fin 256) (k : Fin 768), xB m d (ix3 b r k)
        = (m' (((0 : Dev Cert.ReferenceIdeal.nD).tc : Thread Cert.ReferenceIdeal.nD Cert.ReferenceIdeal.τ).loc Cert.ReferenceIdeal.main_arg0) : FVec Ideal Cert.ReferenceIdeal.S2x4096x768 .f32) (ix3 b (place d r) k) := fun d b r k =>
      (congrFun ((xB_eq m d).trans (hm d).1) (ix3 b r k)).trans (block_place _ d b r k)
    have hxr := real_whole (m' (((0 : Dev Cert.ReferenceIdeal.nD).tc : Thread Cert.ReferenceIdeal.nD Cert.ReferenceIdeal.τ).loc Cert.ReferenceIdeal.main_arg0)) fun d b r k =>
      (congrArg IsReal ((congrFun (xB_eq m d) (ix3 b r k)).symm.trans (hx d b r k))).mp ((real_inputs m hp d).1 (ix3 b r k))
    have hqr := (real_inputs m hp 0).2.1
    have hkr := (real_inputs m hp 0).2.2
    rw [(hm 0).2.1] at hqr
    rw [(hm 0).2.2.1] at hkr
    funext i
    rw [← ix3_self i]
    refine (out_meet m _ _ _ _ _ hx (fun d => (wqB_eq m d).trans (hm d).2.1) (fun d => (wkB_eq m d).trans (hm d).2.2.1)
      (fun d => (wvB_eq m d).trans (hm d).2.2.2.1) (fun d => (woB_eq m d).trans (hm d).2.2.2.2) hxr hqr hkr c (i 0) (i 1) (i 2)).trans ?_
    exact (block_place _ c (i 0) (i 1) (i 2)).symm
  · exact (θ_run Cert.ReferenceIdeal.defs _ _).mono (fun r h => h 0) (Cert.ReferenceIdeal.Value.run (F := Ideal) m' g')

end Cert.Att

end
-- ==== Proof.lean ====
/-
The certificate's claims, put together.
-/
module

public import proofs.«01_k».proof.Defs
public import proofs.«01_k».proof.Proof.Frames
public import proofs.«01_k».proof.Proof.Algebraic
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Att.facts_kernel, Cert.Att.facts_reference,
    Cert.Att.frame_kernel, Cert.Att.frame_ideal, fun m ρ _ => Cert.Att.frame_ideal m ρ trivial,
    Cert.Att.frame_reference, fun m ρ _ => Cert.Att.frame_reference m ρ trivial, trivial, Cert.Att.algebraic⟩

end Cert.Proof

end
